-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_post [hPre_finite_post : Cert.Pre_finite_post.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_post.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_post [hPre_finite_post : Cert.Pre_finite_post.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_post.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_pre [hPre_finite_pre : Cert.Pre_finite_pre.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_pre.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1)) (m ((c.tc : Thread Cert.Kernel23Ideal.nD Cert.Kernel23Ideal.τ).loc Cert.Kernel23Ideal.main_arg2)) (m ((c.tc : Thread Cert.Kernel23Ideal.nD Cert.Kernel23Ideal.τ).loc Cert.Kernel23Ideal.main_arg3))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_pre [hPre_finite_pre : Cert.Pre_finite_pre.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_pre.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1)) (m ((c.tc : Thread Cert.Reference23Ideal.nD Cert.Reference23Ideal.τ).loc Cert.Reference23Ideal.main_arg2)) (m ((c.tc : Thread Cert.Reference23Ideal.nD Cert.Reference23Ideal.τ).loc Cert.Reference23Ideal.main_arg3))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite_gate [hPre_finite_gate : Cert.Pre_finite_gate.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite_gate.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite_gate [hPre_finite_gate : Cert.Pre_finite_gate.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite_gate.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Kernel22Ideal_pre_finite_post [hKernel22Ideal : Cert.Kernel22Ideal.Facts] [hPre_finite_post : Cert.Pre_finite_post.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_post m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Reference22Ideal_pre_finite_post [hReference22Ideal : Cert.Reference22Ideal.Facts] [hPre_finite_post : Cert.Pre_finite_post.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_post m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Kernel23Ideal_pre_finite_pre [hKernel23Ideal : Cert.Kernel23Ideal.Facts] [hPre_finite_pre : Cert.Pre_finite_pre.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_pre m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Reference23Ideal_pre_finite_pre [hReference23Ideal : Cert.Reference23Ideal.Facts] [hPre_finite_pre : Cert.Pre_finite_pre.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_pre m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Kernel30Ideal_pre_finite_gate [hKernel30Ideal : Cert.Kernel30Ideal.Facts] [hPre_finite_gate : Cert.Pre_finite_gate.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite_gate m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Reference30Ideal_pre_finite_gate [hReference30Ideal : Cert.Reference30Ideal.Facts] [hPre_finite_gate : Cert.Pre_finite_gate.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite_gate m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v90_0)) (v1 : (c : Dev Cert.KernelIdeal.nD) → Buf (Elt Ideal) ((c.tc : Thread Cert.KernelIdeal.nD Cert.KernelIdeal.τ).loc Cert.KernelIdeal.main_v90_1)) (v2 : (c : Dev Cert.KernelIdeal.nD) → Buf (Elt Ideal) ((c.tc : Thread Cert.KernelIdeal.nD Cert.KernelIdeal.τ).loc Cert.KernelIdeal.main_v90_2)) (v3 : (c : Dev Cert.KernelIdeal.nD) → Buf (Elt Ideal) ((c.tc : Thread Cert.KernelIdeal.nD Cert.KernelIdeal.τ).loc Cert.KernelIdeal.main_v90_3)) (v4 : (c : Dev Cert.KernelIdeal.nD) → Buf (Elt Ideal) ((c.tc : Thread Cert.KernelIdeal.nD Cert.KernelIdeal.τ).loc Cert.KernelIdeal.main_v90_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90_0) = v0 c
          ∧ r.2.mem ((c.tc : Thread Cert.KernelIdeal.nD Cert.KernelIdeal.τ).loc Cert.KernelIdeal.main_v90_1) = v1 c
          ∧ r.2.mem ((c.tc : Thread Cert.KernelIdeal.nD Cert.KernelIdeal.τ).loc Cert.KernelIdeal.main_v90_2) = v2 c
          ∧ r.2.mem ((c.tc : Thread Cert.KernelIdeal.nD Cert.KernelIdeal.τ).loc Cert.KernelIdeal.main_v90_3) = v3 c
          ∧ r.2.mem ((c.tc : Thread Cert.KernelIdeal.nD Cert.KernelIdeal.τ).loc Cert.KernelIdeal.main_v90_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v9) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel22_Kernel22Ideal : Prop :=
  True

def algebraic_Kernel22Ideal_Reference22Ideal_pre_finite_post [hKernel22Ideal : Cert.Kernel22Ideal.Facts] [hReference22Ideal : Cert.Reference22Ideal.Facts] [hPre_finite_post : Cert.Pre_finite_post.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_post m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v17) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal_pre_finite_pre [hKernel23Ideal : Cert.Kernel23Ideal.Facts] [hReference23Ideal : Cert.Reference23Ideal.Facts] [hPre_finite_pre : Cert.Pre_finite_pre.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_pre m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v17) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v27) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v31) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v12) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v4) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal_pre_finite_gate [hKernel30Ideal : Cert.Kernel30Ideal.Facts] [hReference30Ideal : Cert.Reference30Ideal.Facts] [hPre_finite_gate : Cert.Pre_finite_gate.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite_gate m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v31) = v0 c
          ∧ r.2.mem ((c.tc : Thread Cert.Reference30Ideal.nD Cert.Reference30Ideal.τ).loc Cert.Reference30Ideal.main_v34) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite_post : Cert.Pre_finite_post.Facts) (hPre_finite_pre : Cert.Pre_finite_pre.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel22 (hKernel22 := hKernel22)
    ∧ quiescent_Kernel22Ideal (hKernel22Ideal := hKernel22Ideal)
    ∧ quiescent_Kernel22Ideal_pre_finite_post (hKernel22Ideal := hKernel22Ideal) (hPre_finite_post := hPre_finite_post)
    ∧ quiescent_Reference22Ideal (hReference22Ideal := hReference22Ideal)
    ∧ quiescent_Reference22Ideal_pre_finite_post (hReference22Ideal := hReference22Ideal) (hPre_finite_post := hPre_finite_post)
    ∧ quiescent_Kernel23 (hKernel23 := hKernel23)
    ∧ quiescent_Kernel23Ideal (hKernel23Ideal := hKernel23Ideal)
    ∧ quiescent_Kernel23Ideal_pre_finite_pre (hKernel23Ideal := hKernel23Ideal) (hPre_finite_pre := hPre_finite_pre)
    ∧ quiescent_Reference23Ideal (hReference23Ideal := hReference23Ideal)
    ∧ quiescent_Reference23Ideal_pre_finite_pre (hReference23Ideal := hReference23Ideal) (hPre_finite_pre := hPre_finite_pre)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite_gate (hKernel30Ideal := hKernel30Ideal) (hPre_finite_gate := hPre_finite_gate)
    ∧ quiescent_Reference30Ideal (hReference30Ideal := hReference30Ideal)
    ∧ quiescent_Reference30Ideal_pre_finite_gate (hReference30Ideal := hReference30Ideal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel22_Kernel22Ideal
    ∧ algebraic_Kernel22Ideal_Reference22Ideal_pre_finite_post (hKernel22Ideal := hKernel22Ideal) (hReference22Ideal := hReference22Ideal) (hPre_finite_post := hPre_finite_post)
    ∧ preserves_Kernel23_Kernel23Ideal
    ∧ algebraic_Kernel23Ideal_Reference23Ideal_pre_finite_pre (hKernel23Ideal := hKernel23Ideal) (hReference23Ideal := hReference23Ideal) (hPre_finite_pre := hPre_finite_pre)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite_gate (hKernel30Ideal := hKernel30Ideal) (hReference30Ideal := hReference30Ideal) (hPre_finite_gate := hPre_finite_gate)
-- ==== Pre_finite.lean ====
abbrev S4096x6144 : Shape := ⟨2, ![4096, 6144]⟩
abbrev S8x4096 : Shape := ⟨2, ![8, 4096]⟩
abbrev S4096x512 : Shape := ⟨2, ![4096, 512]⟩
abbrev S4096x1536 : Shape := ⟨2, ![4096, 1536]⟩
abbrev S_ : Shape := ⟨0, ![]⟩

class Facts : Prop where
  slices_S4096x6144_S4096x1536_0_3072 : S4096x6144.Slices ![0, 3072] S4096x1536
  bitsLt_bf16_f32 : FTy.bits .bf16 < FTy.bits .f32
  bcast_S_S4096x1536 : S_.BroadcastsInDim S4096x1536 (![] : Fin 0 → Fin S4096x1536.rank)
  reducesTo_S4096x1536_S_d0_1 : S4096x1536.ReducesTo [0, 1] S_
  h_S_ : 0 < S_.numel
  bcast_S_S8x4096 : S_.BroadcastsInDim S8x4096 (![] : Fin 0 → Fin S8x4096.rank)
  reducesTo_S8x4096_S_d0_1 : S8x4096.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4096x6144 .bf16) (main_arg1 : FVec F S8x4096 .f32) (main_arg2 : FVec F S4096x512 .bf16) : IVec S_ 1 :=
  let main_v0 : FVec F S4096x1536 .bf16 := (extractStridedSlice S4096x1536 ![0, 3072] · slices_S4096x6144_S4096x1536_0_3072) main_arg0
  let main_v1 : FVec F S4096x1536 .f32 := (extf .f32 · bitsLt_bf16_f32) main_v0
  let main_v2 : FVec F S4096x1536 .f32 := Host.absf main_v1
  let main_cst : FVec F S_ .f32 := constant S_ .f32 0x7F800000#32
  let main_v3 : FVec F S4096x1536 .f32 := broadcastInDim S4096x1536 ![] bcast_S_S4096x1536 main_cst
  let main_v4 : IVec S4096x1536 1 := cmpf .olt main_v2 main_v3
  let main_c : IVec S_ 1 := constantI S_ 1 1#1
  let main_v5 : IVec S_ 1 := (fun x v => Host.reduce IntOp.andi x v reducesTo_S4096x1536_S_d0_1 h_S_) main_v4 main_c
  let main_v6 : FVec F S8x4096 .f32 := Host.absf main_arg1
  let main_cst_0 : FVec F S_ .f32 := constant S_ .f32 0x7F800000#32
  let main_v7 : FVec F S8x4096 .f32 := broadcastInDim S8x4096 ![] bcast_S_S8x4096 main_cst_0
  let main_v8 : IVec S8x4096 1 := cmpf .olt main_v6 main_v7
  let main_c_1 : IVec S_ 1 := constantI S_ 1 1#1
  let main_v9 : IVec S_ 1 := (fun x v => Host.reduce IntOp.andi x v reducesTo_S8x4096_S_d0_1 h_S_) main_v8 main_c_1
  let main_v10 : IVec S_ 1 := andi main_v5 main_v9
  let main_v11 : FVec F S4096x512 .f32 := (extf .f32 · bitsLt_bf16_f32) main_arg2
  let main_v12 : FVec F S4096x512 .f32 := Host.absf main_v11
  let main_cst_2 : FVec F S_ .f32 := constant S_ .f32 0x7F800000#32
  let main_v13 : FVec F S4096x512 .f32 := broadcastInDim S4096x512 ![] bcast_S_S4096x512 main_cst_2
  let main_v14 : IVec S4096x512 1 := cmpf .olt main_v12 main_v13
  let main_c_3 : IVec S_ 1 := constantI S_ 1 1#1
  let main_v15 : IVec S_ 1 := (fun x v => Host.reduce IntOp.andi x v reducesTo_S4096x512_S_d0_1 h_S_) main_v14 main_c_3
  let main_v16 : IVec S_ 1 := andi main_v10 main_v15
  main_v16
-- ==== Pre_finite_gate.lean ====
abbrev S16x4096 : Shape := ⟨2, ![16, 4096]⟩
abbrev S16x1 : Shape := ⟨2, ![16, 1]⟩
abbrev S4x8x4096 : Shape := ⟨3, ![4, 8, 4096]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S16x1 : S_.BroadcastsInDim S16x1 (![] : Fin 0 → Fin S16x1.rank)
  reducesTo_S16x1_S_d0_1 : S16x1.ReducesTo [0, 1] S_
  bcast_S_S4x8x4096 : S_.BroadcastsInDim S4x8x4096 (![] : Fin 0 → Fin S4x8x4096.rank)
  reducesTo_S4x8x4096_S_d0_1_2 : S4x8x4096.ReducesTo [0, 1, 2] S_

variable [Facts]

def fn_part1 {F : FTy → Type} [FloatOps F] (main_v13 : IVec S_ 1) (main_v16 : IVec S4x8x4096 1) : IVec S_ 1 :=
  let main_c_5 : IVec S_ 1 := constantI S_ 1 1#1
  let main_v17 : IVec S_ 1 := (fun x v => Host.reduce IntOp.andi x v reducesTo_S4x8x4096_S_d0_1_2 h_S_) main_v16 main_c_5
  let main_v18 : IVec S_ 1 := andi main_v13 main_v17
  main_v18

def fn {F : FTy → Type} [FloatOps F] (main_arg0 : FVec F S16x4096 .f32) (main_arg1 : FVec F S16x1 .f32) (main_arg2 : FVec F S4x8x4096 .f32) (main_arg3 : FVec F S4x8x4096 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S16x1 .f32 := Host.absf main_arg1
  let main_cst_0 : FVec F S_ .f32 := constant S_ .f32 0x7F800000#32
  let main_v5 : FVec F S16x1 .f32 := broadcastInDim S16x1 ![] bcast_S_S16x1 main_cst_0
  let main_v6 : IVec S16x1 1 := cmpf .olt main_v4 main_v5
  let main_c_1 : IVec S_ 1 := constantI S_ 1 1#1
  let main_v7 : IVec S_ 1 := (fun x v => Host.reduce IntOp.andi x v reducesTo_S16x1_S_d0_1 h_S_) main_v6 main_c_1
  let main_v8 : IVec S_ 1 := andi main_v3 main_v7
  let main_v9 : FVec F S4x8x4096 .f32 := Host.absf main_arg2
  let main_cst_2 : FVec F S_ .f32 := constant S_ .f32 0x7F800000#32
  let main_v10 : FVec F S4x8x4096 .f32 := broadcastInDim S4x8x4096 ![] bcast_S_S4x8x4096 main_cst_2
  let main_v11 : IVec S4x8x4096 1 := cmpf .olt main_v9 main_v10
  let main_c_3 : IVec S_ 1 := constantI S_ 1 1#1
  let main_v12 : IVec S_ 1 := (fun x v => Host.reduce IntOp.andi x v reducesTo_S4x8x4096_S_d0_1_2 h_S_) main_v11 main_c_3
  let main_v13 : IVec S_ 1 := andi main_v8 main_v12
  let main_v14 : FVec F S4x8x4096 .f32 := Host.absf main_arg3
  let main_cst_4 : FVec F S_ .f32 := constant S_ .f32 0x7F800000#32
  let main_v15 : FVec F S4x8x4096 .f32 := broadcastInDim S4x8x4096 ![] bcast_S_S4x8x4096 main_cst_4
  let main_v16 : IVec S4x8x4096 1 := cmpf .olt main_v14 main_v15
  fn_part1 (F := F) main_v13 main_v16
-- ==== Pre_finite_post.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1x1024 .f32) (main_arg2 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_pre.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1x1024 .f32) (main_arg2 : FVec F S4096x1024 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Kernel.lean ====
abbrev S4096x6144 : Shape := ⟨2, ![4096, 6144]⟩
abbrev S8x4096 : Shape := ⟨2, ![8, 4096]⟩
abbrev S4096x512 : Shape := ⟨2, ![4096, 512]⟩
abbrev S36 : Shape := ⟨1, ![36]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x1 : Shape := ⟨3, ![8, 4096, 1]⟩
abbrev S8x1x4096 : Shape := ⟨3, ![8, 1, 4096]⟩
abbrev S8x64x4096 : Shape := ⟨3, ![8, 64, 4096]⟩
abbrev S4096x8 : Shape := ⟨2, ![4096, 8]⟩
abbrev S4096x8x1 : Shape := ⟨3, ![4096, 8, 1]⟩
abbrev S1x8x4096 : Shape := ⟨3, ![1, 8, 4096]⟩
abbrev S3x8x4096 : Shape := ⟨3, ![3, 8, 4096]⟩
abbrev S3x4x2x4096 : Shape := ⟨4, ![3, 4, 2, 4096]⟩
abbrev S4x4096x2x3 : Shape := ⟨4, ![4, 4096, 2, 3]⟩
abbrev S4x4096x6 : Shape := ⟨3, ![4, 4096, 6]⟩
abbrev S4x4096x128 : Shape := ⟨3, ![4, 4096, 128]⟩
abbrev S4x8x4096 : Shape := ⟨3, ![4, 8, 4096]⟩
abbrev S512x128 : Shape := ⟨2, ![512, 128]⟩
abbrev S1 : Shape := ⟨1, ![1]⟩
abbrev S1x512x128 : Shape := ⟨3, ![1, 512, 128]⟩
abbrev S4096x128 : Shape := ⟨2, ![4096, 128]⟩
abbrev S1x8x512 : Shape := ⟨3, ![1, 8, 512]⟩
abbrev S2x512x1 : Shape := ⟨3, ![2, 512, 1]⟩
abbrev S1x128 : Shape := ⟨2, ![1, 128]⟩
abbrev S512x256 : Shape := ⟨2, ![512, 256]⟩
abbrev S128x512 : Shape := ⟨2, ![128, 512]⟩
abbrev S512x512 : Shape := ⟨2, ![512, 512]⟩
abbrev S1x512 : Shape := ⟨2, ![1, 512]⟩
abbrev S64x512 : Shape := ⟨2, ![64, 512]⟩
abbrev S512 : Shape := ⟨1, ![512]⟩
abbrev S1x512x1 : Shape := ⟨3, ![1, 512, 1]⟩
abbrev S512x1 : Shape := ⟨2, ![512, 1]⟩
abbrev S8x512 : Shape := ⟨2, ![8, 512]⟩

abbrev nBuf : Space → Nat
  | .hbm => 115
  | .vmem => 27
  | .smem => 2
  | _ => 0

abbrev bufTy : (tb : Table) → Fin (tcTables nBuf tb) → BufTy
  | .hbm, ⟨0, _⟩ => ⟨S4096x6144, .bf16⟩
  | .hbm, ⟨1, _⟩ => ⟨S8x4096, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .f32⟩
  | .hbm, ⟨7, _⟩ => ⟨S4096x8x64, .f32⟩
  | .hbm, ⟨8, _⟩ => ⟨S4096x512, .f32⟩
  | .hbm, ⟨9, _⟩ => ⟨S4096x8x64, .f32⟩
  | .hbm, ⟨10, _⟩ => ⟨S4096x512, .f32⟩
  | .hbm, ⟨11, _⟩ => ⟨S4096x8x64, .f32⟩
  | .hbm, ⟨12, _⟩ => ⟨S8x4096x4096, .f32⟩
  | .hbm, ⟨13, _⟩ => ⟨S_, .f32⟩
  | .hbm, ⟨14, _⟩ => ⟨S8x4096x4096, .f32⟩
  | .hbm, ⟨15, _⟩ => ⟨S8x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S1x4096x4096, .i1⟩
  | .hbm, ⟨24, _⟩ => ⟨S8x4096x1, .f32⟩
  | .hbm, ⟨25, _⟩ => ⟨S8x1x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S_, .f32⟩
  | .hbm, ⟨32, _⟩ => ⟨S8x4096x4096, .i1⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096x1, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x4096, .f32⟩
  | .hbm, ⟨48, _⟩ => ⟨S8x4096x4096, .f32⟩
  | .hbm, ⟨49, _⟩ => ⟨S8x64x4096, .f32⟩
  | .hbm, ⟨50, _⟩ => ⟨S4096x8x64, .f32⟩
  | .hbm, ⟨51, _⟩ => ⟨S4096x512, .f32⟩
  | .hbm, ⟨52, _⟩ => ⟨S8x4096x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S4096, .i32⟩
  | .hbm, ⟨57, _⟩ => ⟨S4096x1, .i32⟩
  | .hbm, ⟨58, _⟩ => ⟨S4096, .i32⟩
  | .hbm, ⟨59, _⟩ => ⟨S1x4096, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S1x4096x4096, .i1⟩
  | .hbm, ⟨64, _⟩ => ⟨S8x4096x1, .f32⟩
  | .hbm, ⟨65, _⟩ => ⟨S8x1x4096, .f32⟩
  | .hbm, ⟨66, _⟩ => ⟨S8x4096x4096, .f32⟩
  | .hbm, ⟨67, _⟩ => ⟨S8x4096x4096, .f32⟩
  | .hbm, ⟨68, _⟩ => ⟨S8x4096x4096, .f32⟩
  | .hbm, ⟨69, _⟩ => ⟨S8x4096x4096, .f32⟩
  | .hbm, ⟨70, _⟩ => ⟨S_, .f32⟩
  | .hbm, ⟨71, _⟩ => ⟨S_, .f32⟩
  | .hbm, ⟨72, _⟩ => ⟨S8x4096x4096, .i1⟩
  | .hbm, ⟨73, _⟩ => ⟨S8x4096x4096, .f32⟩
  | .hbm, ⟨74, _⟩ => ⟨S8x4096x4096, .f32⟩
  | .hbm, ⟨75, _⟩ => ⟨S_, .f32⟩
  | .hbm, ⟨76, _⟩ => ⟨S8x4096, .f32⟩
  | .hbm, ⟨77, _⟩ => ⟨S8x4096x1, .f32⟩
  | .hbm, ⟨78, _⟩ => ⟨S8x4096x4096, .f32⟩
  | .hbm, ⟨79, _⟩ => ⟨S8x4096x4096, .f32⟩
  | .hbm, ⟨80, _⟩ => ⟨S8x4096x4096, .f32⟩
  | .hbm, ⟨81, _⟩ => ⟨S_, .f32⟩
  | .hbm, ⟨82, _⟩ => ⟨S8x4096, .f32⟩
  | .hbm, ⟨83, _⟩ => ⟨S8x4096, .f32⟩
  | .hbm, ⟨84, _⟩ => ⟨S8x4096, .f32⟩
  | .hbm, ⟨85, _⟩ => ⟨S8x4096, .f32⟩
  | .hbm, ⟨86, _⟩ => ⟨S4096x8, .f32⟩
  | .hbm, ⟨87, _⟩ => ⟨S4096x8x1, .f32⟩
  | .hbm, ⟨88, _⟩ => ⟨S4096x8x64, .f32⟩
  | .hbm, ⟨89, _⟩ => ⟨S4096x512, .f32⟩
  | .hbm, ⟨90, _⟩ => ⟨S8x4096, .f32⟩
  | .hbm, ⟨91, _⟩ => ⟨S8x4096, .bf16⟩
  | .hbm, ⟨92, _⟩ => ⟨S8x4096, .f32⟩
  | .hbm, ⟨93, _⟩ => ⟨S8x4096, .f32⟩
  | .hbm, ⟨94, _⟩ => ⟨S8x4096, .bf16⟩
  | .hbm, ⟨95, _⟩ => ⟨S8x4096, .f32⟩
  | .hbm, ⟨96, _⟩ => ⟨S8x4096, .f32⟩
  | .hbm, ⟨97, _⟩ => ⟨S8x4096, .bf16⟩
  | .hbm, ⟨98, _⟩ => ⟨S1x8x4096, .bf16⟩
  | .hbm, ⟨99, _⟩ => ⟨S1x8x4096, .bf16⟩
  | .hbm, ⟨100, _⟩ => ⟨S1x8x4096, .bf16⟩
  | .hbm, ⟨101, _⟩ => ⟨S3x8x4096, .bf16⟩
  | .hbm, ⟨102, _⟩ => ⟨S3x8x4096, .f32⟩
  | .hbm, ⟨103, _⟩ => ⟨S3x4x2x4096, .f32⟩
  | .hbm, ⟨104, _⟩ => ⟨S4x4096x2x3, .f32⟩
  | .hbm, ⟨105, _⟩ => ⟨S4x4096x6, .f32⟩
  | .hbm, ⟨106, _⟩ => ⟨S_, .i32⟩
  | .hbm, ⟨107, _⟩ => ⟨S_, .f32⟩
  | .hbm, ⟨108, _⟩ => ⟨S4x4096x128, .f32⟩
  | .hbm, ⟨109, _⟩ => ⟨S4x4096x128, .bf16⟩
  | .hbm, ⟨110, _⟩ => ⟨S4096x512, .f32⟩
  | .hbm, ⟨111, _⟩ => ⟨S4096x512, .bf16⟩
  | .hbm, ⟨112, _⟩ => ⟨S4096x512, .bf16⟩
  | .hbm, ⟨113, _⟩ => ⟨S4x8x4096, .f32⟩
  | .hbm, ⟨114, _⟩ => ⟨S4x8x4096, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .bf16⟩
  | .local _ .vmem, ⟨13, _⟩ => ⟨S512x128, .bf16⟩
  | .local _ .vmem, ⟨14, _⟩ => ⟨S4096x128, .f32⟩
  | .local _ .vmem, ⟨15, _⟩ => ⟨S4096x128, .f32⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x8x512, .f32⟩
  | .local _ .vmem, ⟨21, _⟩ => ⟨S1x8x512, .f32⟩
  | .local _ .vmem, ⟨22, _⟩ => ⟨S1x8x512, .f32⟩
  | .local _ .vmem, ⟨23, _⟩ => ⟨S1x8x512, .f32⟩
  | .local _ .vmem, ⟨24, _⟩ => ⟨S512x128, .f32⟩
  | .local _ .vmem, ⟨25, _⟩ => ⟨S512x128, .f32⟩
  | .local _ .vmem, ⟨26, _⟩ => ⟨S2x512x1, .f32⟩
  | .local _ .smem, ⟨0, _⟩ => ⟨S36, .i32⟩
  | .local _ .smem, ⟨1, _⟩ => ⟨S36, .i32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_c_9 : Ref sig .tc := ⟨.hbm, 106, rfl⟩
abbrev main_call2_v0 : Ref sig .tc := ⟨.hbm, 107, rfl⟩
abbrev main_v88 : Ref sig .tc := ⟨.hbm, 108, rfl⟩
abbrev main_v89 : Ref sig .tc := ⟨.hbm, 109, rfl⟩
abbrev main_v90_0 : Ref sig .tc := ⟨.hbm, 110, rfl⟩
abbrev main_v90_1 : Ref sig .tc := ⟨.hbm, 111, rfl⟩
abbrev main_v90_2 : Ref sig .tc := ⟨.hbm, 112, rfl⟩
abbrev main_v90_3 : Ref sig .tc := ⟨.hbm, 113, rfl⟩
abbrev main_v90_4 : Ref sig .tc := ⟨.hbm, 114, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v3 : BitVec 32) : BitVec 32 :=
  let c512_i32 : BitVec 32 := 512#32
  let v165 : BitVec 32 := Scalar.muli v3 c512_i32
  v165
def k0_cond3 (v1 : BitVec 32) (v3 : BitVec 32) : BitVec 1 :=
  let v18 : BitVec 1 := Scalar.cmpi .sgt v3 v1
  let v19 : BitVec 32 := Scalar.extui v18
  let c0_i32_4 : BitVec 32 := 0#32
  let v20 : BitVec 1 := Scalar.cmpi .ne v19 c0_i32_4
  v20

def k0_off2 (v3 : BitVec 32) : Fin 2 → Nat :=
  let c512_i32 : BitVec 32 := 512#32
  let v165 : BitVec 32 := Scalar.muli v3 c512_i32
  let v166 : BitVec 32 := v165
  let v167 : Index := Scalar.indexCast v166
  let c0_75 : Index := 0#32
  ![v167.toNat, 0]
def k0_mult2 (v3 : BitVec 32) : BitVec 32 :=
  let c512_i32 : BitVec 32 := 512#32
  let v175 : BitVec 32 := Scalar.muli v3 c512_i32
  v175
def k0_cond4 (v1 : BitVec 32) (v3 : BitVec 32) : BitVec 1 :=
  let v21 : BitVec 1 := Scalar.cmpi .eq v3 v1
  let v22 : BitVec 32 := Scalar.extui v21
  let c0_i32_5 : BitVec 32 := 0#32
  let v23 : BitVec 1 := Scalar.cmpi .ne v22 c0_i32_5
  v23

def k0_off3 (v3 : BitVec 32) : Fin 2 → Nat :=
  let c512_i32 : BitVec 32 := 512#32
  let v175 : BitVec 32 := Scalar.muli v3 c512_i32
  let v176 : BitVec 32 := v175
  let v177 : Index := Scalar.indexCast v176
  let c0_77 : Index := 0#32
  ![v177.toNat, 0]

def k0_chk1 (v1 : BitVec 32) (v3 : BitVec 32) : Prop :=
  (∀ (k0_h3 : k0_cond3 v1 v3 = 1#1), 512 ∣ (k0_mult1 v3).toNat) ∧
  (∀ (k0_h3 : k0_cond3 v1 v3 = 1#1), ∀ a, (k0_off2 v3) a + S512x128.size a ≤ S4096x128.size a) ∧
  (∀ (k0_h4 : k0_cond4 v1 v3 = 1#1), 512 ∣ (k0_mult2 v3).toNat) ∧
  (∀ (k0_h4 : k0_cond4 v1 v3 = 1#1), ∀ a, (k0_off3 v3) a + S512x128.size a ≤ S4096x128.size a)
theorem k0_mult1_dvd : ∀ (v1 : BitVec 32) (v3 : BitVec 32) (k0_hw1 : k0_chk1 v1 v3), ∀ (k0_h3 : k0_cond3 v1 v3 = 1#1), 512 ∣ (k0_mult1 v3).toNat := fun v1 v3 k0_hw1 k0_h3 => k0_hw1.1 k0_h3
theorem k0_off2_inb : ∀ (v1 : BitVec 32) (v3 : BitVec 32) (k0_hw1 : k0_chk1 v1 v3), ∀ (k0_h3 : k0_cond3 v1 v3 = 1#1), ∀ a, (k0_off2 v3) a + S512x128.size a ≤ S4096x128.size a := fun v1 v3 k0_hw1 k0_h3 => k0_hw1.2.1 k0_h3
theorem k0_mult2_dvd : ∀ (v1 : BitVec 32) (v3 : BitVec 32) (k0_hw1 : k0_chk1 v1 v3), ∀ (k0_h4 : k0_cond4 v1 v3 = 1#1), 512 ∣ (k0_mult2 v3).toNat := fun v1 v3 k0_hw1 k0_h4 => k0_hw1.2.2.1 k0_h4
theorem k0_off3_inb : ∀ (v1 : BitVec 32) (v3 : BitVec 32) (k0_hw1 : k0_chk1 v1 v3), ∀ (k0_h4 : k0_cond4 v1 v3 = 1#1), ∀ a, (k0_off3 v3) a + S512x128.size a ≤ S4096x128.size a := fun v1 v3 k0_hw1 k0_h4 => k0_hw1.2.2.2 k0_h4

def k0_cond1 (v1 : BitVec 32) (v3 : BitVec 32) : BitVec 1 :=
  let c0_i32 : BitVec 32 := 0#32
  let v10 : BitVec 1 := Scalar.cmpi .eq v1 c0_i32
  let c0_i32_1 : BitVec 32 := 0#32
  let v11 : BitVec 1 := Scalar.cmpi .eq v3 c0_i32_1
  let v12 : BitVec 1 := Scalar.andi v10 v11
  let v13 : BitVec 32 := Scalar.extui v12
  let c0_i32_2 : BitVec 32 := 0#32
  let v14 : BitVec 1 := Scalar.cmpi .ne v13 c0_i32_2
  v14

def k0_cond5 (v3 : BitVec 32) : BitVec 1 :=
  let c7_i32 : BitVec 32 := 7#32
  let v24 : BitVec 1 := Scalar.cmpi .eq v3 c7_i32
  let v25 : BitVec 32 := Scalar.extui v24
  let c0_i32_6 : BitVec 32 := 0#32
  let v26 : BitVec 1 := Scalar.cmpi .ne v25 c0_i32_6
  v26

def cc0_transform_0 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c24_i32 : BitVec 32 := 24#32
  let v2 : BitVec 32 := Scalar.addi c24_i32 arg0
  let c0_i32 : BitVec 32 := 0#32
  ![v1.toNat, v2.toNat]

def cc0_transform_1 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c28_i32 : BitVec 32 := 28#32
  let v2 : BitVec 32 := Scalar.addi c28_i32 arg0
  let c0_i32 : BitVec 32 := 0#32
  ![v1.toNat, v2.toNat]

def cc0_transform_2 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c32_i32 : BitVec 32 := 32#32
  let v2 : BitVec 32 := Scalar.addi c32_i32 arg0
  let c0_i32 : BitVec 32 := 0#32
  ![v1.toNat, v2.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_5 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_9 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_10 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_11 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4096x6144 : Shape := ⟨2, ![4096, 6144]⟩
abbrev S8x4096 : Shape := ⟨2, ![8, 4096]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S8x4096x1 : Shape := ⟨3, ![8, 4096, 1]⟩
abbrev S8x1x4096 : Shape := ⟨3, ![8, 1, 4096]⟩
abbrev S8x64x4096 : Shape := ⟨3, ![8, 64, 4096]⟩
abbrev S8x4096x64 : Shape := ⟨3, ![8, 4096, 64]⟩
abbrev S4x2x1x4096 : Shape := ⟨4, ![4, 2, 1, 4096]⟩
abbrev S4x2x8x4096 : Shape := ⟨4, ![4, 2, 8, 4096]⟩
abbrev S4x1x8x4096 : Shape := ⟨4, ![4, 1, 8, 4096]⟩
abbrev S4x8x4096 : Shape := ⟨3, ![4, 8, 4096]⟩

abbrev nBuf : Space → Nat
  | .hbm => 130
  | .vmem => 0
  | .smem => 0
  | _ => 0

abbrev hbmTy0_0 (i : Nat) : BufTy := match i % 128 with
  | 0 => ⟨S4096x6144, .bf16⟩
  | 1 => ⟨S8x4096, .f32⟩
  | 2 => ⟨S4096x512, .bf16⟩
  | 3 => ⟨S4096x512, .bf16⟩
  | 4 => ⟨S4096x512, .bf16⟩
  | 5 => ⟨S4096x512, .bf16⟩
  | 6 => ⟨S4096x512, .f32⟩
  | 7 => ⟨S4096x8x64, .f32⟩
  | 8 => ⟨S4096x512, .f32⟩
  | 9 => ⟨S4096x8x64, .f32⟩
  | 10 => ⟨S4096x512, .f32⟩
  | 11 => ⟨S4096x8x64, .f32⟩
  | 12 => ⟨S8x4096x4096, .f32⟩
  | 13 => ⟨S_, .f32⟩
  | 14 => ⟨S8x4096x4096, .f32⟩
  | 15 => ⟨S8x4096x4096, .f32⟩
  | 16 => ⟨S4096, .i32⟩
  | 17 => ⟨S4096x1, .i32⟩
  | 18 => ⟨S4096, .i32⟩
  | 19 => ⟨S1x4096, .i32⟩
  | 20 => ⟨S4096x4096, .i32⟩
  | 21 => ⟨S4096x4096, .i32⟩
  | 22 => ⟨S4096x4096, .i1⟩
  | 23 => ⟨S1x4096x4096, .i1⟩
  | 24 => ⟨S8x4096x1, .f32⟩
  | 25 => ⟨S8x1x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096x4096, .f32⟩
  | 37 => ⟨S_, .f32⟩
  | 38 => ⟨S8x4096, .f32⟩
  | 39 => ⟨S8x4096x1, .f32⟩
  | 40 => ⟨S8x4096x4096, .f32⟩
  | 41 => ⟨S8x4096x4096, .i1⟩
  | 42 => ⟨S8x4096x4096, .f32⟩
  | 43 => ⟨S_, .f32⟩
  | 44 => ⟨S8x4096, .f32⟩
  | 45 => ⟨S_, .f32⟩
  | 46 => ⟨S8x4096, .f32⟩
  | 47 => ⟨S8x4096, .f32⟩
  | 48 => ⟨S_, .f32⟩
  | 49 => ⟨S8x4096, .f32⟩
  | 50 => ⟨S8x4096, .i1⟩
  | 51 => ⟨S_, .f32⟩
  | 52 => ⟨S8x4096, .f32⟩
  | 53 => ⟨S8x4096, .i1⟩
  | 54 => ⟨S_, .f32⟩
  | 55 => ⟨S8x4096, .f32⟩
  | 56 => ⟨S_, .f32⟩
  | 57 => ⟨S8x4096, .f32⟩
  | 58 => ⟨S_, .f32⟩
  | 59 => ⟨S8x4096, .f32⟩
  | 60 => ⟨S8x4096, .f32⟩
  | 61 => ⟨S8x4096, .f32⟩
  | 62 => ⟨S8x4096x1, .f32⟩
  | 63 => ⟨S8x4096x4096, .f32⟩
  | 64 => ⟨S8x4096x4096, .f32⟩
  | 65 => ⟨S8x4096x4096, .f32⟩
  | 66 => ⟨S_, .f32⟩
  | 67 => ⟨S8x4096, .f32⟩
  | 68 => ⟨S8x4096x1, .f32⟩
  | 69 => ⟨S8x4096x4096, .f32⟩
  | 70 => ⟨S8x4096x4096, .f32⟩
  | 71 => ⟨S8x4096x1, .f32⟩
  | 72 => ⟨S_, .f32⟩
  | 73 => ⟨S8x4096x1, .f32⟩
  | 74 => ⟨S8x4096x1, .f32⟩
  | 75 => ⟨S8x64x4096, .f32⟩
  | 76 => ⟨S4096x8x64, .f32⟩
  | 77 => ⟨S4096x512, .f32⟩
  | 78 => ⟨S4096x8x64, .f32⟩
  | 79 => ⟨S8x64x4096, .f32⟩
  | 80 => ⟨S8x4096x4096, .f32⟩
  | 81 => ⟨S8x64x4096, .f32⟩
  | 82 => ⟨S4096x8x64, .f32⟩
  | 83 => ⟨S8x4096x4096, .f32⟩
  | 84 => ⟨S8x4096x4096, .f32⟩
  | 85 => ⟨S8x4096x4096, .f32⟩
  | 86 => ⟨S_, .f32⟩
  | 87 => ⟨S8x4096, .f32⟩
  | 88 => ⟨S8x4096x1, .f32⟩
  | 89 => ⟨S8x4096x1, .f32⟩
  | 90 => ⟨S8x4096x4096, .f32⟩
  | 91 => ⟨S8x4096x4096, .f32⟩
  | 92 => ⟨S_, .f32⟩
  | 93 => ⟨S8x4096, .f32⟩
  | 94 => ⟨S8x4096x4096, .f32⟩
  | 95 => ⟨S8x4096x4096, .f32⟩
  | 96 => ⟨S8x4096x4096, .f32⟩
  | 97 => ⟨S_, .f32⟩
  | 98 => ⟨S8x4096x4096, .f32⟩
  | 99 => ⟨S8x4096x4096, .f32⟩
  | 100 => ⟨S_, .f32⟩
  | 101 => ⟨S8x4096, .f32⟩
  | 102 => ⟨S8x4096x1, .f32⟩
  | 103 => ⟨S8x4096x4096, .f32⟩
  | 104 => ⟨S_, .f32⟩
  | 105 => ⟨S8x4096, .f32⟩
  | 106 => ⟨S8x1x4096, .f32⟩
  | 107 => ⟨S_, .f32⟩
  | 108 => ⟨S8x4096, .f32⟩
  | 109 => ⟨S_, .f32⟩
  | 110 => ⟨S8x4096, .f32⟩
  | 111 => ⟨S8x4096, .f32⟩
  | 112 => ⟨S_, .f32⟩
  | 113 => ⟨S8x4096x4096, .f32⟩
  | 114 => ⟨S8x4096x4096, .f32⟩
  | 115 => ⟨S8x4096x64, .f32⟩
  | 116 => ⟨S4096x8x64, .f32⟩
  | 117 => ⟨S8x4096x64, .f32⟩
  | 118 => ⟨S4096x8x64, .f32⟩
  | 119 => ⟨S4x2x1x4096, .f32⟩
  | 120 => ⟨S4x2x8x4096, .f32⟩
  | 121 => ⟨S4096x512, .f32⟩
  | 122 => ⟨S4096x512, .f32⟩
  | 123 => ⟨S4096x512, .bf16⟩
  | 124 => ⟨S4096x512, .f32⟩
  | 125 => ⟨S4096x512, .bf16⟩
  | 126 => ⟨S4x1x8x4096, .f32⟩
  | 127 => ⟨S4x8x4096, .f32⟩
  | _ => ⟨S4096x6144, .bf16⟩

abbrev hbmTy0_1 (i : Nat) : BufTy := match i % 128 with
  | 0 => ⟨S4x1x8x4096, .f32⟩
  | 1 => ⟨S4x8x4096, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]
-- ==== Kernel2.lean ====
abbrev S4096x1024 : Shape := ⟨2, ![4096, 1024]⟩
abbrev S1024x6144 : Shape := ⟨2, ![1024, 6144]⟩
abbrev S4096x6144 : Shape := ⟨2, ![4096, 6144]⟩
abbrev S512x6144 : Shape := ⟨2, ![512, 6144]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .hbm, ⟨3, _⟩ => ⟨S4096x1024, .f32⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .hbm, ⟨3, _⟩ => ⟨S4096x1024, .f32⟩
  | .hbm, ⟨4, _⟩ => ⟨S1024x6144, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x1024 : Shape := ⟨2, ![4096, 1024]⟩
abbrev S1024x6144 : Shape := ⟨2, ![1024, 6144]⟩
abbrev S4096x6144 : Shape := ⟨2, ![4096, 6144]⟩
abbrev S4096x512 : Shape := ⟨2, ![4096, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .hbm, ⟨3, _⟩ => ⟨S1024x6144, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .hbm, ⟨3, _⟩ => ⟨S4096x1024, .f32⟩
  | .hbm, ⟨4, _⟩ => ⟨S1024x6144, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S4096x1024, .f32⟩
  | .hbm, ⟨10, _⟩ => ⟨S1024x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S4096x5632 : Shape := ⟨2, ![4096, 5632]⟩
abbrev S512x5632 : Shape := ⟨2, ![512, 5632]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .local _ .vmem, ⟨0, _⟩ => ⟨S512x5632, .bf16⟩
  | .local _ .vmem, ⟨1, _⟩ => ⟨S512x5632, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S1024x5632 : Shape := ⟨2, ![1024, 5632]⟩
abbrev S4096x5632 : Shape := ⟨2, ![4096, 5632]⟩
abbrev S4x1024x1408 : Shape := ⟨3, ![4, 1024, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4x1024x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c2_i32_11 : BitVec 32 := 2#32
  let v28 : BitVec 32 := Scalar.divsi v16 c2_i32_11
  let c0_i32_12 : BitVec 32 := 0#32
  let v29 : BitVec 1 := Scalar.cmpi .sgt v16 c0_i32_12
  let v30 : BitVec 32 := Scalar.extui v29
  let c0_i32_13 : BitVec 32 := 0#32
  let v31 : BitVec 1 := Scalar.cmpi .slt v16 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v16 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v27 v44
  let c1_i32_18 : BitVec 32 := 1#32
  let c0_i32_19 : BitVec 32 := 0#32
  let v46 : BitVec 1 := Scalar.cmpi .eq c1_i32_18 c0_i32_19
  let c1_i32_20 : BitVec 32 := 1#32
  let v47 : BitVec 32 := Scalar.select v46 c1_i32_20 c1_i32_18
  let v48 : BitVec 32 := Scalar.remsi arg1 v47
  let c0_i32_21 : BitVec 32 := 0#32
  let v49 : BitVec 1 := Scalar.cmpi .ne v48 c0_i32_21
  let c0_i32_22 : BitVec 32 := 0#32
  let v50 : BitVec 1 := Scalar.cmpi .slt v48 c0_i32_22
  let c0_i32_23 : BitVec 32 := 0#32
  let v51 : BitVec 1 := Scalar.cmpi .slt v47 c0_i32_23
  let v52 : BitVec 1 := Scalar.xori v50 v51
  let v53 : BitVec 1 := Scalar.andi v52 v49
  let v54 : BitVec 32 := Scalar.addi v48 v47
  let v55 : BitVec 32 := Scalar.select v53 v54 v48
  let c0_i32_24 : BitVec 32 := 0#32
  ![v45.toNat, arg0.toNat, v55.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩
abbrev S2x2x1024x1408 : Shape := ⟨4, ![2, 2, 1024, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .hbm, ⟨3, _⟩ => ⟨S4096x1024, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S1024x5632, .bf16⟩
  | .hbm, ⟨11, _⟩ => ⟨S1024x4x1408, .bf16⟩
  | .hbm, ⟨12, _⟩ => ⟨S4x1024x1408, .bf16⟩
  | .hbm, ⟨13, _⟩ => ⟨S2x2x1024x1408, .bf16⟩
  | .hbm, ⟨14, _⟩ => ⟨S2x2x1024x1408, .bf16⟩
  | .hbm, ⟨15, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel6.lean ====
abbrev S4096x2816 : Shape := ⟨2, ![4096, 2816]⟩
abbrev S2816x1024 : Shape := ⟨2, ![2816, 1024]⟩
abbrev S4096x1024 : Shape := ⟨2, ![4096, 1024]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .bf16⟩
  | .local _ .vmem, ⟨0, _⟩ => ⟨S2048x1024, .bf16⟩
  | .local _ .vmem, ⟨1, _⟩ => ⟨S2048x1024, .bf16⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2816 : Shape := ⟨2, ![4096, 2816]⟩
abbrev S2816x1024 : Shape := ⟨2, ![2816, 1024]⟩
abbrev S4096x1024 : Shape := ⟨2, ![4096, 1024]⟩
abbrev S4096x256 : Shape := ⟨2, ![4096, 256]⟩
abbrev S256x1024 : Shape := ⟨2, ![256, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .bf16⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x512 : Shape := ⟨2, ![4096, 512]⟩
abbrev S512x1024 : Shape := ⟨2, ![512, 1024]⟩
abbrev S4096x1024 : Shape := ⟨2, ![4096, 1024]⟩
abbrev S2048x1024 : Shape := ⟨2, ![2048, 1024]⟩
abbrev S2048x512 : Shape := ⟨2, ![2048, 512]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .bf16⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | .hbm, ⟨10, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel11.lean ====
abbrev S4096x512 : Shape := ⟨2, ![4096, 512]⟩
abbrev S512x1024 : Shape := ⟨2, ![512, 1024]⟩
abbrev S4096x1024 : Shape := ⟨2, ![4096, 1024]⟩
abbrev S4x512x256 : Shape := ⟨3, ![4, 512, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4x512x256, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S1x512x256, .bf16⟩
  | .local _ .vmem, ⟨4, _⟩ => ⟨S1x512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .bf16⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S4096x512, .f32⟩
  | .hbm, ⟨10, _⟩ => ⟨S512x1024, .bf16⟩
  | .hbm, ⟨11, _⟩ => ⟨S512x4x256, .bf16⟩
  | .hbm, ⟨12, _⟩ => ⟨S4x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S4096x256 : Shape := ⟨2, ![4096, 256]⟩
abbrev S256x1024 : Shape := ⟨2, ![256, 1024]⟩
abbrev S4096x1024 : Shape := ⟨2, ![4096, 1024]⟩
abbrev S2048x1024 : Shape := ⟨2, ![2048, 1024]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel13.lean ====
abbrev S4096x256 : Shape := ⟨2, ![4096, 256]⟩
abbrev S256x1024 : Shape := ⟨2, ![256, 1024]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S256x1024, .bf16⟩
  | .hbm, ⟨11, _⟩ => ⟨S256x4x256, .bf16⟩
  | .hbm, ⟨12, _⟩ => ⟨S4x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel14.lean ====
abbrev S4096x256 : Shape := ⟨2, ![4096, 256]⟩
abbrev S256x1024 : Shape := ⟨2, ![256, 1024]⟩
abbrev S4096x1024 : Shape := ⟨2, ![4096, 1024]⟩
abbrev S2048x1024 : Shape := ⟨2, ![2048, 1024]⟩
abbrev S2048x256 : Shape := ⟨2, ![2048, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x256 : Shape := ⟨2, ![4096, 256]⟩
abbrev S256x1024 : Shape := ⟨2, ![256, 1024]⟩
abbrev S4096x1024 : Shape := ⟨2, ![4096, 1024]⟩
abbrev S4x256x256 : Shape := ⟨3, ![4, 256, 256]⟩
abbrev S1x256x256 : Shape := ⟨3, ![1, 256, 256]⟩
abbrev S256x256 : Shape := ⟨2, ![256, 256]⟩

abbrev nBuf : Space → Nat
  | .hbm => 4
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4x256x256, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S1x256x256, .bf16⟩
  | .local _ .vmem, ⟨4, _⟩ => ⟨S1x256x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x256 : Shape := ⟨2, ![4096, 256]⟩
abbrev S256x1024 : Shape := ⟨2, ![256, 1024]⟩
abbrev S4096x1024 : Shape := ⟨2, ![4096, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .bf16⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S4096x256, .f32⟩
  | .hbm, ⟨10, _⟩ => ⟨S256x1024, .bf16⟩
  | .hbm, ⟨11, _⟩ => ⟨S256x4x256, .bf16⟩
  | .hbm, ⟨12, _⟩ => ⟨S4x256x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S4096x1024 : Shape := ⟨2, ![4096, 1024]⟩
abbrev S1024x6144 : Shape := ⟨2, ![1024, 6144]⟩
abbrev S4096x6144 : Shape := ⟨2, ![4096, 6144]⟩
abbrev S1024x512 : Shape := ⟨2, ![1024, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S4096x1024, .bf16⟩
  | .local _ .vmem, ⟨1, _⟩ => ⟨S1024x512, .bf16⟩
  | .local _ .vmem, ⟨2, _⟩ => ⟨S1024x512, .bf16⟩
  | .local _ .vmem, ⟨3, _⟩ => ⟨S4096x512, .bf16⟩
  | .local _ .vmem, ⟨4, _⟩ => ⟨S4096x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x1024 : Shape := ⟨2, ![4096, 1024]⟩
abbrev S1024x5632 : Shape := ⟨2, ![1024, 5632]⟩
abbrev S4096x5632 : Shape := ⟨2, ![4096, 5632]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .bf16⟩
  | .local _ .vmem, ⟨5, _⟩ => ⟨S2048x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel19.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference22Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S64x8x1024 : Shape := ⟨3, ![64, 8, 1024]⟩
abbrev S1024 : Shape := ⟨1, ![1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v37 : BitVec 1 := Scalar.cmpi .eq arg0 c7_i32
  let v38 : BitVec 32 := Scalar.extui v37
  let c0_i32_17 : BitVec 32 := 0#32
  let v39 : BitVec 1 := Scalar.cmpi .ne v38 c0_i32_17
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel24.lean ====
abbrev S4096x6144 : Shape := ⟨2, ![4096, 6144]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S8x1024 : Shape := ⟨2, ![8, 1024]⟩
abbrev S4096x1024 : Shape := ⟨2, ![4096, 1024]⟩
abbrev S512x512 : Shape := ⟨2, ![512, 512]⟩
abbrev S512x256 : Shape := ⟨2, ![512, 256]⟩
abbrev S1x1024 : Shape := ⟨2, ![1, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x6144, .bf16⟩
  | .hbm, ⟨1, _⟩ => ⟨S4096x512, .bf16⟩
  | .hbm, ⟨2, _⟩ => ⟨S4096x256, .bf16⟩
  | .hbm, ⟨3, _⟩ => ⟨S4096x256, .bf16⟩
  | .hbm, ⟨4, _⟩ => ⟨S512x1024, .bf16⟩
  | .hbm, ⟨5, _⟩ => ⟨S256x1024, .bf16⟩
  | .hbm, ⟨6, _⟩ => ⟨S256x1024, .bf16⟩
  | .hbm, ⟨7, _⟩ => ⟨S8x1024, .f32⟩
  | .hbm, ⟨8, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x1024, .bf16⟩
  | .local _ .vmem, ⟨13, _⟩ => ⟨S256x1024, .bf16⟩
  | .local _ .vmem, ⟨14, _⟩ => ⟨S256x1024, .bf16⟩
  | .local _ .vmem, ⟨15, _⟩ => ⟨S8x1024, .f32⟩
  | .local _ .vmem, ⟨16, _⟩ => ⟨S512x1024, .bf16⟩
  | .local _ .vmem, ⟨17, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S4096x6144 : Shape := ⟨2, ![4096, 6144]⟩
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S8x1024 : Shape := ⟨2, ![8, 1024]⟩
abbrev S4096x1024 : Shape := ⟨2, ![4096, 1024]⟩
abbrev S4096x3072 : Shape := ⟨2, ![4096, 3072]⟩
abbrev S4096x3x1024 : Shape := ⟨3, ![4096, 3, 1024]⟩
abbrev S3x1024 : Shape := ⟨2, ![3, 1024]⟩
abbrev S1x3x1024 : Shape := ⟨3, ![1, 3, 1024]⟩
abbrev S_ : Shape := ⟨0, ![]⟩
abbrev S4096x1x1024 : Shape := ⟨3, ![4096, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x512, .bf16⟩
  | .hbm, ⟨2, _⟩ => ⟨S4096x256, .bf16⟩
  | .hbm, ⟨3, _⟩ => ⟨S4096x256, .bf16⟩
  | .hbm, ⟨4, _⟩ => ⟨S512x1024, .bf16⟩
  | .hbm, ⟨5, _⟩ => ⟨S256x1024, .bf16⟩
  | .hbm, ⟨6, _⟩ => ⟨S256x1024, .bf16⟩
  | .hbm, ⟨7, _⟩ => ⟨S8x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .bf16⟩
  | .hbm, ⟨12, _⟩ => ⟨S4096x3072, .f32⟩
  | .hbm, ⟨13, _⟩ => ⟨S4096x3x1024, .f32⟩
  | .hbm, ⟨14, _⟩ => ⟨S3x1024, .f32⟩
  | .hbm, ⟨15, _⟩ => ⟨S1x3x1024, .f32⟩
  | .hbm, ⟨16, _⟩ => ⟨S4096x3x1024, .f32⟩
  | .hbm, ⟨17, _⟩ => ⟨S4096x3x1024, .f32⟩
  | .hbm, ⟨18, _⟩ => ⟨S4096x3x1024, .f32⟩
  | .hbm, ⟨19, _⟩ => ⟨S4096x3x1024, .f32⟩
  | .hbm, ⟨20, _⟩ => ⟨S_, .f32⟩
  | .hbm, ⟨21, _⟩ => ⟨S4096x3x1024, .f32⟩
  | .hbm, ⟨22, _⟩ => ⟨S4096x3x1024, .f32⟩
  | .hbm, ⟨23, _⟩ => ⟨S_, .f32⟩
  | .hbm, ⟨24, _⟩ => ⟨S4096x3x1024, .f32⟩
  | .hbm, ⟨25, _⟩ => ⟨S4096x3x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel25.lean ====
abbrev S4096x6144 : Shape := ⟨2, ![4096, 6144]⟩
abbrev S8x256 : Shape := ⟨2, ![8, 256]⟩
abbrev S4096x256 : Shape := ⟨2, ![4096, 256]⟩
abbrev S512x256 : Shape := ⟨2, ![512, 256]⟩
abbrev S16x256 : Shape := ⟨2, ![16, 256]⟩
abbrev S1x256 : Shape := ⟨2, ![1, 256]⟩
abbrev S528x256 : Shape := ⟨2, ![528, 256]⟩

abbrev nBuf : Space → Nat
  | .hbm => 3
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S8x256, .f32⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S16x256, .bf16⟩
  | .local _ .vmem, ⟨9, _⟩ => ⟨S16x256, .bf16⟩
  | .local _ .vmem, ⟨10, _⟩ => ⟨S8x256, .f32⟩
  | .local _ .vmem, ⟨11, _⟩ => ⟨S512x256, .bf16⟩
  | .local _ .vmem, ⟨12, _⟩ => ⟨S512x256, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_1 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c19_i32 : BitVec 32 := 19#32
  let c0_i32_0 : BitVec 32 := 0#32
  ![v2.toNat, c19_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c20_i32 : BitVec 32 := 20#32
  let c0_i32_0 : BitVec 32 := 0#32
  ![v2.toNat, c20_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S4096x6144 : Shape := ⟨2, ![4096, 6144]⟩
abbrev S8x256 : Shape := ⟨2, ![8, 256]⟩
abbrev S4096x256 : Shape := ⟨2, ![4096, 256]⟩
abbrev S3x256 : Shape := ⟨2, ![3, 256]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩

abbrev nBuf : Space → Nat
  | .hbm => 35
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x256, .f32⟩
  | .hbm, ⟨2, _⟩ => ⟨S4096x256, .bf16⟩
  | .hbm, ⟨3, _⟩ => ⟨S4096x256, .f32⟩
  | .hbm, ⟨4, _⟩ => ⟨S4096x256, .bf16⟩
  | .hbm, ⟨5, _⟩ => ⟨S4096x256, .f32⟩
  | .hbm, ⟨6, _⟩ => ⟨S4096x256, .bf16⟩
  | .hbm, ⟨7, _⟩ => ⟨S4096x256, .f32⟩
  | .hbm, ⟨8, _⟩ => ⟨S4096x256, .f32⟩
  | .hbm, ⟨9, _⟩ => ⟨S3x256, .f32⟩
  | .hbm, ⟨10, _⟩ => ⟨S_, .f32⟩
  | .hbm, ⟨11, _⟩ => ⟨S2x256, .f32⟩
  | .hbm, ⟨12, _⟩ => ⟨S4098x256, .f32⟩
  | .hbm, ⟨13, _⟩ => ⟨S4096x256, .f32⟩
  | .hbm, ⟨14, _⟩ => ⟨S1x256, .f32⟩
  | .hbm, ⟨15, _⟩ => ⟨S256, .f32⟩
  | .hbm, ⟨16, _⟩ => ⟨S1x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S1x256, .f32⟩
  | .hbm, ⟨21, _⟩ => ⟨S256, .f32⟩
  | .hbm, ⟨22, _⟩ => ⟨S1x256, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .f32⟩
  | .hbm, ⟨27, _⟩ => ⟨S1x256, .f32⟩
  | .hbm, ⟨28, _⟩ => ⟨S256, .f32⟩
  | .hbm, ⟨29, _⟩ => ⟨S1x256, .f32⟩
  | .hbm, ⟨30, _⟩ => ⟨S4096x256, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩

abbrev nD : Nat := 1
abbrev τ : Topo := Topo.v7x

variable {F : FTy → Type} [FloatOps F]
-- ==== Kernel26.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel27.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference27Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel28.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel29.lean ====
abbrev S16x1024 : Shape := ⟨2, ![16, 1024]⟩
abbrev S4096x1024 : Shape := ⟨2, ![4096, 1024]⟩
abbrev S16x4096 : Shape := ⟨2, ![16, 4096]⟩
abbrev S2048x1024 : Shape := ⟨2, ![2048, 1024]⟩
abbrev S16x2048 : Shape := ⟨2, ![16, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16x1024, .bf16⟩
  | .hbm, ⟨1, _⟩ => ⟨S4096x1024, .bf16⟩
  | .hbm, ⟨2, _⟩ => ⟨S16x4096, .f32⟩
  | .local _ .vmem, ⟨0, _⟩ => ⟨S16x1024, .bf16⟩
  | .local _ .vmem, ⟨1, _⟩ => ⟨S2048x1024, .bf16⟩
  | .local _ .vmem, ⟨2, _⟩ => ⟨S2048x1024, .bf16⟩
  | .local _ .vmem, ⟨3, _⟩ => ⟨S16x2048, .f32⟩
  | .local _ .vmem, ⟨4, _⟩ => ⟨S16x2048, .f32⟩
  | _, _ => ⟨S16x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S16x1024 : Shape := ⟨2, ![16, 1024]⟩
abbrev S4096x1024 : Shape := ⟨2, ![4096, 1024]⟩
abbrev S1024x16 : Shape := ⟨2, ![1024, 16]⟩
abbrev S4096x16 : Shape := ⟨2, ![4096, 16]⟩
abbrev S16x4096 : Shape := ⟨2, ![16, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16x1024, .bf16⟩
  | .hbm, ⟨1, _⟩ => ⟨S4096x1024, .bf16⟩
  | .hbm, ⟨2, _⟩ => ⟨S4096x1024, .f32⟩
  | .hbm, ⟨3, _⟩ => ⟨S16x1024, .f32⟩
  | .hbm, ⟨4, _⟩ => ⟨S1024x16, .f32⟩
  | .hbm, ⟨5, _⟩ => ⟨S4096x16, .f32⟩
  | .hbm, ⟨6, _⟩ => ⟨S16x4096, .f32⟩
  | _, _ => ⟨S16x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel30.lean ====
abbrev S16x4096 : Shape := ⟨2, ![16, 4096]⟩
abbrev S16x1 : Shape := ⟨2, ![16, 1]⟩
abbrev S4x8x4096 : Shape := ⟨3, ![4, 8, 4096]⟩
abbrev S16x512 : Shape := ⟨2, ![16, 512]⟩
abbrev S4x8x512 : Shape := ⟨3, ![4, 8, 512]⟩
abbrev S1x1x512 : Shape := ⟨3, ![1, 1, 512]⟩
abbrev S1x512 : Shape := ⟨2, ![1, 512]⟩
abbrev S512x512 : Shape := ⟨2, ![512, 512]⟩
abbrev S16 : Shape := ⟨1, ![16]⟩

abbrev nBuf : Space → Nat
  | .hbm => 6
  | .vmem => 12
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S4x8x4096, .f32⟩
  | .hbm, ⟨3, _⟩ => ⟨S4x8x4096, .f32⟩
  | .hbm, ⟨4, _⟩ => ⟨S16x4096, .bf16⟩
  | .hbm, ⟨5, _⟩ => ⟨S16x1, .f32⟩
  | .local _ .vmem, ⟨0, _⟩ => ⟨S16x512, .f32⟩
  | .local _ .vmem, ⟨1, _⟩ => ⟨S16x512, .f32⟩
  | .local _ .vmem, ⟨2, _⟩ => ⟨S16x1, .f32⟩
  | .local _ .vmem, ⟨3, _⟩ => ⟨S4x8x512, .f32⟩
  | .local _ .vmem, ⟨4, _⟩ => ⟨S4x8x512, .f32⟩
  | .local _ .vmem, ⟨5, _⟩ => ⟨S4x8x512, .f32⟩
  | .local _ .vmem, ⟨6, _⟩ => ⟨S4x8x512, .f32⟩
  | .local _ .vmem, ⟨7, _⟩ => ⟨S16x512, .bf16⟩
  | .local _ .vmem, ⟨8, _⟩ => ⟨S16x512, .bf16⟩
  | .local _ .vmem, ⟨9, _⟩ => ⟨S16x1, .f32⟩
  | .local _ .vmem, ⟨10, _⟩ => ⟨S16x1, .f32⟩
  | .local _ .vmem, ⟨11, _⟩ => ⟨S16x1, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_46 : BitVec 32 := 7#32
  let v110 : BitVec 1 := Scalar.cmpi .eq arg0 c7_i32_46
  let v111 : BitVec 32 := Scalar.extui v110
  let c0_i32_47 : BitVec 32 := 0#32
  let v112 : BitVec 1 := Scalar.cmpi .ne v111 c0_i32_47
  v112

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference30Ideal.lean ====
abbrev S16x4096 : Shape := ⟨2, ![16, 4096]⟩
abbrev S16x1 : Shape := ⟨2, ![16, 1]⟩
abbrev S4x8x4096 : Shape := ⟨3, ![4, 8, 4096]⟩
abbrev S4x1x4096 : Shape := ⟨3, ![4, 1, 4096]⟩
abbrev S4x4096 : Shape := ⟨2, ![4, 4096]⟩
abbrev S4x2x4096 : Shape := ⟨3, ![4, 2, 4096]⟩
abbrev S8x4096 : Shape := ⟨2, ![8, 4096]⟩
abbrev S4096x8 : Shape := ⟨2, ![4096, 8]⟩
abbrev S8x1 : Shape := ⟨2, ![8, 1]⟩
abbrev S8 : Shape := ⟨1, ![8]⟩
abbrev S1x8 : Shape := ⟨2, ![1, 8]⟩
abbrev S_ : Shape := ⟨0, ![]⟩
abbrev S4096x4096 : Shape := ⟨2, ![4096, 4096]⟩

abbrev nBuf : Space → Nat
  | .hbm => 92
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S16x1, .f32⟩
  | .hbm, ⟨2, _⟩ => ⟨S4x8x4096, .f32⟩
  | .hbm, ⟨3, _⟩ => ⟨S4x8x4096, .f32⟩
  | .hbm, ⟨4, _⟩ => ⟨S4x1x4096, .f32⟩
  | .hbm, ⟨5, _⟩ => ⟨S4x4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S4x1x4096, .f32⟩
  | .hbm, ⟨10, _⟩ => ⟨S4x2x4096, .f32⟩
  | .hbm, ⟨11, _⟩ => ⟨S8x4096, .f32⟩
  | .hbm, ⟨12, _⟩ => ⟨S8x4096, .f32⟩
  | .hbm, ⟨13, _⟩ => ⟨S4096x8, .f32⟩
  | .hbm, ⟨14, _⟩ => ⟨S8x1, .f32⟩
  | .hbm, ⟨15, _⟩ => ⟨S8, .f32⟩
  | .hbm, ⟨16, _⟩ => ⟨S1x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S_, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S4096x8, .i1⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S_, .f32⟩
  | .hbm, ⟨35, _⟩ => ⟨S4096x8, .f32⟩
  | .hbm, ⟨36, _⟩ => ⟨S4096x8, .i1⟩
  | .hbm, ⟨37, _⟩ => ⟨S_, .f32⟩
  | .hbm, ⟨38, _⟩ => ⟨S4096x8, .f32⟩
  | .hbm, ⟨39, _⟩ => ⟨S4096x8, .f32⟩
  | .hbm, ⟨40, _⟩ => ⟨S_, .f32⟩
  | .hbm, ⟨41, _⟩ => ⟨S4096x8, .f32⟩
  | .hbm, ⟨42, _⟩ => ⟨S4096x8, .i1⟩
  | .hbm, ⟨43, _⟩ => ⟨S_, .f32⟩
  | .hbm, ⟨44, _⟩ => ⟨S4096x8, .f32⟩
  | .hbm, ⟨45, _⟩ => ⟨S4096x8, .f32⟩
  | .hbm, ⟨46, _⟩ => ⟨S4096x8, .f32⟩
  | .hbm, ⟨47, _⟩ => ⟨S4096x8, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S4096x8, .f32⟩
  | .hbm, ⟨56, _⟩ => ⟨S4096x8, .i1⟩
  | .hbm, ⟨57, _⟩ => ⟨S_, .f32⟩
  | .hbm, ⟨58, _⟩ => ⟨S4096x8, .f32⟩
  | .hbm, ⟨59, _⟩ => ⟨S4096x8, .f32⟩
  | .hbm, ⟨60, _⟩ => ⟨S4096x8, .f32⟩
  | .hbm, ⟨61, _⟩ => ⟨S4096x8, .f32⟩
  | .hbm, ⟨62, _⟩ => ⟨S4096x8, .f32⟩
  | .hbm, ⟨63, _⟩ => ⟨S_, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S4096x4096, .i32⟩
  | .hbm, ⟨68, _⟩ => ⟨S4096x4096, .i32⟩
  | .hbm, ⟨69, _⟩ => ⟨S4096x4096, .i1⟩
  | .hbm, ⟨70, _⟩ => ⟨S4096x4096, .f32⟩
  | .hbm, ⟨71, _⟩ => ⟨S4096x8, .f32⟩
  | .hbm, ⟨72, _⟩ => ⟨S4096x8, .f32⟩
  | .hbm, ⟨73, _⟩ => ⟨S8x4096, .f32⟩
  | .hbm, ⟨74, _⟩ => ⟨S4096x8, .f32⟩
  | .hbm, ⟨75, _⟩ => ⟨S4096x8, .f32⟩
  | .hbm, ⟨76, _⟩ => ⟨S4096x8, .f32⟩
  | .hbm, ⟨77, _⟩ => ⟨S4096x8, .f32⟩
  | .hbm, ⟨78, _⟩ => ⟨S_, .f32⟩
  | .hbm, ⟨79, _⟩ => ⟨S8, .f32⟩
  | .hbm, ⟨80, _⟩ => ⟨S1x8, .f32⟩
  | .hbm, ⟨81, _⟩ => ⟨S_, .f32⟩
  | .hbm, ⟨82, _⟩ => ⟨S8, .f32⟩
  | .hbm, ⟨83, _⟩ => ⟨S8x4096, .f32⟩
  | .hbm, ⟨84, _⟩ => ⟨S8x4096, .bf16⟩
  | .hbm, ⟨85, _⟩ => ⟨S_, .bf16⟩
  | .hbm, ⟨86, _⟩ => ⟨S8x4096, .bf16⟩
  | .hbm, ⟨87, _⟩ => ⟨S16x4096, .bf16⟩
  | .hbm, ⟨88, _⟩ => ⟨S8x1, .f32⟩
  | .hbm, ⟨89, _⟩ => ⟨S_, .f32⟩
  | .hbm, ⟨90, _⟩ => ⟨S8x1, .f32⟩
  | .hbm, ⟨91, _⟩ => ⟨S16x1, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v15_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v15_2 : Ref sig .tc := ⟨.hbm, 65, rfl⟩
abbrev main_v15_0 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_call1_v0 : Ref sig .tc := ⟨.hbm, 75, rfl⟩
abbrev main_call1_v1 : Ref sig .tc := ⟨.hbm, 76, rfl⟩
abbrev main_v24 : Ref sig .tc := ⟨.hbm, 77, rfl⟩
abbrev main_cst : Ref sig .tc := ⟨.hbm, 78, rfl⟩
abbrev main_v25 : Ref sig .tc := ⟨.hbm, 79, rfl⟩
abbrev main_v26 : Ref sig .tc := ⟨.hbm, 80, rfl⟩
abbrev main_cst_0 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_cst_1 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_cst_2 : Ref sig .tc := ⟨.hbm, 89, rfl⟩
abbrev main_v33 : Ref sig .tc := ⟨.hbm, 90, rfl⟩
abbrev main_v34 : Ref sig .tc := ⟨.hbm, 91, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.Frame
public import Idealize.ShloMosaic.Lib.VecWindow
public import Idealize.ShloMosaic.Lib.Tactic
public import Idealize.ShloMosaic.Lib.Tactic.Stretches

/-! The kernel's body, run once for each way its guards can go: what it leaves in the tile of every operand it writes, in
    terms of the tiles it found. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table of key tiles and the table of query tiles, whole. -/
abbrev tabK : Memref sig .tc .smem S36 .i32 := Memref.whole main_c
abbrev tabQ : Memref sig .tc .smem S36 .i32 := Memref.whole main_c_0

/-- The word a point reads off a table. -/
abbrev word (c : Dev nD) (M : Memref sig .tc .smem S36 .i32) (f : Buf (Elt F) (M.view.loc (c : Thread nD τ))) (i : grid0.Coords) : BitVec 32 :=
  View.readAt (Elt F) M.view (Rect.unit (s := S36) (k0_off1 i) S1.size (k0_off1_inb i)).toLoadRect f (Shape.Idx.first (numel1_S1.symm ▸ Nat.one_pos))

/-! ## The step as a function of the tiles -/

variable (F) in
/-- The tiles a point reads: queries, keys, values, the gate's column, the attention's output, the row normaliser and the cotangent. -/
structure Tl where
  q : Vec F S512x128 .bf16
  k : Vec F S512x128 .bf16
  v : Vec F S512x128 .bf16
  ck : Vec F S1x512x128 .bf16
  o : Vec F S512x128 .f32
  l : Vec F S512x128 .f32
  d : Vec F S512x128 .bf16

variable (F) in
/-- What a point carries to the next: the sums for the keys, the values and the gate, and the queries' column. -/
structure St where
  dk : Vec F S512x128 .f32
  dv : Vec F S512x128 .f32
  dc : Vec F S2x512x1 .f32
  dq : Vec F S4096x128 .f32

abbrev lanes : IVec S1x128 32 := iota .tc S1x128 32 [1] iota_S1x128_d1_w32
abbrev lo : IVec S1x128 1 := k0_pay1
abbrev hi : IVec S1x128 1 := k0_pay2

/-- The window of one head's gate sums, at a given plane. -/
abbrev plane (x : Vec F S2x512x1 .f32) (off : Fin 3 → ℕ) (h : ∀ a, off a + S1x512x1.size a ≤ S2x512x1.size a) : Vec F S1x512x1 .f32 :=
  VecWindow.window x off S1x512x1.size h

/-! ### Below the diagonal -/

abbrev offKeep (T : Tl F) : FVec F S512x512 .f32 := k0_pay26 hi lanes (k0_pay15 T.q) (k0_pay16 T.k T.ck)
abbrev offV95 (T : Tl F) : FVec F S512x512 .f32 := k0_pay27 hi T.v T.d
abbrev offP0 (T : Tl F) : FVec F S512x512 .f32 := k0_pay28 (k0_pay16 T.k T.ck) (k0_pay18 T.l) (k0_pay19 lo T.q) (k0_pay22 (F := F) lanes)
abbrev offS0 (T : Tl F) : FVec F S512x512 .f32 :=
  k0_pay29 T.v (k0_pay16 T.k T.ck) (k0_pay17 T.d T.o) (k0_pay18 T.l) (k0_pay19 lo T.q) (k0_pay21 lo T.d) (k0_pay22 (F := F) lanes)
abbrev offS1b (T : Tl F) : FVec F S512x512 .bf16 := k0_pay36 (k0_pay17 T.d T.o) (k0_pay18 T.l) (offKeep T) (offV95 T)
abbrev offP1b (T : Tl F) : FVec F S512x512 .bf16 := k0_pay37 (k0_pay18 T.l) (offKeep T)

/-- The sums for the gate after the point. -/
def offDc (T : Tl F) (x : Vec F S2x512x1 .f32) : Vec F S2x512x1 .f32 :=
  VecWindow.put (VecWindow.put x ![0, 0, 0] S1x512x1.size (k0_pay31 (offS0 T) (k0_pay30 (plane x ![0, 0, 0] inb_S2x512x1_S1x512x1_0_0_0)) : Vec F S1x512x1 .f32))
    ![1, 0, 0] S1x512x1.size (k0_pay35 (k0_pay17 T.d T.o) (k0_pay18 T.l) (offKeep T) (offV95 T) (plane x ![1, 0, 0] inb_S2x512x1_S1x512x1_1_0_0))

def offDv (T : Tl F) (x : Vec F S512x128 .f32) : Vec F S512x128 .f32 := k0_pay8 (k0_pay25 hi T.d) (offP1b T) (k0_pay39 (k0_pay21 lo T.d) (offP0 T) x)
def offDk (T : Tl F) (x : Vec F S512x128 .f32) : Vec F S512x128 .f32 :=
  k0_pay9 (k0_pay23 hi (k0_pay15 T.q)) (offS1b T) (k0_pay7 x (k0_pay40 (k0_pay19 lo T.q) (offS0 T)))
def offDq (T : Tl F) (off : Fin 2 → ℕ) (h : ∀ a, off a + S512x128.size a ≤ S4096x128.size a) (x : Vec F S4096x128 .f32) : Vec F S4096x128 .f32 :=
  VecWindow.put x off S512x128.size (k0_pay10 (k0_pay20 lo T.k) (k0_pay24 hi T.k) (k0_pay32 (offS0 T)) (offS1b T) (k0_pay38 (F := F)) (VecWindow.window x off S512x128.size h) : Vec F S512x128 .f32)

/-- What a point below the diagonal carries on. -/
def offSt (T : Tl F) (off : Fin 2 → ℕ) (h : ∀ a, off a + S512x128.size a ≤ S4096x128.size a) (s : St F) : St F :=
  ⟨offDk T s.dk, offDv T s.dv, offDc T s.dc, offDq T off h s.dq⟩

/-! ### On the diagonal -/

abbrev diaKeep (T : Tl F) : FVec F S512x512 .f32 := k0_pay52 hi lanes (k0_pay41 T.q) (k0_pay42 T.k T.ck)
abbrev diaV95 (T : Tl F) : FVec F S512x512 .f32 := k0_pay53 hi T.v T.d
abbrev diaP0 (T : Tl F) : FVec F S512x512 .f32 := k0_pay54 (k0_pay42 T.k T.ck) (k0_pay44 T.l) (k0_pay45 lo T.q) (k0_pay48 (F := F) lanes)
abbrev diaS0 (T : Tl F) : FVec F S512x512 .f32 :=
  k0_pay55 T.v (k0_pay42 T.k T.ck) (k0_pay43 T.d T.o) (k0_pay44 T.l) (k0_pay45 lo T.q) (k0_pay47 lo T.d) (k0_pay48 (F := F) lanes)
abbrev diaS1b (T : Tl F) : FVec F S512x512 .bf16 := k0_pay61 (k0_pay43 T.d T.o) (k0_pay44 T.l) (diaKeep T) (diaV95 T)
abbrev diaP1b (T : Tl F) : FVec F S512x512 .bf16 := k0_pay62 (k0_pay44 T.l) (diaKeep T)

/-- The sums for the gate after the point. -/
def diaDc (T : Tl F) (x : Vec F S2x512x1 .f32) : Vec F S2x512x1 .f32 :=
  VecWindow.put (VecWindow.put x ![0, 0, 0] S1x512x1.size (k0_pay56 (diaS0 T) (plane x ![0, 0, 0] inb_S2x512x1_S1x512x1_0_0_0) : Vec F S1x512x1 .f32))
    ![1, 0, 0] S1x512x1.size (k0_pay60 (k0_pay43 T.d T.o) (k0_pay44 T.l) (diaKeep T) (diaV95 T) (plane x ![1, 0, 0] inb_S2x512x1_S1x512x1_1_0_0))

def diaDv (T : Tl F) (x : Vec F S512x128 .f32) : Vec F S512x128 .f32 := k0_pay67 (k0_pay51 hi T.d) (diaP1b T) (k0_pay65 x (k0_pay64 (k0_pay47 lo T.d) (diaP0 T)))
def diaDk (T : Tl F) (x : Vec F S512x128 .f32) : Vec F S512x128 .f32 :=
  k0_pay68 (k0_pay49 hi (k0_pay41 T.q)) (diaS1b T) (k0_pay66 (k0_pay45 lo T.q) (k0_pay57 (diaS0 T)) x)
def diaDq (T : Tl F) (off : Fin 2 → ℕ) (h : ∀ a, off a + S512x128.size a ≤ S4096x128.size a) (x : Vec F S4096x128 .f32) : Vec F S4096x128 .f32 :=
  VecWindow.put x off S512x128.size (k0_pay69 (k0_pay46 lo T.k) (k0_pay50 hi T.k) (k0_pay57 (diaS0 T)) (diaS1b T) (k0_pay63 (F := F)) (VecWindow.window x off S512x128.size h) : Vec F S512x128 .f32)

/-- What a point on the diagonal carries on: the sums for the keys, the values and the gate begin there. -/
def diaSt (T : Tl F) (off : Fin 2 → ℕ) (h : ∀ a, off a + S512x128.size a ≤ S4096x128.size a) (x : Vec F S4096x128 .f32) : St F :=
  ⟨diaDk T (k0_pay4 (F := F)), diaDv T (k0_pay5 (F := F)), diaDc T (k0_pay6 (F := F)), diaDq T off h x⟩

/-! ### What the last query tile stores -/

abbrev outDk (s : St F) : Vec F S512x128 .bf16 := k0_pay11 s.dk
abbrev outDv (s : St F) : Vec F S512x128 .bf16 := k0_pay12 s.dv
abbrev outC0 (s : St F) : Vec F S1x8x512 .f32 := k0_pay13 (plane s.dc ![0, 0, 0] inb_S2x512x1_S1x512x1_0_0_0)
abbrev outC1 (s : St F) : Vec F S1x8x512 .f32 := k0_pay14 (plane s.dc ![1, 0, 0] inb_S2x512x1_S1x512x1_1_0_0)

/-! ## Loads and stores over read contents -/

section Reads
variable {sg : RefSig} {κ : Kind} {sp : Space} {s : Shape} {e : EltTy} {Val : EltTy → Type}

theorem readAt_window (v : View sg κ sp s e) (f : v.ty.Contents Val) {off size : Fin s.rank → ℕ} (inb : ∀ a, off a + size a ≤ s.size a) :
    v.readAt Val (Rect.unit off size inb).toLoadRect f = VecWindow.window (v.read Val f) off size inb := rfl

theorem read_put (v : View sg κ sp s e) (f : v.ty.Contents Val) {off size : Fin s.rank → ℕ}
    (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

theorem window_full {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

theorem put_full {α : Type} (x : s.Idx → α) {off : Fin s.rank → ℕ} (inb : ∀ a, off a + s.size a ≤ s.size a) (w : s.Idx → α) :
    VecWindow.put x off s.size w = w := by
  have h : ∀ y : s.Idx, ∀ a, off a ≤ (y a).val ∧ (y a).val < off a + s.size a := fun y a => by
    have := inb a; have := (y a).isLt; omega
  funext y
  show (if h : _ then w (Rect.unitLocal (s := s) (off := off) (size := s.size) y h) else x y) = w y
  rw [dif_pos (h y)]
  exact congrArg w (funext fun a => Fin.ext (by
    show (y a).val - off a = (y a).val
    have := inb a; omega))

theorem win_S512x128 {α : Type} (x : S512x128.Idx → α) (h) : VecWindow.window (s := S512x128) x ![0, 0] ![512, 128] h = x := window_full (s := S512x128) x h
theorem put_S512x128 {α : Type} (x w : S512x128.Idx → α) : VecWindow.put (s := S512x128) x ![0, 0] ![512, 128] w = w := put_full (s := S512x128) x inb_S512x128_S512x128_0_0 w

theorem win_S1x512x128 {α : Type} (x : S1x512x128.Idx → α) (h) : VecWindow.window (s := S1x512x128) x ![0, 0, 0] ![1, 512, 128] h = x := window_full (s := S1x512x128) x h
theorem put_S1x512x128 {α : Type} (x w : S1x512x128.Idx → α) : VecWindow.put (s := S1x512x128) x ![0, 0, 0] ![1, 512, 128] w = w := put_full (s := S1x512x128) x inb_S1x512x128_S1x512x128_0_0_0 w

theorem win_S4096x128 {α : Type} (x : S4096x128.Idx → α) (h) : VecWindow.window (s := S4096x128) x ![0, 0] ![4096, 128] h = x := window_full (s := S4096x128) x h
theorem put_S4096x128 {α : Type} (x w : S4096x128.Idx → α) : VecWindow.put (s := S4096x128) x ![0, 0] ![4096, 128] w = w := put_full (s := S4096x128) x inb_S4096x128_S4096x128_0_0 w

theorem win_S2x512x1 {α : Type} (x : S2x512x1.Idx → α) (h) : VecWindow.window (s := S2x512x1) x ![0, 0, 0] ![2, 512, 1] h = x := window_full (s := S2x512x1) x h
theorem put_S2x512x1 {α : Type} (x w : S2x512x1.Idx → α) : VecWindow.put (s := S2x512x1) x ![0, 0, 0] ![2, 512, 1] w = w := put_full (s := S2x512x1) x inb_S2x512x1_S2x512x1_0_0_0 w

theorem win_S1x8x512 {α : Type} (x : S1x8x512.Idx → α) (h) : VecWindow.window (s := S1x8x512) x ![0, 0, 0] ![1, 8, 512] h = x := window_full (s := S1x8x512) x h
theorem put_S1x8x512 {α : Type} (x w : S1x8x512.Idx → α) : VecWindow.put (s := S1x8x512) x ![0, 0, 0] ![1, 8, 512] w = w := put_full (s := S1x8x512) x inb_S1x8x512_S1x8x512_0_0_0 w
theorem win_put_plane {α : Type} (x : S2x512x1.Idx → α) (w) (h) :
    VecWindow.window (s := S2x512x1) (VecWindow.put (s := S2x512x1) x ![0, 0, 0] ![1, 512, 1] w) ![1, 0, 0] ![1, 512, 1] h = VecWindow.window (s := S2x512x1) x ![1, 0, 0] ![1, 512, 1] h :=
  VecWindow.window_put_of_disjoint (s := S2x512x1) x ![0, 0, 0] ![1, 512, 1] ![1, 0, 0] ![1, 512, 1] h w 0 (Or.inr (by decide))
end Reads

/-! ## The runs -/

/-- The two tables at share `qs` and every operand at its tile. -/
abbrev held (c : Dev nD) (qs : PosShare TreeShare)
    (fk : Buf (Elt F) (tabK.view.loc (c : Thread nD τ))) (fq : Buf (Elt F) (tabQ.view.loc (c : Thread nD τ)))
    (arg4 : Memref sig .tc .vmem S512x128 .bf16) (arg5 : Memref sig .tc .vmem S512x128 .bf16) (arg6 : Memref sig .tc .vmem S512x128 .bf16) (arg7 : Memref sig .tc .vmem S1x512x128 .bf16) (arg8 : Memref sig .tc .vmem S512x128 .f32) (arg9 : Memref sig .tc .vmem S512x128 .f32) (arg10 : Memref sig .tc .vmem S512x128 .bf16) (arg11 : Memref sig .tc .vmem S4096x128 .f32) (arg12 : Memref sig .tc .vmem S512x128 .bf16) (arg13 : Memref sig .tc .vmem S512x128 .bf16) (arg14 : Memref sig .tc .vmem S1x8x512 .f32) (arg15 : Memref sig .tc .vmem S1x8x512 .f32) (arg16 : Memref sig .tc .vmem S512x128 .f32) (arg17 : Memref sig .tc .vmem S512x128 .f32) (arg18 : Memref sig .tc .vmem S2x512x1 .f32)
    (T : Tl F) (X11 : Vec F S4096x128 .f32) (X12 X13 : Vec F S512x128 .bf16) (X14 X15 : Vec F S1x8x512 .f32) (X16 X17 : Vec F S512x128 .f32) (X18 : Vec F S2x512x1 .f32) : sProp 𝕄 :=
  iprop((tabK.view.loc (c : Thread nD τ) ↦{qs} fk) ∗ (tabQ.view.loc (c : Thread nD τ) ↦{qs} fq)
    ∗ owns (c : Thread nD τ) arg4 fullShare T.q ∗ owns (c : Thread nD τ) arg5 fullShare T.k ∗ owns (c : Thread nD τ) arg6 fullShare T.v ∗ owns (c : Thread nD τ) arg7 fullShare T.ck ∗ owns (c : Thread nD τ) arg8 fullShare T.o ∗ owns (c : Thread nD τ) arg9 fullShare T.l ∗ owns (c : Thread nD τ) arg10 fullShare T.d ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18)

set_option maxHeartbeats 4000000 in
/-- The first point of a head pair. -/
theorem runA (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S1x512x128 .bf16) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S4096x128 .f32) (harg11 : arg11.IsWhole)
    (arg12 : Memref sig .tc .vmem S512x128 .bf16) (harg12 : arg12.IsWhole)
    (arg13 : Memref sig .tc .vmem S512x128 .bf16) (harg13 : arg13.IsWhole)
    (arg14 : Memref sig .tc .vmem S1x8x512 .f32) (harg14 : arg14.IsWhole)
    (arg15 : Memref sig .tc .vmem S1x8x512 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S2x512x1 .f32) (harg18 : arg18.IsWhole)
    (qs : PosShare TreeShare)
    (fk : Buf (Elt F) (tabK.view.loc (c : Thread nD τ))) (fq : Buf (Elt F) (tabQ.view.loc (c : Thread nD τ)))
    (v1 v3 : BitVec 32) (hK : word c tabK fk i = v1) (hQ : word c tabQ fq i = v3) (hchk : k0_chk1 v1 v3)
    (h1 : k0_cond1 v1 v3 = 1#1) (h2 : Scalar.cmpi .ne (Scalar.extui (Scalar.cmpi .eq v3 v1)) 0#32 = 1#1) (h3 : ¬ k0_cond3 v1 v3 = 1#1) (h4 : k0_cond4 v1 v3 = 1#1) (h5 : ¬ k0_cond5 v3 = 1#1)
    (T : Tl F) (X11 : Vec F S4096x128 .f32) (X12 X13 : Vec F S512x128 .bf16) (X14 X15 : Vec F S1x8x512 .f32) (X16 X17 : Vec F S512x128 .f32) (X18 : Vec F S2x512x1 .f32)
    (s : St F) (hs : s = diaSt T (k0_off3 v3) (k0_off3_inb v1 v3 hchk h4) (k0_pay3 (F := F))) (K : PUnit → sProp 𝕄) :
    iprop(held c qs fk fq arg4 arg5 arg6 arg7 arg8 arg9 arg10 arg11 arg12 arg13 arg14 arg15 arg16 arg17 arg18 T X11 X12 X13 X14 X15 X16 X17 X18
        ∗ (held c qs fk fq arg4 arg5 arg6 arg7 arg8 arg9 arg10 arg11 arg12 arg13 arg14 arg15 arg16 arg17 arg18 T s.dq X12 X13 X14 X15 s.dk s.dv s.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨Tq, Tk, Tv, Tck, To, Tl', Td⟩ := T
  rw [cc0_attn_bwd_eq_skeleton]; unfold cc0_attn_bwd_skel
  unfold held owns
  iintro ⟨⟨HK, HQ, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  simp only at e4 e5 e6 e7 e8 e9 e10
  subst e4 e5 e6 e7 e8 e9 e10 e11 e12 e13 e14 e15 e16 e17 e18
  sl_exec
  have e1 : runA.sl.r c i fk = v1 := hK
  have e2 : runA.sl.r_1 c i fq = v3 := hQ
  clear hK hQ
  generalize runA.sl.r c i fk = w1 at e1 ⊢
  generalize runA.sl.r_1 c i fq = w3 at e2 ⊢
  subst e1; subst e2
  sl_exec_parts
  sl_step
  iapply Hk
  isplitl [HK]; · iexact HK
  isplitl [HQ]; · iexact HQ
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H17]
  · iexists _; isplitr; swap; · iexact H17
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  iexists _; isplitr; swap; · iexact H18
  ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl

set_option maxHeartbeats 4000000 in
/-- A later diagonal point, not the last. -/
theorem runB (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S1x512x128 .bf16) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S4096x128 .f32) (harg11 : arg11.IsWhole)
    (arg12 : Memref sig .tc .vmem S512x128 .bf16) (harg12 : arg12.IsWhole)
    (arg13 : Memref sig .tc .vmem S512x128 .bf16) (harg13 : arg13.IsWhole)
    (arg14 : Memref sig .tc .vmem S1x8x512 .f32) (harg14 : arg14.IsWhole)
    (arg15 : Memref sig .tc .vmem S1x8x512 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S2x512x1 .f32) (harg18 : arg18.IsWhole)
    (qs : PosShare TreeShare)
    (fk : Buf (Elt F) (tabK.view.loc (c : Thread nD τ))) (fq : Buf (Elt F) (tabQ.view.loc (c : Thread nD τ)))
    (v1 v3 : BitVec 32) (hK : word c tabK fk i = v1) (hQ : word c tabQ fq i = v3) (hchk : k0_chk1 v1 v3)
    (h1 : ¬ k0_cond1 v1 v3 = 1#1) (h2 : Scalar.cmpi .ne (Scalar.extui (Scalar.cmpi .eq v3 v1)) 0#32 = 1#1) (h3 : ¬ k0_cond3 v1 v3 = 1#1) (h4 : k0_cond4 v1 v3 = 1#1) (h5 : ¬ k0_cond5 v3 = 1#1)
    (T : Tl F) (X11 : Vec F S4096x128 .f32) (X12 X13 : Vec F S512x128 .bf16) (X14 X15 : Vec F S1x8x512 .f32) (X16 X17 : Vec F S512x128 .f32) (X18 : Vec F S2x512x1 .f32)
    (s : St F) (hs : s = diaSt T (k0_off3 v3) (k0_off3_inb v1 v3 hchk h4) X11) (K : PUnit → sProp 𝕄) :
    iprop(held c qs fk fq arg4 arg5 arg6 arg7 arg8 arg9 arg10 arg11 arg12 arg13 arg14 arg15 arg16 arg17 arg18 T X11 X12 X13 X14 X15 X16 X17 X18
        ∗ (held c qs fk fq arg4 arg5 arg6 arg7 arg8 arg9 arg10 arg11 arg12 arg13 arg14 arg15 arg16 arg17 arg18 T s.dq X12 X13 X14 X15 s.dk s.dv s.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨Tq, Tk, Tv, Tck, To, Tl', Td⟩ := T
  rw [cc0_attn_bwd_eq_skeleton]; unfold cc0_attn_bwd_skel
  unfold held owns
  iintro ⟨⟨HK, HQ, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  simp only at e4 e5 e6 e7 e8 e9 e10
  subst e4 e5 e6 e7 e8 e9 e10 e11 e12 e13 e14 e15 e16 e17 e18
  sl_exec
  have e1 : runB.sl.r c i fk = v1 := hK
  have e2 : runB.sl.r_1 c i fq = v3 := hQ
  clear hK hQ
  generalize runB.sl.r c i fk = w1 at e1 ⊢
  generalize runB.sl.r_1 c i fq = w3 at e2 ⊢
  subst e1; subst e2
  sl_exec_parts
  sl_step
  iapply Hk
  isplitl [HK]; · iexact HK
  isplitl [HQ]; · iexact HQ
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H17]
  · iexists _; isplitr; swap; · iexact H17
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  iexists _; isplitr; swap; · iexact H18
  ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl

set_option maxHeartbeats 4000000 in
/-- The last diagonal point. -/
theorem runC (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S1x512x128 .bf16) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S4096x128 .f32) (harg11 : arg11.IsWhole)
    (arg12 : Memref sig .tc .vmem S512x128 .bf16) (harg12 : arg12.IsWhole)
    (arg13 : Memref sig .tc .vmem S512x128 .bf16) (harg13 : arg13.IsWhole)
    (arg14 : Memref sig .tc .vmem S1x8x512 .f32) (harg14 : arg14.IsWhole)
    (arg15 : Memref sig .tc .vmem S1x8x512 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S2x512x1 .f32) (harg18 : arg18.IsWhole)
    (qs : PosShare TreeShare)
    (fk : Buf (Elt F) (tabK.view.loc (c : Thread nD τ))) (fq : Buf (Elt F) (tabQ.view.loc (c : Thread nD τ)))
    (v1 v3 : BitVec 32) (hK : word c tabK fk i = v1) (hQ : word c tabQ fq i = v3) (hchk : k0_chk1 v1 v3)
    (h1 : ¬ k0_cond1 v1 v3 = 1#1) (h2 : Scalar.cmpi .ne (Scalar.extui (Scalar.cmpi .eq v3 v1)) 0#32 = 1#1) (h3 : ¬ k0_cond3 v1 v3 = 1#1) (h4 : k0_cond4 v1 v3 = 1#1) (h5 : k0_cond5 v3 = 1#1)
    (T : Tl F) (X11 : Vec F S4096x128 .f32) (X12 X13 : Vec F S512x128 .bf16) (X14 X15 : Vec F S1x8x512 .f32) (X16 X17 : Vec F S512x128 .f32) (X18 : Vec F S2x512x1 .f32)
    (s : St F) (hs : s = diaSt T (k0_off3 v3) (k0_off3_inb v1 v3 hchk h4) X11) (K : PUnit → sProp 𝕄) :
    iprop(held c qs fk fq arg4 arg5 arg6 arg7 arg8 arg9 arg10 arg11 arg12 arg13 arg14 arg15 arg16 arg17 arg18 T X11 X12 X13 X14 X15 X16 X17 X18
        ∗ (held c qs fk fq arg4 arg5 arg6 arg7 arg8 arg9 arg10 arg11 arg12 arg13 arg14 arg15 arg16 arg17 arg18 T s.dq (outDk s) (outDv s) (outC0 s) (outC1 s) s.dk s.dv s.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨Tq, Tk, Tv, Tck, To, Tl', Td⟩ := T
  rw [cc0_attn_bwd_eq_skeleton]; unfold cc0_attn_bwd_skel
  unfold held owns
  iintro ⟨⟨HK, HQ, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  simp only at e4 e5 e6 e7 e8 e9 e10
  subst e4 e5 e6 e7 e8 e9 e10 e11 e12 e13 e14 e15 e16 e17 e18
  sl_exec
  have e1 : runC.sl.r c i fk = v1 := hK
  have e2 : runC.sl.r_1 c i fq = v3 := hQ
  clear hK hQ
  generalize runC.sl.r c i fk = w1 at e1 ⊢
  generalize runC.sl.r_1 c i fq = w3 at e2 ⊢
  subst e1; subst e2
  generalize hT : (do
      if k0_h5 : k0_cond5 w3 = 1#1 then do
        let v27 : Vec F S512x128 .f32 ← Prog.lift (.load arg16 (Rect.unit (s := S512x128) ![0, 0] S512x128.size inb_S512x128_S512x128_0_0).toLoadRect (View.loadsAt_vmem h_S512x128))
        let v29 : Vec F S512x128 .bf16 ← Prog.lift (.load arg12 (Rect.unit (s := S512x128) ![0, 0] S512x128.size inb_S512x128_S512x128_0_0).toLoadRect (View.loadsAt_vmem h_S512x128))
        Prog.lift (.store arg12 (Rect.unit (s := S512x128) ![0, 0] S512x128.size inb_S512x128_S512x128_0_0) (k0_pay11 v27) Finset.univ (View.stores_vmem h_S512x128 (harg12.storeExact_slice rfl _ packedbf16_S512x128_S512x128_0_0) (fun _ => rfl)) (.inl rfl))
        let w30 : Vec F S512x128 .f32 ← Prog.lift (.load arg17 (Rect.unit (s := S512x128) ![0, 0] S512x128.size inb_S512x128_S512x128_0_0).toLoadRect (View.loadsAt_vmem h_S512x128))
        let w32 : Vec F S512x128 .bf16 ← Prog.lift (.load arg13 (Rect.unit (s := S512x128) ![0, 0] S512x128.size inb_S512x128_S512x128_0_0).toLoadRect (View.loadsAt_vmem h_S512x128))
        Prog.lift (.store arg13 (Rect.unit (s := S512x128) ![0, 0] S512x128.size inb_S512x128_S512x128_0_0) (k0_pay12 w30) Finset.univ (View.stores_vmem h_S512x128 (harg13.storeExact_slice rfl _ packedbf16_S512x128_S512x128_0_0) (fun _ => rfl)) (.inl rfl))
        let w33 : Vec F S1x512x1 .f32 ← Prog.lift (.load arg18 (Rect.unit (s := S2x512x1) ![0, 0, 0] S1x512x1.size inb_S2x512x1_S1x512x1_0_0_0).toLoadRect (View.loadsAt_vmem h_S1x512x1))
        let w39 : Vec F S1x8x512 .f32 ← Prog.lift (.load arg14 (Rect.unit (s := S1x8x512) ![0, 0, 0] S1x8x512.size inb_S1x8x512_S1x8x512_0_0_0).toLoadRect (View.loadsAt_vmem h_S1x8x512))
        Prog.lift (.store arg14 (Rect.unit (s := S1x8x512) ![0, 0, 0] S1x8x512.size inb_S1x8x512_S1x8x512_0_0_0) (k0_pay13 w33) Finset.univ (View.stores_vmem_bits_univ h_S1x8x512 rfl) (.inl rfl))
        let v42 : Vec F S1x512x1 .f32 ← Prog.lift (.load arg18 (Rect.unit (s := S2x512x1) ![1, 0, 0] S1x512x1.size inb_S2x512x1_S1x512x1_1_0_0).toLoadRect (View.loadsAt_vmem h_S1x512x1))
        let v48 : Vec F S1x8x512 .f32 ← Prog.lift (.load arg15 (Rect.unit (s := S1x8x512) ![0, 0, 0] S1x8x512.size inb_S1x8x512_S1x8x512_0_0_0).toLoadRect (View.loadsAt_vmem h_S1x8x512))
        Prog.lift (.store arg15 (Rect.unit (s := S1x8x512) ![0, 0, 0] S1x8x512.size inb_S1x8x512_S1x8x512_0_0_0) (k0_pay14 v42) Finset.univ (View.stores_vmem_bits_univ h_S1x8x512 rfl) (.inl rfl))
        pure ⟨⟩
      else do
        pure ⟨⟩
      pure ⟨⟩
    : Prog (TpuEff nD τ sig (Elt F) Λ₀ .tc) PUnit) = tl
  sl_exec_parts
  ihave ⟨%g16, %e16, H16⟩ : iprop(∃ g, ⌜arg16.view.read (Elt F) g = s.dk⌝ ∗ (arg16.view.loc (c : Thread nD τ) ↦[arg16.view.set]{fullShare} g)) $$ [H16]
  · iexists _; isplitr; swap; · iexact H16
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  ihave ⟨%g17, %e17, H17⟩ : iprop(∃ g, ⌜arg17.view.read (Elt F) g = s.dv⌝ ∗ (arg17.view.loc (c : Thread nD τ) ↦[arg17.view.set]{fullShare} g)) $$ [H17]
  · iexists _; isplitr; swap; · iexact H17
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  ihave ⟨%g18, %e18, H18⟩ : iprop(∃ g, ⌜arg18.view.read (Elt F) g = s.dc⌝ ∗ (arg18.view.loc (c : Thread nD τ) ↦[arg18.view.set]{fullShare} g)) $$ [H18]
  · iexists _; isplitr; swap; · iexact H18
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  rw [← hT]
  sl_exec
  sl_step
  iapply Hk
  isplitl [HK]; · iexact HK
  isplitl [HQ]; · iexact HQ
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H12]
  · iexists _; isplitr; swap; · iexact H12
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e16]
  isplitl [H13]
  · iexists _; isplitr; swap; · iexact H13
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e17]
  isplitl [H14]
  · iexists _; isplitr; swap; · iexact H14
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e18]
  isplitl [H15]
  · iexists _; isplitr; swap; · iexact H15
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e18]
  isplitl [H16]
  · iexists _; isplitr; swap; · iexact H16
    ipureintro; exact e16
  isplitl [H17]
  · iexists _; isplitr; swap; · iexact H17
    ipureintro; exact e17
  iexists _; isplitr; swap; · iexact H18
  ipureintro; exact e18

set_option maxHeartbeats 4000000 in
/-- A point below the diagonal, not on the last query tile. -/
theorem runD (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S1x512x128 .bf16) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S4096x128 .f32) (harg11 : arg11.IsWhole)
    (arg12 : Memref sig .tc .vmem S512x128 .bf16) (harg12 : arg12.IsWhole)
    (arg13 : Memref sig .tc .vmem S512x128 .bf16) (harg13 : arg13.IsWhole)
    (arg14 : Memref sig .tc .vmem S1x8x512 .f32) (harg14 : arg14.IsWhole)
    (arg15 : Memref sig .tc .vmem S1x8x512 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S2x512x1 .f32) (harg18 : arg18.IsWhole)
    (qs : PosShare TreeShare)
    (fk : Buf (Elt F) (tabK.view.loc (c : Thread nD τ))) (fq : Buf (Elt F) (tabQ.view.loc (c : Thread nD τ)))
    (v1 v3 : BitVec 32) (hK : word c tabK fk i = v1) (hQ : word c tabQ fq i = v3) (hchk : k0_chk1 v1 v3)
    (h1 : ¬ k0_cond1 v1 v3 = 1#1) (h2 : ¬ Scalar.cmpi .ne (Scalar.extui (Scalar.cmpi .eq v3 v1)) 0#32 = 1#1) (h3 : k0_cond3 v1 v3 = 1#1) (h4 : ¬ k0_cond4 v1 v3 = 1#1) (h5 : ¬ k0_cond5 v3 = 1#1)
    (T : Tl F) (X11 : Vec F S4096x128 .f32) (X12 X13 : Vec F S512x128 .bf16) (X14 X15 : Vec F S1x8x512 .f32) (X16 X17 : Vec F S512x128 .f32) (X18 : Vec F S2x512x1 .f32)
    (s : St F) (hs : s = offSt T (k0_off2 v3) (k0_off2_inb v1 v3 hchk h3) ⟨X16, X17, X18, X11⟩) (K : PUnit → sProp 𝕄) :
    iprop(held c qs fk fq arg4 arg5 arg6 arg7 arg8 arg9 arg10 arg11 arg12 arg13 arg14 arg15 arg16 arg17 arg18 T X11 X12 X13 X14 X15 X16 X17 X18
        ∗ (held c qs fk fq arg4 arg5 arg6 arg7 arg8 arg9 arg10 arg11 arg12 arg13 arg14 arg15 arg16 arg17 arg18 T s.dq X12 X13 X14 X15 s.dk s.dv s.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨Tq, Tk, Tv, Tck, To, Tl', Td⟩ := T
  rw [cc0_attn_bwd_eq_skeleton]; unfold cc0_attn_bwd_skel
  unfold held owns
  iintro ⟨⟨HK, HQ, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  simp only at e4 e5 e6 e7 e8 e9 e10
  subst e4 e5 e6 e7 e8 e9 e10 e11 e12 e13 e14 e15 e16 e17 e18
  sl_exec
  have e1 : runD.sl.r c i fk = v1 := hK
  have e2 : runD.sl.r_1 c i fq = v3 := hQ
  clear hK hQ
  generalize runD.sl.r c i fk = w1 at e1 ⊢
  generalize runD.sl.r_1 c i fq = w3 at e2 ⊢
  subst e1; subst e2
  sl_exec_parts
  sl_step
  iapply Hk
  isplitl [HK]; · iexact HK
  isplitl [HQ]; · iexact HQ
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H12]
  · iexists _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H17]
  · iexists _; isplitr; swap; · iexact H17
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  iexists _; isplitr; swap; · iexact H18
  ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl

set_option maxHeartbeats 4000000 in
/-- A point below the diagonal on the last query tile. -/
theorem runE (c : Dev nD) (i : grid0.Coords)
    (arg4 : Memref sig .tc .vmem S512x128 .bf16) (harg4 : arg4.IsWhole)
    (arg5 : Memref sig .tc .vmem S512x128 .bf16) (harg5 : arg5.IsWhole)
    (arg6 : Memref sig .tc .vmem S512x128 .bf16) (harg6 : arg6.IsWhole)
    (arg7 : Memref sig .tc .vmem S1x512x128 .bf16) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S4096x128 .f32) (harg11 : arg11.IsWhole)
    (arg12 : Memref sig .tc .vmem S512x128 .bf16) (harg12 : arg12.IsWhole)
    (arg13 : Memref sig .tc .vmem S512x128 .bf16) (harg13 : arg13.IsWhole)
    (arg14 : Memref sig .tc .vmem S1x8x512 .f32) (harg14 : arg14.IsWhole)
    (arg15 : Memref sig .tc .vmem S1x8x512 .f32) (harg15 : arg15.IsWhole)
    (arg16 : Memref sig .tc .vmem S512x128 .f32) (harg16 : arg16.IsWhole)
    (arg17 : Memref sig .tc .vmem S512x128 .f32) (harg17 : arg17.IsWhole)
    (arg18 : Memref sig .tc .vmem S2x512x1 .f32) (harg18 : arg18.IsWhole)
    (qs : PosShare TreeShare)
    (fk : Buf (Elt F) (tabK.view.loc (c : Thread nD τ))) (fq : Buf (Elt F) (tabQ.view.loc (c : Thread nD τ)))
    (v1 v3 : BitVec 32) (hK : word c tabK fk i = v1) (hQ : word c tabQ fq i = v3) (hchk : k0_chk1 v1 v3)
    (h1 : ¬ k0_cond1 v1 v3 = 1#1) (h2 : ¬ Scalar.cmpi .ne (Scalar.extui (Scalar.cmpi .eq v3 v1)) 0#32 = 1#1) (h3 : k0_cond3 v1 v3 = 1#1) (h4 : ¬ k0_cond4 v1 v3 = 1#1) (h5 : k0_cond5 v3 = 1#1)
    (T : Tl F) (X11 : Vec F S4096x128 .f32) (X12 X13 : Vec F S512x128 .bf16) (X14 X15 : Vec F S1x8x512 .f32) (X16 X17 : Vec F S512x128 .f32) (X18 : Vec F S2x512x1 .f32)
    (s : St F) (hs : s = offSt T (k0_off2 v3) (k0_off2_inb v1 v3 hchk h3) ⟨X16, X17, X18, X11⟩) (K : PUnit → sProp 𝕄) :
    iprop(held c qs fk fq arg4 arg5 arg6 arg7 arg8 arg9 arg10 arg11 arg12 arg13 arg14 arg15 arg16 arg17 arg18 T X11 X12 X13 X14 X15 X16 X17 X18
        ∗ (held c qs fk fq arg4 arg5 arg6 arg7 arg8 arg9 arg10 arg11 arg12 arg13 arg14 arg15 arg16 arg17 arg18 T s.dq (outDk s) (outDv s) (outC0 s) (outC1 s) s.dk s.dv s.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  obtain ⟨Tq, Tk, Tv, Tck, To, Tl', Td⟩ := T
  rw [cc0_attn_bwd_eq_skeleton]; unfold cc0_attn_bwd_skel
  unfold held owns
  iintro ⟨⟨HK, HQ, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩⟩, Hk⟩
  simp only at e4 e5 e6 e7 e8 e9 e10
  subst e4 e5 e6 e7 e8 e9 e10 e11 e12 e13 e14 e15 e16 e17 e18
  sl_exec
  have e1 : runE.sl.r c i fk = v1 := hK
  have e2 : runE.sl.r_1 c i fq = v3 := hQ
  clear hK hQ
  generalize runE.sl.r c i fk = w1 at e1 ⊢
  generalize runE.sl.r_1 c i fq = w3 at e2 ⊢
  subst e1; subst e2
  generalize hT : (do
      if k0_h5 : k0_cond5 w3 = 1#1 then do
        let v27 : Vec F S512x128 .f32 ← Prog.lift (.load arg16 (Rect.unit (s := S512x128) ![0, 0] S512x128.size inb_S512x128_S512x128_0_0).toLoadRect (View.loadsAt_vmem h_S512x128))
        let v29 : Vec F S512x128 .bf16 ← Prog.lift (.load arg12 (Rect.unit (s := S512x128) ![0, 0] S512x128.size inb_S512x128_S512x128_0_0).toLoadRect (View.loadsAt_vmem h_S512x128))
        Prog.lift (.store arg12 (Rect.unit (s := S512x128) ![0, 0] S512x128.size inb_S512x128_S512x128_0_0) (k0_pay11 v27) Finset.univ (View.stores_vmem h_S512x128 (harg12.storeExact_slice rfl _ packedbf16_S512x128_S512x128_0_0) (fun _ => rfl)) (.inl rfl))
        let w30 : Vec F S512x128 .f32 ← Prog.lift (.load arg17 (Rect.unit (s := S512x128) ![0, 0] S512x128.size inb_S512x128_S512x128_0_0).toLoadRect (View.loadsAt_vmem h_S512x128))
        let w32 : Vec F S512x128 .bf16 ← Prog.lift (.load arg13 (Rect.unit (s := S512x128) ![0, 0] S512x128.size inb_S512x128_S512x128_0_0).toLoadRect (View.loadsAt_vmem h_S512x128))
        Prog.lift (.store arg13 (Rect.unit (s := S512x128) ![0, 0] S512x128.size inb_S512x128_S512x128_0_0) (k0_pay12 w30) Finset.univ (View.stores_vmem h_S512x128 (harg13.storeExact_slice rfl _ packedbf16_S512x128_S512x128_0_0) (fun _ => rfl)) (.inl rfl))
        let w33 : Vec F S1x512x1 .f32 ← Prog.lift (.load arg18 (Rect.unit (s := S2x512x1) ![0, 0, 0] S1x512x1.size inb_S2x512x1_S1x512x1_0_0_0).toLoadRect (View.loadsAt_vmem h_S1x512x1))
        let w39 : Vec F S1x8x512 .f32 ← Prog.lift (.load arg14 (Rect.unit (s := S1x8x512) ![0, 0, 0] S1x8x512.size inb_S1x8x512_S1x8x512_0_0_0).toLoadRect (View.loadsAt_vmem h_S1x8x512))
        Prog.lift (.store arg14 (Rect.unit (s := S1x8x512) ![0, 0, 0] S1x8x512.size inb_S1x8x512_S1x8x512_0_0_0) (k0_pay13 w33) Finset.univ (View.stores_vmem_bits_univ h_S1x8x512 rfl) (.inl rfl))
        let v42 : Vec F S1x512x1 .f32 ← Prog.lift (.load arg18 (Rect.unit (s := S2x512x1) ![1, 0, 0] S1x512x1.size inb_S2x512x1_S1x512x1_1_0_0).toLoadRect (View.loadsAt_vmem h_S1x512x1))
        let v48 : Vec F S1x8x512 .f32 ← Prog.lift (.load arg15 (Rect.unit (s := S1x8x512) ![0, 0, 0] S1x8x512.size inb_S1x8x512_S1x8x512_0_0_0).toLoadRect (View.loadsAt_vmem h_S1x8x512))
        Prog.lift (.store arg15 (Rect.unit (s := S1x8x512) ![0, 0, 0] S1x8x512.size inb_S1x8x512_S1x8x512_0_0_0) (k0_pay14 v42) Finset.univ (View.stores_vmem_bits_univ h_S1x8x512 rfl) (.inl rfl))
        pure ⟨⟩
      else do
        pure ⟨⟩
      pure ⟨⟩
    : Prog (TpuEff nD τ sig (Elt F) Λ₀ .tc) PUnit) = tl
  sl_exec_parts
  ihave ⟨%g16, %e16, H16⟩ : iprop(∃ g, ⌜arg16.view.read (Elt F) g = s.dk⌝ ∗ (arg16.view.loc (c : Thread nD τ) ↦[arg16.view.set]{fullShare} g)) $$ [H16]
  · iexists _; isplitr; swap; · iexact H16
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  ihave ⟨%g17, %e17, H17⟩ : iprop(∃ g, ⌜arg17.view.read (Elt F) g = s.dv⌝ ∗ (arg17.view.loc (c : Thread nD τ) ↦[arg17.view.set]{fullShare} g)) $$ [H17]
  · iexists _; isplitr; swap; · iexact H17
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  ihave ⟨%g18, %e18, H18⟩ : iprop(∃ g, ⌜arg18.view.read (Elt F) g = s.dc⌝ ∗ (arg18.view.loc (c : Thread nD τ) ↦[arg18.view.set]{fullShare} g)) $$ [H18]
  · iexists _; isplitr; swap; · iexact H18
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  rw [← hT]
  sl_exec
  sl_step
  iapply Hk
  isplitl [HK]; · iexact HK
  isplitl [HQ]; · iexact HQ
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; rw [hs]; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rfl
  isplitl [H12]
  · iexists _; isplitr; swap; · iexact H12
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e16]
  isplitl [H13]
  · iexists _; isplitr; swap; · iexact H13
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e17]
  isplitl [H14]
  · iexists _; isplitr; swap; · iexact H14
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e18]
  isplitl [H15]
  · iexists _; isplitr; swap; · iexact H15
    ipureintro; sl_open_run; simp only [View.readCov, readAt_window, read_put, View.writes_nil, win_put_plane, win_S512x128, put_S512x128, win_S1x512x128, put_S1x512x128, win_S4096x128, put_S4096x128, win_S2x512x1, put_S2x512x1, win_S1x8x512, put_S1x8x512]; rw [e18]
  isplitl [H16]
  · iexists _; isplitr; swap; · iexact H16
    ipureintro; exact e16
  isplitl [H17]
  · iexists _; isplitr; swap; · iexact H17
    ipureintro; exact e17
  iexists _; isplitr; swap; · iexact H18
  ipureintro; exact e18

end Cert.KernelIdeal.Hand
end
-- ==== Proof.Tab.lean ====
module

public import proofs.«01_k».proof.Proof.Body

/-! What the two prefetched tables hold, and from them the block every window takes at every point. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The tables as the host fills them. -/
abbrev tabs : pre0.Contents (Elt F) := fun
  | 0 => fun i => lit0 (S36.rowMajor i)
  | 1 => fun i => lit1 (S36.rowMajor i)
  | ⟨_ + 2, h⟩ => absurd h (Nat.not_lt.2 (Nat.le_add_left _ _))

/-- The place of the word a point reads. -/
theorem place (i : grid0.Coords) :
    S36.rowMajor ((Rect.unit (s := S36) (k0_off1 i) S1.size (k0_off1_inb i)).toLoadRect.idx (Shape.Idx.first (numel1_S1.symm ▸ Nat.one_pos))) = i 1 := by
  refine Fin.ext ?_
  revert i; decide +kernel

theorem wordK (c : Dev nD) (i : grid0.Coords) : word (F := F) c tabK (tabs 0) i = lit0 (i 1) :=
  congrArg lit0 (place i)
theorem wordQ (c : Dev nD) (i : grid0.Coords) : word (F := F) c tabQ (tabs 1) i = lit1 (i 1) :=
  congrArg lit1 (place i)

theorem atK (i : grid0.Coords) : (tabs (F := F)).at 0 (Rect.unit (s := S36) (k0_off1 i) S1.size (k0_off1_inb i)) numel1_S1 = lit0 (i 1) :=
  congrArg lit0 (place i)
theorem atQ (i : grid0.Coords) : (tabs (F := F)).at 1 (Rect.unit (s := S36) (k0_off1 i) S1.size (k0_off1_inb i)) numel1_S1 = lit1 (i 1) :=
  congrArg lit1 (place i)

/-- The pair of a point. -/
abbrev pr (i : grid0.Coords) : Fin 36 := i 1

/-- The key tile and the query tile of a pair. -/
def ki (j : Fin 36) : Nat := (lit0 j).toNat
def qi (j : Fin 36) : Nat := (lit1 j).toNat

theorem tr0 (i : grid0.Coords) : cc0_transform_0 k0_off1_inb numel1_S1 (tabs (F := F)) i = ![qi (i 1), 24 + (i 0).val] := by
  have h : (Scalar.addi 24#32 (BitVec.ofNat 32 (i 0).val)).toNat = 24 + (i 0).val := by revert i; decide +kernel
  show ![(BitVec.toNat _), BitVec.toNat _] = _
  rw [show (Scalar.addi 24#32 (BitVec.ofNat 32 (i 0).val)) = (Scalar.addi 24#32 (BitVec.ofNat 32 (i 0).val)) from rfl, h]
  exact congrArg (fun x : BitVec 32 => ![x.toNat, 24 + (i 0).val]) (atQ i)
theorem tr1 (i : grid0.Coords) : cc0_transform_1 k0_off1_inb numel1_S1 (tabs (F := F)) i = ![ki (i 1), 28 + (i 0).val] := by
  have h : (Scalar.addi 28#32 (BitVec.ofNat 32 (i 0).val)).toNat = 28 + (i 0).val := by revert i; decide +kernel
  show ![(BitVec.toNat _), BitVec.toNat _] = _
  rw [h]
  exact congrArg (fun x : BitVec 32 => ![x.toNat, 28 + (i 0).val]) (atK i)
theorem tr2 (i : grid0.Coords) : cc0_transform_2 k0_off1_inb numel1_S1 (tabs (F := F)) i = ![ki (i 1), 32 + (i 0).val] := by
  have h : (Scalar.addi 32#32 (BitVec.ofNat 32 (i 0).val)).toNat = 32 + (i 0).val := by revert i; decide +kernel
  show ![(BitVec.toNat _), BitVec.toNat _] = _
  rw [h]
  exact congrArg (fun x : BitVec 32 => ![x.toNat, 32 + (i 0).val]) (atK i)
theorem num0 (i : grid0.Coords) : (BitVec.ofNat 32 (i 0).val).toNat = (i 0).val := by revert i; decide +kernel
theorem tr3 (i : grid0.Coords) : cc0_transform_3 k0_off1_inb numel1_S1 (tabs (F := F)) i = ![(i 0).val, ki (i 1), 0] := by
  show ![(BitVec.ofNat 32 (i 0).val).toNat, _, _] = _
  rw [num0]
  exact congrArg (fun x : BitVec 32 => ![(i 0).val, x.toNat, 0]) (atK i)
theorem tr4 (i : grid0.Coords) : cc0_transform_4 k0_off1_inb numel1_S1 (tabs (F := F)) i = ![qi (i 1), (i 0).val] := by
  show ![_, (BitVec.ofNat 32 (i 0).val).toNat] = _
  rw [num0]
  exact congrArg (fun x : BitVec 32 => ![x.toNat, (i 0).val]) (atQ i)
theorem tr5 (i : grid0.Coords) : cc0_transform_5 k0_off1_inb numel1_S1 (tabs (F := F)) i = ![qi (i 1), (i 0).val] := tr4 i
theorem tr6 (i : grid0.Coords) : cc0_transform_6 k0_off1_inb numel1_S1 (tabs (F := F)) i = ![qi (i 1), (i 0).val] := tr4 i
theorem tr7 (i : grid0.Coords) : cc0_transform_7 i = ![0, (i 0).val] := by
  show ![_, (BitVec.ofNat 32 (i 0).val).toNat] = _
  rw [num0]; rfl
theorem tr8 (i : grid0.Coords) : cc0_transform_8 k0_off1_inb numel1_S1 (tabs (F := F)) i = ![ki (i 1), (i 0).val] := by
  show ![_, (BitVec.ofNat 32 (i 0).val).toNat] = _
  rw [num0]
  exact congrArg (fun x : BitVec 32 => ![x.toNat, (i 0).val]) (atK i)
theorem tr9 (i : grid0.Coords) : cc0_transform_9 k0_off1_inb numel1_S1 (tabs (F := F)) i = ![ki (i 1), (i 0).val] := tr8 i
theorem tr10 (i : grid0.Coords) : cc0_transform_10 k0_off1_inb numel1_S1 (tabs (F := F)) i = ![(i 0).val, 0, ki (i 1)] := by
  show ![(BitVec.ofNat 32 (i 0).val).toNat, _, _] = _
  rw [num0]
  exact congrArg (fun x : BitVec 32 => ![(i 0).val, 0, x.toNat]) (atK i)
theorem tr11 (i : grid0.Coords) : cc0_transform_11 k0_off1_inb numel1_S1 (tabs (F := F)) i = ![(i 0).val, 0, ki (i 1)] := tr10 i

/-- A block of the closed form for a block of the transform. -/
theorem ok_of (s : Shape) (size : Fin s.rank → Nat) (p b : Nat) {f g : Fin s.rank → Nat} (e : f = g)
    (h : ∃ h : (∀ a, (g a + 1) * size a ≤ s.size a), b = 32 ∨ (Rect.block (s := s) size g h).WholeWords p) :
    ∃ h : (∀ a, (f a + 1) * size a ≤ s.size a), b = 32 ∨ (Rect.block (s := s) size f h).WholeWords p := by
  subst e; exact h

set_option maxHeartbeats 1000000 in
theorem ok_tabs : ok0 (F := F) tabs := by
  refine ⟨fun i => ok_of S4096x6144 S512x128.size (EltTy.packing .bf16) (EltTy.bits .bf16) (tr0 i) ?_, fun i => ok_of S4096x6144 S512x128.size (EltTy.packing .bf16) (EltTy.bits .bf16) (tr1 i) ?_, fun i => ok_of S4096x6144 S512x128.size (EltTy.packing .bf16) (EltTy.bits .bf16) (tr2 i) ?_, fun i => ok_of S4x4096x128 S1x512x128.size (EltTy.packing .bf16) (EltTy.bits .bf16) (tr3 i) ?_, fun i => ok_of S4096x512 S512x128.size (EltTy.packing .f32) (EltTy.bits .f32) (tr4 i) ?_,
    fun i => ok_of S4096x512 S512x128.size (EltTy.packing .f32) (EltTy.bits .f32) (tr5 i) ?_, fun i => ok_of S4096x512 S512x128.size (EltTy.packing .bf16) (EltTy.bits .bf16) (tr6 i) ?_, fun i => ok_of S4096x512 S512x128.size (EltTy.packing .bf16) (EltTy.bits .bf16) (tr8 i) ?_, fun i => ok_of S4096x512 S512x128.size (EltTy.packing .bf16) (EltTy.bits .bf16) (tr9 i) ?_, fun i => ok_of S4x8x4096 S1x8x512.size (EltTy.packing .f32) (EltTy.bits .f32) (tr10 i) ?_,
    fun i => ok_of S4x8x4096 S1x8x512.size (EltTy.packing .f32) (EltTy.bits .f32) (tr11 i) ?_⟩
  all_goals revert i; decide +kernel

/-! ## What the guards say at each pair -/

theorem off_inb : ∀ (j : Fin 36) a, k0_off3 (lit1 j) a + S512x128.size a ≤ S4096x128.size a := by decide +kernel
theorem chk : ∀ j : Fin 36, k0_chk1 (lit0 j) (lit1 j) := by decide +kernel
theorem dia_iff : ∀ j : Fin 36, k0_cond4 (lit0 j) (lit1 j) = 1#1 ↔ ki j = qi j := by decide +kernel
theorem off_iff : ∀ j : Fin 36, k0_cond3 (lit0 j) (lit1 j) = 1#1 ↔ ki j ≠ qi j := by decide +kernel
theorem new_iff : ∀ j : Fin 36, Scalar.cmpi .ne (Scalar.extui (Scalar.cmpi .eq (lit1 j) (lit0 j))) 0#32 = 1#1 ↔ ki j = qi j := by decide +kernel
theorem fst_iff : ∀ j : Fin 36, k0_cond1 (lit0 j) (lit1 j) = 1#1 ↔ j = 0 := by decide +kernel
theorem lst_iff : ∀ j : Fin 36, k0_cond5 (lit1 j) = 1#1 ↔ qi j = 7 := by decide +kernel

/-- One pair's step: what the next point finds, from the tiles and what this point found. -/
def stepSt (j : Fin 36) (T : Tl F) (s : St F) : St F :=
  if ki j = qi j then diaSt T (k0_off3 (lit1 j)) (off_inb j) (if j = 0 then k0_pay3 (F := F) else s.dq)
  else offSt T (k0_off3 (lit1 j)) (off_inb j) s

end Cert.KernelIdeal.Hand
-- ==== Proof.Run.lean ====
module

public import proofs.«01_k».proof.Proof.Tab

/-! The launch: what every window holds when the body runs, what the body leaves, and the whole run. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The body at any pair -/

/-- The body at a pair: the sums it leaves are one step from those it found, and at the last query tile they go out. -/
theorem run_pair (c : Dev nD) (i : grid0.Coords) (arg4 : Memref sig .tc .vmem S512x128 .bf16) (harg4 : arg4.IsWhole) (arg5 : Memref sig .tc .vmem S512x128 .bf16) (harg5 : arg5.IsWhole) (arg6 : Memref sig .tc .vmem S512x128 .bf16) (harg6 : arg6.IsWhole) (arg7 : Memref sig .tc .vmem S1x512x128 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .bf16) (harg10 : arg10.IsWhole) (arg11 : Memref sig .tc .vmem S4096x128 .f32) (harg11 : arg11.IsWhole) (arg12 : Memref sig .tc .vmem S512x128 .bf16) (harg12 : arg12.IsWhole) (arg13 : Memref sig .tc .vmem S512x128 .bf16) (harg13 : arg13.IsWhole) (arg14 : Memref sig .tc .vmem S1x8x512 .f32) (harg14 : arg14.IsWhole) (arg15 : Memref sig .tc .vmem S1x8x512 .f32) (harg15 : arg15.IsWhole) (arg16 : Memref sig .tc .vmem S512x128 .f32) (harg16 : arg16.IsWhole) (arg17 : Memref sig .tc .vmem S512x128 .f32) (harg17 : arg17.IsWhole) (arg18 : Memref sig .tc .vmem S2x512x1 .f32) (harg18 : arg18.IsWhole)
    (qs : PosShare TreeShare) (T : Tl F) (X11 : Vec F S4096x128 .f32) (X12 X13 : Vec F S512x128 .bf16) (X14 X15 : Vec F S1x8x512 .f32) (X16 X17 : Vec F S512x128 .f32) (X18 : Vec F S2x512x1 .f32)
    (s s' : St F) (hX : pr i ≠ 0 → (⟨X16, X17, X18, X11⟩ : St F) = s) (hs' : s' = stepSt (pr i) T s) (K : PUnit → sProp 𝕄) :
    iprop(held c qs (tabs 0) (tabs 1) arg4 arg5 arg6 arg7 arg8 arg9 arg10 arg11 arg12 arg13 arg14 arg15 arg16 arg17 arg18 T X11 X12 X13 X14 X15 X16 X17 X18
        ∗ (held c qs (tabs 0) (tabs 1) arg4 arg5 arg6 arg7 arg8 arg9 arg10 arg11 arg12 arg13 arg14 arg15 arg16 arg17 arg18 T s'.dq (if qi (pr i) = 7 then outDk s' else X12) (if qi (pr i) = 7 then outDv s' else X13)
            (if qi (pr i) = 7 then outC0 s' else X14) (if qi (pr i) = 7 then outC1 s' else X15) s'.dk s'.dv s'.dc -∗ K ⟨⟩))
      ⊢ wp frame (wpE (defs₀ (F := F)) Variants.none c none) Set.univ
          (cc0_attn_bwd i tabK (Memref.isWhole_whole _) tabQ (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hd : ki (pr i) = qi (pr i)
  · have hs : s' = diaSt T (k0_off3 (lit1 (pr i))) (off_inb (pr i)) (if pr i = 0 then k0_pay3 (F := F) else s.dq) := by
      rw [hs']; unfold stepSt; rw [if_pos hd]
    by_cases h0 : pr i = 0
    · have h7 : ¬ qi (pr i) = 7 := by rw [h0]; decide
      rw [if_neg h7, if_neg h7, if_neg h7, if_neg h7]
      rw [if_pos h0] at hs
      iapply (runA c i _ _ _ _ _ _ _ _ _ _ _ _ _ _ _ _ _ _ _ _ _ _ _ _ _ _ _ _ _ _ qs (tabs 0) (tabs 1) (lit0 (pr i)) (lit1 (pr i)) (wordK c i) (wordQ c i) (chk (pr i)) ((fst_iff _).2 h0) ((new_iff _).2 hd) (fun h => (off_iff _).1 h hd) ((dia_iff _).2 hd) (fun h => h7 ((lst_iff _).1 h)) T X11 X12 X13 X14 X15 X16 X17 X18 s' (hs) K)
    · have hx := hX h0
      rw [if_neg h0, ← hx] at hs
      by_cases h7 : qi (pr i) = 7
      · rw [if_pos h7, if_pos h7, if_pos h7, if_pos h7]
        iapply (runC c i _ _ _ _ _ _ _ _ _ _ _ _ _ _ _ _ _ _ _ _ _ _ _ _ _ _ _ _ _ _ qs (tabs 0) (tabs 1) (lit0 (pr i)) (lit1 (pr i)) (wordK c i) (wordQ c i) (chk (pr i)) (fun h => h0 ((fst_iff _).1 h)) ((new_iff _).2 hd) (fun h => (off_iff _).1 h hd) ((dia_iff _).2 hd) ((lst_iff _).2 h7) T X11 X12 X13 X14 X15 X16 X17 X18 s' (hs) K)
      · rw [if_neg h7, if_neg h7, if_neg h7, if_neg h7]
        iapply (runB c i _ _ _ _ _ _ _ _ _ _ _ _ _ _ _ _ _ _ _ _ _ _ _ _ _ _ _ _ _ _ qs (tabs 0) (tabs 1) (lit0 (pr i)) (lit1 (pr i)) (wordK c i) (wordQ c i) (chk (pr i)) (fun h => h0 ((fst_iff _).1 h)) ((new_iff _).2 hd) (fun h => (off_iff _).1 h hd) ((dia_iff _).2 hd) (fun h => h7 ((lst_iff _).1 h)) T X11 X12 X13 X14 X15 X16 X17 X18 s' (hs) K)
  · have h0 : pr i ≠ 0 := fun h => hd (by rw [h]; decide)
    have hx := hX h0
    have hs : s' = offSt T (k0_off3 (lit1 (pr i))) (off_inb (pr i)) ⟨X16, X17, X18, X11⟩ := by
      rw [hs', hx]; unfold stepSt; rw [if_neg hd]
    by_cases h7 : qi (pr i) = 7
    · rw [if_pos h7, if_pos h7, if_pos h7, if_pos h7]
      iapply (runE c i _ _ _ _ _ _ _ _ _ _ _ _ _ _ _ _ _ _ _ _ _ _ _ _ _ _ _ _ _ _ qs (tabs 0) (tabs 1) (lit0 (pr i)) (lit1 (pr i)) (wordK c i) (wordQ c i) (chk (pr i)) (fun h => h0 ((fst_iff _).1 h)) (fun h => hd ((new_iff _).1 h)) ((off_iff _).2 hd) (fun h => hd ((dia_iff _).1 h)) ((lst_iff _).2 h7) T X11 X12 X13 X14 X15 X16 X17 X18 s' (hs) K)
    · rw [if_neg h7, if_neg h7, if_neg h7, if_neg h7]
      iapply (runD c i _ _ _ _ _ _ _ _ _ _ _ _ _ _ _ _ _ _ _ _ _ _ _ _ _ _ _ _ _ _ qs (tabs 0) (tabs 1) (lit0 (pr i)) (lit1 (pr i)) (wordK c i) (wordQ c i) (chk (pr i)) (fun h => h0 ((fst_iff _).1 h)) (fun h => hd ((new_iff _).1 h)) ((off_iff _).2 hd) (fun h => hd ((dia_iff _).1 h)) (fun h => h7 ((lst_iff _).1 h)) T X11 X12 X13 X14 X15 X16 X17 X18 s' (hs) K)

/-! ## The launch's data -/

/-- The tables' contents, with the windows' side conditions of them. -/
abbrev adm : (pcfg0 (F := F)).Adm := ⟨tabs, ok_tabs⟩
abbrev adms : (p : Fin 1) → (pcfgs (F := F) p).Adm := fun _ => adm

variable (V : (c : Dev nD) → (b : Ref sig .tc) → Buf (Elt F) ((c.tc : Thread nD τ).loc b))

/-- The block of window `w`'s array at point `t`. -/
abbrev blockAt (c : Dev nD) (w : Fin 12) (t : Fin grid0.N) : ((cfg0 (F := F) adm).win w).block.Idx → Elt F ((cfg0 (F := F) adm).win w).elt :=
  (((cfg0 (F := F) adm).win w).blk t).view.read (Elt F) (V c (Pipeline.arrRef spec0 w))

/-- The tiles at point `t`. -/
def tl (c : Dev nD) (t : Fin grid0.N) : Tl F :=
  ⟨blockAt V c 0 t, blockAt V c 1 t, blockAt V c 2 t, blockAt V c 3 t, blockAt V c 4 t, blockAt V c 5 t, blockAt V c 6 t⟩

/-- The sums before point `n`. -/
def stAt (c : Dev nD) : ℕ → St F
  | 0 => ⟨fun _ => FloatOps.ofBits .f32 0, fun _ => FloatOps.ofBits .f32 0, fun _ => FloatOps.ofBits .f32 0, fun _ => FloatOps.ofBits .f32 0⟩
  | n + 1 => if h : n < grid0.N then stepSt (pr (grid0.coords ⟨n, h⟩)) (tl V c ⟨n, h⟩) (stAt c n) else stAt c n

theorem stAt_succ (c : Dev nD) (t : Fin grid0.N) : stAt V c (t.val + 1) = stepSt (pr (grid0.coords t)) (tl V c t) (stAt V c t.val) := by
  show (if h : t.val < grid0.N then _ else _) = _
  rw [dif_pos t.isLt]

/-- What the body leaves in each window's buffer. -/
def left (c : Dev nD) : (w : Fin 12) → Fin grid0.N → (Y X : ((cfg0 (F := F) adm).win w).block.Idx → Elt F ((cfg0 (F := F) adm).win w).elt) → Prop := fun
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun t Y X => X = (stAt V c (t.val + 1)).dq
  | 8 => fun t Y X => qi (pr (grid0.coords t)) = 7 → X = outDk (stAt V c (t.val + 1))
  | 9 => fun t Y X => qi (pr (grid0.coords t)) = 7 → X = outDv (stAt V c (t.val + 1))
  | 10 => fun t Y X => qi (pr (grid0.coords t)) = 7 → X = outC0 (stAt V c (t.val + 1))
  | 11 => fun t Y X => qi (pr (grid0.coords t)) = 7 → X = outC1 (stAt V c (t.val + 1))
  | ⟨_ + 12, h⟩ => absurd h (Nat.not_lt.2 (Nat.le_add_left _ _))

/-- Between the points: the tables, the generator's register, and the three sums. -/
def inv (c : Dev nD) (t : Fin (grid0.N + 1)) : sProp 𝕄 :=
  iprop((∃ r, prngReg c r) ∗ (tabK.view.loc (c : Thread nD τ) ↦{fullShare.right} tabs 0) ∗ (tabQ.view.loc (c : Thread nD τ) ↦{fullShare.right} tabs 1)
    ∗ ∃ (x : Vec F S512x128 .f32) (y : Vec F S512x128 .f32) (z : Vec F S2x512x1 .f32),
      ⌜t.val ≠ 0 → x = (stAt V c t.val).dk ∧ y = (stAt V c t.val).dv ∧ z = (stAt V c t.val).dc⌝
      ∗ owns (c : Thread nD τ) (Memref.whole cc0_scratch0) fullShare x ∗ owns (c : Thread nD τ) (Memref.whole cc0_scratch1) fullShare y
      ∗ owns (c : Thread nD τ) (Memref.whole cc0_scratch2) fullShare z)

/-- The launch's data at the arrays' contents. -/
def data (c : Dev nD) : Pipeline.RDat τ (Elt F) Unit ℕ (UR sig nD τ) ℕ (cfg0 (F := F) adm) c where
  A w := V c (Pipeline.arrRef spec0 w)
  after := left V c
  Φ := inv V c
  q := Pipeline.shareOf spec0
  owed _ := 0

theorem found (c : Dev nD) (w : Fin 12) (hw : ((cfg0 (F := F) adm).win w).isOut = false) (hk : ∀ t Y X, left V c w t Y X → X = Y)
    (hf : ∀ t d, (data V c).fetched w t d = blockAt V c w t) (t : Fin grid0.N) (Y) (h : (data V c).Finds w t Y) : Y = blockAt V c w t := by
  obtain ⟨d, e⟩ := (data V c).finds_in_eq_fetched w hw (fun _ _ _ => rfl) hk t Y h
  exact e.trans (hf t d)

theorem before_lt (t : Fin grid0.N) : t.val - 1 < grid0.N := Nat.lt_of_le_of_lt (Nat.sub_le _ _) t.isLt

theorem dq_same : ∀ t : Fin grid0.N, pr (grid0.coords t) ≠ 0 → 0 < t.val ∧ cc0_transform_7 (grid0.coords t) = cc0_transform_7 (grid0.coords ⟨t.val - 1, before_lt t⟩) := by
  decide +kernel

/-- The queries' column is written back at a head pair's last point only. -/
theorem dq_kept (t : Fin grid0.N) (h0 : pr (grid0.coords t) ≠ 0) (h) : ((cfg0 (F := F) adm).win 7).flush ⟨t.val - 1, h⟩ = false := by
  obtain ⟨hp, e⟩ := dq_same t h0
  have ht := t.isLt
  unfold Pipeline.Window.flush
  rw [Bool.and_eq_false_iff]; right
  rw [Bool.or_eq_false_iff]
  refine ⟨decide_eq_false (by show ¬ t.val - 1 + 1 = grid0.N; omega), decide_eq_false ?_⟩
  rintro ⟨h', hne⟩
  refine hne ?_
  have et : (⟨t.val - 1 + 1, h'⟩ : Fin grid0.N) = t := Fin.ext (Nat.sub_add_cancel hp)
  show cc0_transform_7 (grid0.coords ⟨t.val - 1 + 1, h'⟩) = cc0_transform_7 (grid0.coords ⟨t.val - 1, h⟩)
  rw [et]; exact e

theorem found_dq (c : Dev nD) (t : Fin grid0.N) (Y) (h : (data V c).Finds 7 t Y) (h0 : pr (grid0.coords t) ≠ 0) : Y = (stAt V c t.val).dq := by
  have ht : t.val ≠ 0 := by have := (dq_same t h0).1; omega
  rcases ((data V c).finds_of_pos (w := 7) rfl ht Y).1 h with hf | ⟨Z, -, hZ⟩
  · rw [dq_kept t h0] at hf; exact absurd hf Bool.false_ne_true
  · have e : Y = (stAt V c (t.val - 1 + 1)).dq := hZ
    rw [e, Nat.sub_add_cancel (Nat.pos_of_ne_zero ht)]

theorem left_if {α : Type} {p : Prop} [Decidable p] {a b x : α} (hx : x = if p then a else b) (h : p) : x = a := by rw [hx, if_pos h]

/-- The body's obligation with its parts written out. -/
theorem sound (c : Dev nD) (t : Fin grid0.N) (Y : (w : Fin 12) → ((cfg0 (F := F) adm).win w).block.Idx → Elt F ((cfg0 (F := F) adm).win w).elt)
    (hY : ∀ w, (data V c).Finds w t (Y w)) (s : (w : Fin 12) → Fin (spec0 w).nbuf) :
    iprop(inv V c t.castSucc ∗ (data V c).owesAt () t.castSucc ∗ owns (c : Thread nD τ) (spec0_0.stage (s 0)) fullShare (Y 0) ∗ owns (c : Thread nD τ) (spec0_1.stage (s 1)) fullShare (Y 1) ∗ owns (c : Thread nD τ) (spec0_2.stage (s 2)) fullShare (Y 2) ∗ owns (c : Thread nD τ) (spec0_3.stage (s 3)) fullShare (Y 3) ∗ owns (c : Thread nD τ) (spec0_4.stage (s 4)) fullShare (Y 4) ∗ owns (c : Thread nD τ) (spec0_5.stage (s 5)) fullShare (Y 5) ∗ owns (c : Thread nD τ) (spec0_6.stage (s 6)) fullShare (Y 6) ∗ owns (c : Thread nD τ) (spec0_7.stage (s 7)) fullShare (Y 7) ∗ owns (c : Thread nD τ) (spec0_8.stage (s 8)) fullShare (Y 8) ∗ owns (c : Thread nD τ) (spec0_9.stage (s 9)) fullShare (Y 9) ∗ owns (c : Thread nD τ) (spec0_10.stage (s 10)) fullShare (Y 10) ∗ owns (c : Thread nD τ) (spec0_11.stage (s 11)) fullShare (Y 11))
      ⊢ wp frame (wpE (defs₀ (F := F)) Variants.none c none) Set.univ
          (cc0_attn_bwd (grid0.coords t) tabK (Memref.isWhole_whole _) tabQ (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (spec0_3.stage (s 3)) (hstage0_3 ((s 3).cast nbuf0_3)) (spec0_4.stage (s 4)) (hstage0_4 ((s 4).cast nbuf0_4)) (spec0_5.stage (s 5)) (hstage0_5 ((s 5).cast nbuf0_5)) (spec0_6.stage (s 6)) (hstage0_6 ((s 6).cast nbuf0_6)) (spec0_7.stage (s 7)) (hstage0_7 ((s 7).cast nbuf0_7)) (spec0_8.stage (s 8)) (hstage0_8 ((s 8).cast nbuf0_8)) (spec0_9.stage (s 9)) (hstage0_9 ((s 9).cast nbuf0_9)) (spec0_10.stage (s 10)) (hstage0_10 ((s 10).cast nbuf0_10)) (spec0_11.stage (s 11)) (hstage0_11 ((s 11).cast nbuf0_11)) (Memref.whole cc0_scratch0) (Memref.isWhole_whole _) (Memref.whole cc0_scratch1) (Memref.isWhole_whole _) (Memref.whole cc0_scratch2) (Memref.isWhole_whole _))
          fun _ => iprop(inv V c t.succ ∗ (data V c).owesAt () t.succ ∗ (∃ X, ⌜left V c 0 t (Y 0) X⌝ ∗ owns (c : Thread nD τ) (spec0_0.stage (s 0)) fullShare X) ∗ (∃ X, ⌜left V c 1 t (Y 1) X⌝ ∗ owns (c : Thread nD τ) (spec0_1.stage (s 1)) fullShare X) ∗ (∃ X, ⌜left V c 2 t (Y 2) X⌝ ∗ owns (c : Thread nD τ) (spec0_2.stage (s 2)) fullShare X) ∗ (∃ X, ⌜left V c 3 t (Y 3) X⌝ ∗ owns (c : Thread nD τ) (spec0_3.stage (s 3)) fullShare X) ∗ (∃ X, ⌜left V c 4 t (Y 4) X⌝ ∗ owns (c : Thread nD τ) (spec0_4.stage (s 4)) fullShare X) ∗ (∃ X, ⌜left V c 5 t (Y 5) X⌝ ∗ owns (c : Thread nD τ) (spec0_5.stage (s 5)) fullShare X) ∗ (∃ X, ⌜left V c 6 t (Y 6) X⌝ ∗ owns (c : Thread nD τ) (spec0_6.stage (s 6)) fullShare X) ∗ (∃ X, ⌜left V c 7 t (Y 7) X⌝ ∗ owns (c : Thread nD τ) (spec0_7.stage (s 7)) fullShare X) ∗ (∃ X, ⌜left V c 8 t (Y 8) X⌝ ∗ owns (c : Thread nD τ) (spec0_8.stage (s 8)) fullShare X) ∗ (∃ X, ⌜left V c 9 t (Y 9) X⌝ ∗ owns (c : Thread nD τ) (spec0_9.stage (s 9)) fullShare X) ∗ (∃ X, ⌜left V c 10 t (Y 10) X⌝ ∗ owns (c : Thread nD τ) (spec0_10.stage (s 10)) fullShare X) ∗ (∃ X, ⌜left V c 11 t (Y 11) X⌝ ∗ owns (c : Thread nD τ) (spec0_11.stage (s 11)) fullShare X)) := by
  have e0 : Y 0 = (tl V c t).q := found V c 0 rfl (fun _ _ _ h => h) (fun _ _ => rfl) t _ (hY 0)
  have e1 : Y 1 = (tl V c t).k := found V c 1 rfl (fun _ _ _ h => h) (fun _ _ => rfl) t _ (hY 1)
  have e2 : Y 2 = (tl V c t).v := found V c 2 rfl (fun _ _ _ h => h) (fun _ _ => rfl) t _ (hY 2)
  have e3 : Y 3 = (tl V c t).ck := found V c 3 rfl (fun _ _ _ h => h) (fun _ _ => rfl) t _ (hY 3)
  have e4 : Y 4 = (tl V c t).o := found V c 4 rfl (fun _ _ _ h => h) (fun _ _ => rfl) t _ (hY 4)
  have e5 : Y 5 = (tl V c t).l := found V c 5 rfl (fun _ _ _ h => h) (fun _ _ => rfl) t _ (hY 5)
  have e6 : Y 6 = (tl V c t).d := found V c 6 rfl (fun _ _ _ h => h) (fun _ _ => rfl) t _ (hY 6)
  rw [e0, e1, e2, e3, e4, e5, e6]
  unfold inv Pipeline.RDat.owesAt Pipeline.owesWithin
  iintro ⟨⟨Hp, HK, HQ, %x, %y, %z, %hx, Hx, Hy, Hz⟩, ⟨%W, %hW, HO⟩, H0, H1, H2, H3, H4, H5, H6, H7, H8, H9, H10, H11⟩
  have hX : pr (grid0.coords t) ≠ 0 → (⟨x, y, z, Y 7⟩ : St F) = stAt V c t.val := fun h => by
    obtain ⟨a, b, d⟩ := hx (by have := (dq_same t h).1; show t.val ≠ 0; omega)
    rw [found_dq V c t _ (hY 7) h, a, b, d]; rfl
  iapply (run_pair c (grid0.coords t) _ _ _ _ _ _ _ _ _ _ _ _ _ _ _ _ _ _ _ _ _ _ _ _ _ _ _ _ _ _ fullShare.right (tl V c t) (Y 7) (Y 8) (Y 9) (Y 10) (Y 11) x y z (stAt V c t.val) (stAt V c (t.val + 1)) hX (stAt_succ V c t) _)
  isplitr [Hp HO]
  · unfold held
    isplitl [HK]; · iexact HK
    isplitl [HQ]; · iexact HQ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hx]; · iexact Hx
    isplitl [Hy]; · iexact Hy
    iexact Hz
  unfold held
  iintro ⟨HK, HQ, H0, H1, H2, H3, H4, H5, H6, H7, H8, H9, H10, H11, Hx, Hy, Hz⟩
  isplitl [Hp HK HQ Hx Hy Hz]
  · isplitl [Hp]; · iexact Hp
    isplitl [HK]; · iexact HK
    isplitl [HQ]; · iexact HQ
    iexists _, _, _
    isplitr
    · ipureintro; exact fun _ => ⟨rfl, rfl, rfl⟩
    isplitl [Hx]; · iexact Hx
    isplitl [Hy]; · iexact Hy
    iexact Hz
  isplitl [HO]
  · iexists W; isplitr
    · ipureintro; exact fun _ _ => Or.inl trivial
    iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact fun h => if_pos h
  isplitl [H9]
  · iexists _; isplitr; swap; · iexact H9
    ipureintro; exact fun h => if_pos h
  isplitl [H10]
  · iexists _; isplitr; swap; · iexact H10
    ipureintro; exact fun h => if_pos h
  iexists _; isplitr; swap; · iexact H11
  ipureintro; exact fun h => if_pos h

theorem body_ok (c : Dev nD) : (data V c).BodyObligation (defs₀ (F := F)) Variants.none () Set.univ := by
  intro t Y hY
  have hrow : (defs₀ (F := F)) .tc (cfg0 (F := F) adm).body ((cfg0 (F := F) adm).bodyArgs t ((cfg0 (F := F) adm).slots t))
      = cc0_attn_bwd (grid0.coords t) tabK (Memref.isWhole_whole _) tabQ (Memref.isWhole_whole _) (spec0_0.stage ((cfg0 (F := F) adm).slots t 0)) (hstage0_0 (((cfg0 (F := F) adm).slots t 0).cast nbuf0_0)) (spec0_1.stage ((cfg0 (F := F) adm).slots t 1)) (hstage0_1 (((cfg0 (F := F) adm).slots t 1).cast nbuf0_1)) (spec0_2.stage ((cfg0 (F := F) adm).slots t 2)) (hstage0_2 (((cfg0 (F := F) adm).slots t 2).cast nbuf0_2)) (spec0_3.stage ((cfg0 (F := F) adm).slots t 3)) (hstage0_3 (((cfg0 (F := F) adm).slots t 3).cast nbuf0_3)) (spec0_4.stage ((cfg0 (F := F) adm).slots t 4)) (hstage0_4 (((cfg0 (F := F) adm).slots t 4).cast nbuf0_4)) (spec0_5.stage ((cfg0 (F := F) adm).slots t 5)) (hstage0_5 (((cfg0 (F := F) adm).slots t 5).cast nbuf0_5)) (spec0_6.stage ((cfg0 (F := F) adm).slots t 6)) (hstage0_6 (((cfg0 (F := F) adm).slots t 6).cast nbuf0_6)) (spec0_7.stage ((cfg0 (F := F) adm).slots t 7)) (hstage0_7 (((cfg0 (F := F) adm).slots t 7).cast nbuf0_7)) (spec0_8.stage ((cfg0 (F := F) adm).slots t 8)) (hstage0_8 (((cfg0 (F := F) adm).slots t 8).cast nbuf0_8)) (spec0_9.stage ((cfg0 (F := F) adm).slots t 9)) (hstage0_9 (((cfg0 (F := F) adm).slots t 9).cast nbuf0_9)) (spec0_10.stage ((cfg0 (F := F) adm).slots t 10)) (hstage0_10 (((cfg0 (F := F) adm).slots t 10).cast nbuf0_10)) (spec0_11.stage ((cfg0 (F := F) adm).slots t 11)) (hstage0_11 (((cfg0 (F := F) adm).slots t 11).cast nbuf0_11)) (Memref.whole cc0_scratch0) (Memref.isWhole_whole _) (Memref.whole cc0_scratch1) (Memref.isWhole_whole _) (Memref.whole cc0_scratch2) (Memref.isWhole_whole _) := by
    unfold defs₀; rw [Defs.onTc_tc]
  rw [hrow]
  refine triple_restated (sound V c t Y hY ((cfg0 (F := F) adm).slots t)) rfl ?_ fun _ => ?_
  · exact sep_mono .rfl (sep_mono .rfl (by rw [Gen.bigSep_W0]))
  · exact sep_mono .rfl (sep_mono .rfl (by rw [Gen.bigSep_W0]; exact .rfl))

theorem inv_in (c : Dev nD) : iprop(Pipeline.ΦA spec0 c ∗ Pipeline.ΦT pre0 (tabs (F := F)) c) ⊢ inv V c 0 := by
  unfold Pipeline.ΦA Pipeline.ΦT Pipeline.prefHeld inv
  rw [Gen.scopedRest0_eq]
  rw [show (bigSep Finset.univ fun k : Fin pre0.K => ((c.tc : Thread nD τ).loc (pre0.ref k)) ↦{fullShare.right} (tabs (F := F) k) : sProp 𝕄)
      = iprop((tabK.view.loc (c : Thread nD τ) ↦{fullShare.right} tabs 0) ∗ (tabQ.view.loc (c : Thread nD τ) ↦{fullShare.right} tabs 1))
    from bigSep_univ_eq_bigSepL [(0 : Fin 2), (1 : Fin 2)] (by decide) (by decide) _]
  iintro ⟨⟨⟨⟨%x, Hx⟩, ⟨%y, Hy⟩, ⟨%z, Hz⟩⟩, Hp⟩, HK, HQ⟩
  isplitl [Hp]; · iexact Hp
  isplitl [HK]; · iexact HK
  isplitl [HQ]; · iexact HQ
  iexists x, y, z
  isplitr
  · ipureintro; exact fun h => absurd rfl h
  rw [owns_whole, owns_whole, owns_whole]
  isplitl [Hx]; · iexact Hx
  isplitl [Hy]; · iexact Hy
  iexact Hz

theorem inv_out (c : Dev nD) : inv V c (Fin.last grid0.N) ⊢ Pipeline.ΦA spec0 c := by
  unfold Pipeline.ΦA inv
  rw [Gen.scopedRest0_eq]
  simp only [owns_whole]
  iintro ⟨Hp, -, -, %x, %y, %z, -, Hx, Hy, Hz⟩
  isplitr [Hp]
  · isplitl [Hx]; · iexists x; iexact Hx
    isplitl [Hy]; · iexists y; iexact Hy
    iexists z; iexact Hz
  iexact Hp

/-! ## The run -/

/-- The host's lines before the launch. -/
abbrev hostAll : List (List (HloOp τ sig (Elt F))) := [hostOps0, hostOps0_1, hostOps0_2, hostOps0_3, hostOps0_4, hostOps0_5, hostOps0_6]

/-- The buffers as the launch finds them. -/
def entry (m : (ℓ : Loc nD τ sig) → Buf (Elt F) ℓ) (c : Dev nD) (b : Ref sig .tc) : Buf (Elt F) ((c.tc : Thread nD τ).loc b) :=
  StableHlo.after (hostAll (F := F)).flatten (fun b => m (c, b)) b

theorem host_sub : (hostAll (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem host_fresh : (hostAll (F := F)).Forall fun ops => ops.Forall fun op => op.fresh = ∅ := by
  refine ⟨?_, ?_, ?_, ?_, ?_, ?_, ?_⟩
  all_goals repeat' apply And.intro
  all_goals rfl

set_option backward.isDefEq.respectTransparency.types false in
theorem host_main (m : (ℓ : Loc nD τ sig) → Buf (Elt F) ℓ) :
    Pipeline.HMainP (Ix := Unit) (Name := ℕ) (U := UR sig nD τ) (Lvl := ℕ) pcfgs 0 (defs₀ (F := F)) Variants.none m main (entry m) :=
  Pipeline.hmainP_prefixes pcfgs 0 defs₀ Variants.none m main hostAll host_sub host_fresh (fun c => main_chain c)

/-- What the host's lines write, in order, after the two tables. -/
abbrev hostW : List (Ref sig .tc) := [main_v0, main_v1, main_v2, main_v3, main_v4, main_v5, main_v6, main_v7, main_v8, main_v9, main_cst, main_v10, main_v11, main_v12, main_v13, main_v14, main_v15, main_v16, main_v17, main_v18, main_v19, main_v20, main_v21, main_v22, main_v23, main_v24, main_v25, main_cst_1, main_call0_v0, main_call0_v1, main_call0_v2, main_v26, main_cst_2, main_v27, main_cst_3, main_v28, main_v29, main_v30, main_v31, main_v32, main_v33, main_cst_4, main_v34, main_v35, main_v36, main_v37, main_v38, main_v39, main_v40, main_v41, main_cst_5, main_v42, main_v43, main_v44, main_v45, main_v46, main_v47, main_v48, main_v49, main_v50, main_v51, main_v52, main_v53, main_v54, main_v55, main_v56, main_v57, main_cst_6, main_call1_v0, main_call1_v1, main_call1_v2, main_v58, main_cst_7, main_v59, main_v60, main_v61, main_v62, main_v63, main_cst_8, main_v64, main_v65, main_v66, main_v67, main_v68, main_v69, main_v70, main_v71, main_v72, main_v73, main_v74, main_v75, main_v76, main_v77, main_v78, main_v79, main_v80, main_v81, main_v82, main_v83, main_v84, main_v85, main_v86, main_v87, main_c_9, main_call2_v0, main_v88, main_v89]

theorem host_writes : ((hostAll (F := F)).flatten.drop 2).Forall fun op => op.writes ⊆ (hostW.map (Proc.devRef (τ := τ) .tc)).toFinset :=
  StableHlo.forall_writes_sub_of_map rfl

/-- The two tables' lines. -/
def hostTabs : List (HloOp τ sig (Elt F)) :=
  [StableHlo.nullary main_c (fun i => lit0 (S36.rowMajor i)), StableHlo.nullary main_c_0 (fun i => lit1 (S36.rowMajor i))]
/-- The lines after them. -/
def hostRest : List (HloOp τ sig (Elt F)) := (hostAll (F := F)).flatten.drop 2

theorem host_split : (hostAll (F := F)).flatten = hostTabs ++ hostRest := rfl

theorem entry_of (m : (ℓ : Loc nD τ sig) → Buf (Elt F) ℓ) (c : Dev nD) (r : Ref sig .tc) (hr : r ∉ hostW) :
    entry m c r = StableHlo.after (hostTabs (F := F)) (fun b => m (c, b)) r := by
  unfold entry
  have ha : ∀ (l₁ l₂ : List (HloOp τ sig (Elt F))) (W : Valuation τ sig (Elt F)), StableHlo.after (l₁ ++ l₂) W = StableHlo.after l₂ (StableHlo.after l₁ W) := by
    intro l₁
    induction l₁ with
    | nil => intros; rfl
    | cons op ops ih => intro l₂ W; exact ih l₂ _
  rw [host_split, ha]
  exact StableHlo.after_of_writes_sub hostRest _ host_writes hr

theorem entry_tab (m : (ℓ : Loc nD τ sig) → Buf (Elt F) ℓ) (c : Dev nD) : ∀ k : Fin pre0.K, entry m c (pre0.ref k) = tabs (F := F) k
  | 0 => (entry_of m c main_c (by decide)).trans (by unfold hostTabs; after_results; rfl)
  | 1 => (entry_of m c main_c_0 (by decide)).trans (by unfold hostTabs; after_results; rfl)

set_option backward.isDefEq.respectTransparency.types false in
theorem run_at (m : (ℓ : Loc nD τ sig) → Buf (Elt F) ℓ) (ρ : Dev nD → PrngReg)
    (hmain : Pipeline.HMainP (Ix := Unit) (Name := ℕ) (U := UR sig nD τ) (Lvl := ℕ) pcfgs 0 (defs₀ (F := F)) Variants.none m main V)
    (hpf : ∀ c k, V c (pre0.ref k) = tabs (F := F) k) :
    θ_run defs (onTc (τ := τ) (main (F := F))) (s₀ m ρ)
      (fun r => Pipeline.RDat.FramePost (cfg0 (F := F) adm) (data V) V r ∧ r.2.sem = fun _ => 0) :=
  Pipeline.RDat.θ_run_frameP_track_shared (Q' := _) pcfgs adms (0 : Fin 1) launch₀0 defs₀ Variants.none (data V) m ρ main
    (hbody := body_ok V) (hq := fun _ _ _ => rfl) (howed := fun _ _ => rfl) (V := V)
    (hmain := hmain) (hA := fun _ _ => rfl) (hpf := hpf) (hin := inv_in V) (hout := inv_out V)

/-- From any memory with zero counters the program runs to the end; there every window's array holds what its blocks make it, and
    every other buffer what the launch found. -/
theorem run_main (m : (ℓ : Loc nD τ sig) → Buf (Elt F) ℓ) (ρ : Dev nD → PrngReg) :
    θ_run defs (onTc (τ := τ) (main (F := F))) (s₀ m ρ)
      (fun r => Pipeline.RDat.FramePost (cfg0 (F := F) adm) (data (entry m)) (entry m) r ∧ r.2.sem = fun _ => 0) :=
  run_at (entry m) m ρ (host_main m) (entry_tab m)

/-- An argument is what it was: the host writes none, and the launch writes none. -/
theorem entry_arg0 (m : (ℓ : Loc nD τ sig) → Buf (Elt F) ℓ) (c : Dev nD) : entry m c main_arg0 = m ((c : Thread nD τ).loc main_arg0) :=
  StableHlo.after_of_writes_sub (W := main_c :: main_c_0 :: hostW) (r := main_arg0) (hostAll (F := F)).flatten (fun b => m (c, b))
    (StableHlo.forall_writes_sub_of_map rfl) (by decide)
theorem entry_arg1 (m : (ℓ : Loc nD τ sig) → Buf (Elt F) ℓ) (c : Dev nD) : entry m c main_arg1 = m ((c : Thread nD τ).loc main_arg1) :=
  StableHlo.after_of_writes_sub (W := main_c :: main_c_0 :: hostW) (r := main_arg1) (hostAll (F := F)).flatten (fun b => m (c, b))
    (StableHlo.forall_writes_sub_of_map rfl) (by decide)
theorem entry_arg2 (m : (ℓ : Loc nD τ sig) → Buf (Elt F) ℓ) (c : Dev nD) : entry m c main_arg2 = m ((c : Thread nD τ).loc main_arg2) :=
  StableHlo.after_of_writes_sub (W := main_c :: main_c_0 :: hostW) (r := main_arg2) (hostAll (F := F)).flatten (fun b => m (c, b))
    (StableHlo.forall_writes_sub_of_map rfl) (by decide)

theorem arr_in (c : Dev nD) (w : Fin 12) (hw : ((cfg0 (F := F) adm).win w).isOut = false) {G} (h : (data V c).ArrAt w (cfg0 (F := F) adm).N G) :
    G = V c (Pipeline.arrRef spec0 w) := by
  rw [(data V c).ArrAt_in w hw] at h; exact h

/-- The frame, from the run. -/
theorem final_args (m : (ℓ : Loc nD τ sig) → Buf (Elt F) ℓ) {r : PUnit × MemSt nD τ sig (Elt F)}
    (h : Pipeline.RDat.FramePost (cfg0 (F := F) adm) (data (entry m)) (entry m) r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  ⟨(arr_in (entry m) c 0 rfl ((h c).1 0)).trans (entry_arg0 m c),
    ((h c).2 main_arg1 (Pipeline.mem_restRefs_of main_arg1 (by decide) (show ∀ w : Fin 12, (spec0 w).arr.view.ref ≠ main_arg1 by decide))).trans (entry_arg1 m c),
    (arr_in (entry m) c 6 rfl ((h c).1 6)).trans (entry_arg2 m c)⟩

end Cert.KernelIdeal.Hand
end
-- ==== Proof.Math.lean ====
module

public import Idealize.ShloMosaic.PureOps.Ideal
public import Idealize.ShloMosaic.PureOps.Ideal.Laws

/-! The gradient of the forgetting attention over the real numbers, and the step from extended reals to them. -/

@[expose] public section

noncomputable section

namespace Cert.Att

open Idealize.ShloMosaic

/-! ## Extended reals that are real numbers -/

theorem sum_coe {ι : Type} (u : Finset ι) (f : ι → ℝ) : ∑ i ∈ u, ((f i : ℝ) : EReal) = ((∑ i ∈ u, f i : ℝ) : EReal) := by
  classical
  induction u using Finset.induction_on with
  | empty => simp
  | insert a u h ih => rw [Finset.sum_insert h, Finset.sum_insert h, ih, EReal.coe_add]

theorem div_real {a b : ℝ} (h : b ≠ 0) : Ideal.div (a : EReal) (b : EReal) = ((a / b : ℝ) : EReal) := by
  rw [Ideal.div_coe h, ← EReal.coe_mul]; congr 1; ring

theorem eighth_f32 : Ideal.ofBits .f32 0x3E000000#32 = ((1 / 8 : ℝ) : EReal) := by
  simp [Ideal.ofBits, Ideal.ieee]
  rw [← EReal.coe_mul]; norm_num

theorem eighth_bf16 : Ideal.ofBits .bf16 15872#16 = ((1 / 8 : ℝ) : EReal) := by
  simp [Ideal.ofBits, Ideal.ieee]
  rw [← EReal.coe_mul]; norm_num

theorem one_f32 : Ideal.ofBits .f32 0x3F800000#32 = ((1 : ℝ) : EReal) := by
  simp [Ideal.ofBits, Ideal.ieee]
  rw [← EReal.coe_mul]; norm_num

theorem bot_f32 : Ideal.ofBits .f32 0xFF800000#32 = (⊥ : EReal) := by
  simp [Ideal.ofBits, Ideal.ieee]

theorem top_f32 : Ideal.ofBits .f32 0x7F800000#32 = (⊤ : EReal) := by
  simp [Ideal.ofBits, Ideal.ieee]

/-! ## The attention -/

/-- Queries, keys, values, the cotangent and the gates' running sums, of every head. -/
structure Args where
  q : Fin 8 → Fin 4096 → Fin 64 → ℝ
  k : Fin 8 → Fin 4096 → Fin 64 → ℝ
  v : Fin 8 → Fin 4096 → Fin 64 → ℝ
  g : Fin 8 → Fin 4096 → Fin 64 → ℝ
  c : Fin 8 → Fin 4096 → ℝ

variable (x : Args) (a : Fin 8) (s t : Fin 4096) (d : Fin 64)

/-- The score of key `t` for query `s`. -/
def L : ℝ := (∑ d, x.q a s d * x.k a t d) * (1 / 8) + (x.c a s - x.c a t)
/-- The score, where the key does not come after the query. -/
def lg : EReal := if t ≤ s then ((L x a s t : ℝ) : EReal) else ⊥
/-- A query's greatest score. -/
def M : ℝ := (Finset.univ.fold max ⊥ fun t => lg x a s t).toReal
def E : ℝ := if t ≤ s then Real.exp (L x a s t - M x a s) else 0
def Z : ℝ := ∑ t, E x a s t
/-- The weight of key `t` for query `s`. -/
def W : ℝ := E x a s t / Z x a s
def O : ℝ := ∑ t, W x a s t * x.v a t d
def D : ℝ := ∑ d, x.v a t d * x.g a s d
def Del : ℝ := ∑ d, x.g a s d * O x a s d
/-- The gradient of the score. -/
def S : ℝ := W x a s t * (D x a s t - Del x a s)
def dq : ℝ := ∑ t, S x a s t * x.k a t d * (1 / 8)
def dk : ℝ := ∑ s, S x a s t * x.q a s d * (1 / 8)
def dv : ℝ := ∑ s, W x a s t * x.g a s d
def dc : ℝ := -∑ s, S x a s t

theorem top_eq : (Finset.univ.fold max ⊥ fun t => lg x a s t) = ((M x a s : ℝ) : EReal) := by
  symm
  refine EReal.coe_toReal ?_ ?_
  · refine ne_of_lt ((Finset.fold_max_lt _).2 ⟨by simp, fun t _ => ?_⟩)
    unfold lg; split
    · exact EReal.coe_lt_top _
    · simp
  · refine ne_of_gt ((Finset.lt_fold_max _).2 (Or.inr ⟨s, Finset.mem_univ _, ?_⟩))
    unfold lg; rw [if_pos le_rfl]; exact EReal.bot_lt_coe _

theorem E_nonneg : 0 ≤ E x a s t := by unfold E; split <;> positivity
theorem Z_pos : 0 < Z x a s := by
  refine Finset.sum_pos' (fun t _ => E_nonneg x a s t) ⟨s, Finset.mem_univ _, ?_⟩
  unfold E; rw [if_pos le_rfl]; exact Real.exp_pos _
theorem Z_ne : Z x a s ≠ 0 := (Z_pos x a s).ne'

theorem E_off (h : ¬ t ≤ s) : E x a s t = 0 := if_neg h
theorem W_off (h : ¬ t ≤ s) : W x a s t = 0 := by rw [W, E_off x a s t h, zero_div]
theorem S_off (h : ¬ t ≤ s) : S x a s t = 0 := by rw [S, W_off x a s t h, zero_mul]

/-- The weight from the row normaliser `M + log Z`. -/
theorem W_exp (h : t ≤ s) : W x a s t = Real.exp (L x a s t - (M x a s + Real.log (Z x a s))) := by
  rw [W, E, if_pos h, ← sub_sub, Real.exp_sub (_ - _), Real.exp_log (Z_pos x a s)]

theorem W_sum : ∑ t, W x a s t = 1 := by
  simp only [W]; rw [← Finset.sum_div]; exact div_self (Z_ne x a s)

theorem Del_eq : Del x a s = ∑ t, W x a s t * D x a s t := by
  simp only [Del, O, D, Finset.mul_sum]
  rw [Finset.sum_comm]
  exact Finset.sum_congr rfl fun t _ => Finset.sum_congr rfl fun d _ => by ring

theorem S_sum : ∑ t, S x a s t = 0 := by
  simp only [S, mul_sub]
  rw [Finset.sum_sub_distrib, ← Finset.sum_mul, W_sum, one_mul, Del_eq, sub_self]

/-- The gradient of the score as the quotient rule writes it. -/
theorem S_quot : (D x a s t / Z x a s + -∑ u, D x a s u * (1 / (Z x a s * Z x a s)) * E x a s u) * E x a s t = S x a s t := by
  have h : ∑ u, D x a s u * (1 / (Z x a s * Z x a s)) * E x a s u = Del x a s / Z x a s := by
    rw [Del_eq, Finset.sum_div]
    refine Finset.sum_congr rfl fun u _ => ?_
    rw [W]; field_simp
  rw [h, S, W]; ring

end Cert.Att

end
-- ==== Proof.Tile.lean ====
module

public import proofs.«01_k».proof.Proof.Body
public import proofs.«01_k».proof.Proof.Math
public import Idealize.ShloMosaic.Lib.Pipeline.ValueKit
public import Idealize.ShloMosaic.Lib.Pointwise

/-! One grid point's step over tiles of real numbers: the weights, the gradient of the scores, and what each sum gains. -/

@[expose] public section

noncomputable section

namespace Cert.KernelIdeal.Hand

open Cert.KernelIdeal Cert.KernelIdeal.Gen Idealize.ShloMosaic Idealize.ShloMosaic.TcCoe Idealize.SL.Sem
open Cert.Att

/-! ## Masked sums over the lanes -/

theorem slt64 : ∀ l : Fin 128, IntOp.cmpi CmpIPredicate.slt (BitVec.ofNat 32 l.val) 64#32 = BitVec.ofBool (decide (l.val < 64)) := by decide +kernel
theorem sge64 : ∀ l : Fin 128, IntOp.cmpi CmpIPredicate.sge (BitVec.ofNat 32 l.val) 64#32 = BitVec.ofBool (decide (¬ l.val < 64)) := by decide +kernel
theorem in03 : ∀ l : Fin 128, IntOp.andi (IntOp.cmpi CmpIPredicate.sge (BitVec.ofNat 32 l.val) 0#32) (IntOp.cmpi CmpIPredicate.slt (BitVec.ofNat 32 l.val) 3#32) =
    BitVec.ofBool (decide (l.val < 3)) := by decide +kernel
theorem in36 : ∀ l : Fin 128, IntOp.andi (IntOp.cmpi CmpIPredicate.sge (BitVec.ofNat 32 l.val) 3#32) (IntOp.cmpi CmpIPredicate.slt (BitVec.ofNat 32 l.val) 6#32) =
    BitVec.ofBool (decide (3 ≤ l.val ∧ l.val < 6)) := by decide +kernel
theorem sle512 (r s : Fin 512) : IntOp.cmpi CmpIPredicate.sle (BitVec.ofNat 32 r.val) (BitVec.ofNat 32 s.val) = BitVec.ofBool (decide (r ≤ s)) := by
  have hs := s.isLt
  have hr := r.isLt
  simp only [IntOp.cmpi, BitVec.sle, Fin.le_def]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

/-- The first and the second half of the lanes. -/
abbrev lnA (d : Fin 64) : Fin 128 := ⟨d.val, by omega⟩
abbrev lnB (d : Fin 64) : Fin 128 := ⟨64 + d.val, by omega⟩

theorem sum_halves (f : Fin 128 → EReal) : ∑ l, f l = ∑ d, f (lnA d) + ∑ d, f (lnB d) := Fin.sum_univ_add (a := 64) (b := 64) f

theorem sum_A (f : Fin 128 → EReal) : ∑ l : Fin 128, Scalar.select (IntOp.cmpi CmpIPredicate.slt (BitVec.ofNat 32 l.val) 64#32) (f l) 0 = ∑ d, f (lnA d) := by
  simp only [slt64, Scalar.select_decide]
  rw [sum_halves]
  simp
theorem sum_B (f : Fin 128 → EReal) : ∑ l : Fin 128, Scalar.select (IntOp.cmpi CmpIPredicate.sge (BitVec.ofNat 32 l.val) 64#32) (f l) 0 = ∑ d, f (lnB d) := by
  simp only [sge64, Scalar.select_decide]
  rw [sum_halves]
  simp
theorem sum_03 (f : Fin 128 → EReal) :
    ∑ l : Fin 128, Scalar.select (IntOp.andi (IntOp.cmpi CmpIPredicate.sge (BitVec.ofNat 32 l.val) 0#32) (IntOp.cmpi CmpIPredicate.slt (BitVec.ofNat 32 l.val) 3#32)) (f l) 0 = f 0 + (f 1 + f 2) := by
  simp only [in03, Scalar.select_decide]
  rw [← Finset.sum_subset (Finset.subset_univ {0, 1, 2}) (fun l _ hl => if_neg fun h => hl ?_)]
  · rw [Finset.sum_insert (by decide), Finset.sum_insert (by decide), Finset.sum_singleton]; rfl
  · revert l; decide
theorem sum_36 (f : Fin 128 → EReal) :
    ∑ l : Fin 128, Scalar.select (IntOp.andi (IntOp.cmpi CmpIPredicate.sge (BitVec.ofNat 32 l.val) 3#32) (IntOp.cmpi CmpIPredicate.slt (BitVec.ofNat 32 l.val) 6#32)) (f l) 0 = f 3 + (f 4 + f 5) := by
  simp only [in36, Scalar.select_decide]
  rw [← Finset.sum_subset (Finset.subset_univ {3, 4, 5}) (fun l _ hl => if_neg fun h => hl ?_)]
  · rw [Finset.sum_insert (by decide), Finset.sum_insert (by decide), Finset.sum_singleton]; rfl
  · revert l; decide

/-! ## The payloads at an index -/

/-- A head's weight before the mask. -/
def raw0 (T : Tl Ideal) (r s : Fin 512) : EReal :=
  Ideal.exp (∑ l : Fin 128, Scalar.select (IntOp.cmpi CmpIPredicate.slt (BitVec.ofNat 32 l.val) 64#32) (T.k (ix2 r l) * (T.q (ix2 s l) * Ideal.ofBits FTy.bf16 15872#16)) 0 +
        ∑ l : Fin 128, Scalar.select (IntOp.andi (IntOp.cmpi CmpIPredicate.sge (BitVec.ofNat 32 l.val) 0#32) (IntOp.cmpi CmpIPredicate.slt (BitVec.ofNat 32 l.val) 3#32)) (T.ck (ix3 0 r l)) 0 - T.l (ix2 s 0))
/-- What a head's weight is multiplied by. -/
def gap0 (T : Tl Ideal) (r s : Fin 512) : EReal :=
  (∑ l : Fin 128, Scalar.select (IntOp.cmpi CmpIPredicate.slt (BitVec.ofNat 32 l.val) 64#32) (T.v (ix2 r l) * T.d (ix2 s l)) 0 - ∑ d : Fin 64, T.d (ix2 s ⟨d.val, by omega⟩) * T.o (ix2 s ⟨d.val, by omega⟩))

/-- A head's weight before the mask. -/
def raw1 (T : Tl Ideal) (r s : Fin 512) : EReal :=
  Ideal.exp (∑ l : Fin 128, Scalar.select (IntOp.cmpi CmpIPredicate.sge (BitVec.ofNat 32 l.val) 64#32) (T.k (ix2 r l) * (T.q (ix2 s l) * Ideal.ofBits FTy.bf16 15872#16)) 0 +
        ∑ l : Fin 128, Scalar.select (IntOp.andi (IntOp.cmpi CmpIPredicate.sge (BitVec.ofNat 32 l.val) 3#32) (IntOp.cmpi CmpIPredicate.slt (BitVec.ofNat 32 l.val) 6#32)) (T.ck (ix3 0 r l)) 0 - T.l (ix2 s 64))
/-- What a head's weight is multiplied by. -/
def gap1 (T : Tl Ideal) (r s : Fin 512) : EReal :=
  (∑ l : Fin 128, Scalar.select (IntOp.cmpi CmpIPredicate.sge (BitVec.ofNat 32 l.val) 64#32) (T.v (ix2 r l) * T.d (ix2 s l)) 0 - ∑ d : Fin 64, T.d (ix2 s ⟨64 + d.val, by omega⟩) * T.o (ix2 s ⟨64 + d.val, by omega⟩))

theorem offP0_at (T : Tl Ideal) (r s : Fin 512) : offP0 T (ix2 r s) = raw0 T r s := by
  simp only [offP0, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw0, gap0]
  pointwise

theorem offP1_at (T : Tl Ideal) (r s : Fin 512) : offP1b T (ix2 r s) = raw1 T r s := by
  simp only [offP1b, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw1, gap1]
  pointwise

theorem offS0_at (T : Tl Ideal) (r s : Fin 512) : offS0 T (ix2 r s) = raw0 T r s * gap0 T r s := by
  simp only [offS0, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw0, gap0]
  pointwise

theorem offS1_at (T : Tl Ideal) (r s : Fin 512) : offS1b T (ix2 r s) = raw1 T r s * gap1 T r s := by
  simp only [offS1b, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw1, gap1]
  pointwise

theorem diaP0_at (T : Tl Ideal) (r s : Fin 512) : diaP0 T (ix2 r s) = Scalar.select (IntOp.cmpi CmpIPredicate.sle (BitVec.ofNat 32 r.val) (BitVec.ofNat 32 s.val)) (raw0 T r s) 0 := by
  simp only [diaP0, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw0, gap0]
  pointwise

theorem diaP1_at (T : Tl Ideal) (r s : Fin 512) : diaP1b T (ix2 r s) = Scalar.select (IntOp.cmpi CmpIPredicate.sle (BitVec.ofNat 32 r.val) (BitVec.ofNat 32 s.val)) (raw1 T r s) 0 := by
  simp only [diaP1b, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw1, gap1]
  pointwise

theorem diaS0_at (T : Tl Ideal) (r s : Fin 512) : diaS0 T (ix2 r s) = Scalar.select (IntOp.cmpi CmpIPredicate.sle (BitVec.ofNat 32 r.val) (BitVec.ofNat 32 s.val)) (raw0 T r s * gap0 T r s) 0 := by
  simp only [diaS0, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw0, gap0]
  pointwise

theorem diaS1_at (T : Tl Ideal) (r s : Fin 512) : diaS1b T (ix2 r s) = Scalar.select (IntOp.cmpi CmpIPredicate.sle (BitVec.ofNat 32 r.val) (BitVec.ofNat 32 s.val)) (raw1 T r s * gap1 T r s) 0 := by
  simp only [diaS1b, offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2, raw1, gap1]
  pointwise

theorem offDv_pay (T : Tl Ideal) (p0 : FVec Ideal S512x512 .f32) (p1 : FVec Ideal S512x512 .bf16) (x : Vec Ideal S512x128 .f32) (r : Fin 512) (l : Fin 128) :
    k0_pay8 (k0_pay25 hi T.d) p1 (k0_pay39 (k0_pay21 lo T.d) p0 x) (ix2 r l) = x (ix2 r l) + ∑ s, Scalar.select (IntOp.cmpi CmpIPredicate.slt (BitVec.ofNat 32 l.val) 64#32) (p0 (ix2 r s) * T.d (ix2 s l)) 0 + ∑ s, Scalar.select (IntOp.cmpi CmpIPredicate.sge (BitVec.ofNat 32 l.val) 64#32) (p1 (ix2 r s) * T.d (ix2 s l)) 0 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem offDk_pay (T : Tl Ideal) (s0 : FVec Ideal S512x512 .f32) (s1 : FVec Ideal S512x512 .bf16) (x : Vec Ideal S512x128 .f32) (r : Fin 512) (l : Fin 128) :
    k0_pay9 (k0_pay23 hi (k0_pay15 T.q)) s1 (k0_pay7 x (k0_pay40 (k0_pay19 lo T.q) s0)) (ix2 r l) = x (ix2 r l) + ∑ s, Scalar.select (IntOp.cmpi CmpIPredicate.slt (BitVec.ofNat 32 l.val) 64#32) (s0 (ix2 r s) * (T.q (ix2 s l) * Ideal.ofBits FTy.bf16 15872#16)) 0 + ∑ s, Scalar.select (IntOp.cmpi CmpIPredicate.sge (BitVec.ofNat 32 l.val) 64#32) (s1 (ix2 r s) * (T.q (ix2 s l) * Ideal.ofBits FTy.bf16 15872#16)) 0 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem offDq_pay (T : Tl Ideal) (s0 : FVec Ideal S512x512 .f32) (s1 : FVec Ideal S512x512 .bf16) (x : Vec Ideal S512x128 .f32) (r : Fin 512) (l : Fin 128) :
    k0_pay10 (k0_pay20 lo T.k) (k0_pay24 hi T.k) (k0_pay32 s0) s1 (k0_pay38 (F := Ideal)) x (ix2 r l) = x (ix2 r l) + (∑ s, Scalar.select (IntOp.cmpi CmpIPredicate.slt (BitVec.ofNat 32 l.val) 64#32) (s0 (ix2 s r) * T.k (ix2 s l)) 0 + ∑ s, Scalar.select (IntOp.cmpi CmpIPredicate.sge (BitVec.ofNat 32 l.val) 64#32) (s1 (ix2 s r) * T.k (ix2 s l)) 0) * Ideal.ofBits FTy.f32 1040187392#32 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem offC0_pay (s0 : FVec Ideal S512x512 .f32) (y : Vec Ideal S1x512x1 .f32) (r : Fin 512) :
    k0_pay31 s0 (k0_pay30 y) (ix3 0 r 0) = y (ix3 0 r 0) - ∑ s, s0 (ix2 r s) := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem offC1_pay (T : Tl Ideal) (y : Vec Ideal S1x512x1 .f32) (r : Fin 512) :
    k0_pay35 (k0_pay17 T.d T.o) (k0_pay18 T.l) (offKeep T) (offV95 T) y (ix3 0 r 0) = y (ix3 0 r 0) - ∑ s, offS1b T (ix2 r s) := by
  simp only [offS1_at, raw1, gap1]
  simp only [offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem diaDv_pay (T : Tl Ideal) (p0 : FVec Ideal S512x512 .f32) (p1 : FVec Ideal S512x512 .bf16) (x : Vec Ideal S512x128 .f32) (r : Fin 512) (l : Fin 128) :
    k0_pay67 (k0_pay51 hi T.d) p1 (k0_pay65 x (k0_pay64 (k0_pay47 lo T.d) p0)) (ix2 r l) = x (ix2 r l) + ∑ s, Scalar.select (IntOp.cmpi CmpIPredicate.slt (BitVec.ofNat 32 l.val) 64#32) (p0 (ix2 r s) * T.d (ix2 s l)) 0 + ∑ s, Scalar.select (IntOp.cmpi CmpIPredicate.sge (BitVec.ofNat 32 l.val) 64#32) (p1 (ix2 r s) * T.d (ix2 s l)) 0 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem diaDk_pay (T : Tl Ideal) (s0 : FVec Ideal S512x512 .f32) (s1 : FVec Ideal S512x512 .bf16) (x : Vec Ideal S512x128 .f32) (r : Fin 512) (l : Fin 128) :
    k0_pay68 (k0_pay49 hi (k0_pay41 T.q)) s1 (k0_pay66 (k0_pay45 lo T.q) (k0_pay57 s0) x) (ix2 r l) = x (ix2 r l) + ∑ s, Scalar.select (IntOp.cmpi CmpIPredicate.slt (BitVec.ofNat 32 l.val) 64#32) (s0 (ix2 r s) * (T.q (ix2 s l) * Ideal.ofBits FTy.bf16 15872#16)) 0 + ∑ s, Scalar.select (IntOp.cmpi CmpIPredicate.sge (BitVec.ofNat 32 l.val) 64#32) (s1 (ix2 r s) * (T.q (ix2 s l) * Ideal.ofBits FTy.bf16 15872#16)) 0 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem diaDq_pay (T : Tl Ideal) (s0 : FVec Ideal S512x512 .f32) (s1 : FVec Ideal S512x512 .bf16) (x : Vec Ideal S512x128 .f32) (r : Fin 512) (l : Fin 128) :
    k0_pay69 (k0_pay46 lo T.k) (k0_pay50 hi T.k) (k0_pay57 s0) s1 (k0_pay63 (F := Ideal)) x (ix2 r l) = x (ix2 r l) + (∑ s, Scalar.select (IntOp.cmpi CmpIPredicate.slt (BitVec.ofNat 32 l.val) 64#32) (s0 (ix2 s r) * T.k (ix2 s l)) 0 + ∑ s, Scalar.select (IntOp.cmpi CmpIPredicate.sge (BitVec.ofNat 32 l.val) 64#32) (s1 (ix2 s r) * T.k (ix2 s l)) 0) * Ideal.ofBits FTy.f32 1040187392#32 := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem diaC0_pay (s0 : FVec Ideal S512x512 .f32) (y : Vec Ideal S1x512x1 .f32) (r : Fin 512) :
    k0_pay56 s0 y (ix3 0 r 0) = y (ix3 0 r 0) - ∑ s, s0 (ix2 r s) := by
  simp only [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem diaC1_pay (T : Tl Ideal) (y : Vec Ideal S1x512x1 .f32) (r : Fin 512) :
    k0_pay60 (k0_pay43 T.d T.o) (k0_pay44 T.l) (diaKeep T) (diaV95 T) y (ix3 0 r 0) = y (ix3 0 r 0) - ∑ s, diaS1b T (ix2 r s) := by
  simp only [diaS1_at, raw1, gap1]
  simp only [offKeep, offV95, diaKeep, diaV95, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay7, k0_pay8, k0_pay9, k0_pay10, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, lo, hi, lanes, k0_pay1, k0_pay2]
  pointwise

theorem outC_pay (y : Vec Ideal S1x512x1 .f32) (a : Fin 8) (r : Fin 512) : k0_pay13 y (ix3 0 a r) = y (ix3 0 r 0) := by
  simp only [k0_pay13]
  pointwise
theorem outC_pay' (y : Vec Ideal S1x512x1 .f32) (a : Fin 8) (r : Fin 512) : k0_pay14 y (ix3 0 a r) = y (ix3 0 r 0) := by
  simp only [k0_pay14]
  pointwise
theorem outDk_at (s : St Ideal) (r : Fin 512) (l : Fin 128) : outDk s (ix2 r l) = s.dk (ix2 r l) := by
  simp only [outDk, k0_pay11]
  pointwise
theorem outDv_at (s : St Ideal) (r : Fin 512) (l : Fin 128) : outDv s (ix2 r l) = s.dv (ix2 r l) := by
  simp only [outDv, k0_pay12]
  pointwise

end Cert.KernelIdeal.Hand

end
-- ==== Proof.Step.lean ====
module

public import proofs.«01_k».proof.Proof.Tile
public import proofs.«01_k».proof.Proof.Tab

/-! What one grid point adds to each running sum, over real numbers. -/

@[expose] public section

noncomputable section

namespace Cert.KernelIdeal.Hand

open Cert.KernelIdeal Cert.KernelIdeal.Gen Idealize.ShloMosaic Idealize.ShloMosaic.TcCoe Idealize.SL.Sem
open Cert.Att

/-- The two heads of a pair, and the row of an array a tile's row is. -/
def ha (p : Fin 4) : Fin 8 := ⟨2 * p.val, by omega⟩
def hb (p : Fin 4) : Fin 8 := ⟨2 * p.val + 1, by omega⟩
def row (b : Fin 8) (r : Fin 512) : Fin 4096 := ⟨512 * b.val + r.val, by omega⟩

theorem row_le (b : Fin 8) (r s : Fin 512) : row b r ≤ row b s ↔ r ≤ s := by
  simp only [row, Fin.le_def]; omega
theorem row_lt {kb qb : Fin 8} (h : kb.val < qb.val) (r s : Fin 512) : row kb r ≤ row qb s := by
  have := r.isLt
  simp only [row, Fin.le_def]; omega
theorem row_not {kb qb : Fin 8} (h : qb.val < kb.val) (r s : Fin 512) : ¬ row kb r ≤ row qb s := by
  have := s.isLt
  simp only [row, Fin.le_def]; omega

/-- A point's tiles hold the pair's blocks of the arrays. -/
structure TileOf (x : Args) (p : Fin 4) (kb qb : Fin 8) (T : Tl Ideal) : Prop where
  qA : ∀ s d, T.q (ix2 s (lnA d)) = ((x.q (ha p) (row qb s) d : ℝ) : EReal)
  qB : ∀ s d, T.q (ix2 s (lnB d)) = ((x.q (hb p) (row qb s) d : ℝ) : EReal)
  kA : ∀ r d, T.k (ix2 r (lnA d)) = ((x.k (ha p) (row kb r) d : ℝ) : EReal)
  kB : ∀ r d, T.k (ix2 r (lnB d)) = ((x.k (hb p) (row kb r) d : ℝ) : EReal)
  vA : ∀ r d, T.v (ix2 r (lnA d)) = ((x.v (ha p) (row kb r) d : ℝ) : EReal)
  vB : ∀ r d, T.v (ix2 r (lnB d)) = ((x.v (hb p) (row kb r) d : ℝ) : EReal)
  gA : ∀ s d, T.d (ix2 s (lnA d)) = ((x.g (ha p) (row qb s) d : ℝ) : EReal)
  gB : ∀ s d, T.d (ix2 s (lnB d)) = ((x.g (hb p) (row qb s) d : ℝ) : EReal)
  oA : ∀ s d, T.o (ix2 s (lnA d)) = ((O x (ha p) (row qb s) d : ℝ) : EReal)
  oB : ∀ s d, T.o (ix2 s (lnB d)) = ((O x (hb p) (row qb s) d : ℝ) : EReal)
  c0 : ∀ r, T.ck (ix3 0 r 0) = ((-x.c (ha p) (row kb r) : ℝ) : EReal)
  c1 : ∀ r, T.ck (ix3 0 r 1) = ((0 : ℝ) : EReal)
  c2 : ∀ r, T.ck (ix3 0 r 2) = ((0 : ℝ) : EReal)
  c3 : ∀ r, T.ck (ix3 0 r 3) = ((-x.c (hb p) (row kb r) : ℝ) : EReal)
  c4 : ∀ r, T.ck (ix3 0 r 4) = ((0 : ℝ) : EReal)
  c5 : ∀ r, T.ck (ix3 0 r 5) = ((0 : ℝ) : EReal)
  lA : ∀ s, T.l (ix2 s 0) = ((M x (ha p) (row qb s) + Real.log (Z x (ha p) (row qb s)) - x.c (ha p) (row qb s) : ℝ) : EReal)
  lB : ∀ s, T.l (ix2 s 64) = ((M x (hb p) (row qb s) + Real.log (Z x (hb p) (row qb s)) - x.c (hb p) (row qb s) : ℝ) : EReal)

variable {x : Args} {p : Fin 4} {kb qb : Fin 8} {T : Tl Ideal}

/-- What one query tile gives a key's sums, and what one key tile gives a query's. -/
def Pv (x : Args) (a : Fin 8) (t : Fin 4096) (d : Fin 64) (b : Fin 8) : ℝ := ∑ s : Fin 512, W x a (row b s) t * x.g a (row b s) d
def Pk (x : Args) (a : Fin 8) (t : Fin 4096) (d : Fin 64) (b : Fin 8) : ℝ := ∑ s : Fin 512, S x a (row b s) t * x.q a (row b s) d * (1 / 8)
def Pc (x : Args) (a : Fin 8) (t : Fin 4096) (b : Fin 8) : ℝ := ∑ s : Fin 512, S x a (row b s) t
def Pq (x : Args) (a : Fin 8) (s : Fin 4096) (d : Fin 64) (b : Fin 8) : ℝ := ∑ t : Fin 512, S x a s (row b t) * x.k a (row b t) d * (1 / 8)

theorem raw0_real (hT : TileOf x p kb qb T) (r s : Fin 512) :
    raw0 T r s = ((Real.exp (L x (ha p) (row qb s) (row kb r) - (M x (ha p) (row qb s) + Real.log (Z x (ha p) (row qb s)))) : ℝ) : EReal) := by
  simp only [raw0, sum_A, sum_03, hT.kA, hT.qA, hT.c0, hT.c1, hT.c2, hT.lA, eighth_bf16]
  simp only [← EReal.coe_mul, sum_coe, ← EReal.coe_add, ← EReal.coe_sub, Ideal.exp_coe]
  refine congrArg (fun y : ℝ => ((Real.exp y : ℝ) : EReal)) ?_
  have e : ∑ d, x.k (ha p) (row kb r) d * (x.q (ha p) (row qb s) d * (1 / 8)) = (∑ d, x.q (ha p) (row qb s) d * x.k (ha p) (row kb r) d) * (1 / 8) := by
    rw [Finset.sum_mul]; exact Finset.sum_congr rfl fun d _ => by ring
  rw [e, L]; ring

theorem gap0_real (hT : TileOf x p kb qb T) (r s : Fin 512) :
    gap0 T r s = ((D x (ha p) (row qb s) (row kb r) - Del x (ha p) (row qb s) : ℝ) : EReal) := by
  unfold gap0
  rw [sum_A]
  have e : ∑ d : Fin 64, T.d (ix2 s (lnA d)) * T.o (ix2 s (lnA d)) = ((Del x (ha p) (row qb s) : ℝ) : EReal) := by
    simp only [hT.gA, hT.oA, ← EReal.coe_mul, sum_coe]; rfl
  refine (congrArg₂ (fun u w : EReal => u - w) ?_ e).trans (EReal.coe_sub _ _).symm
  simp only [hT.vA, hT.gA, ← EReal.coe_mul, sum_coe]; rfl

theorem offP0_real (hT : TileOf x p kb qb T) (hlt : kb.val < qb.val) (r s : Fin 512) : offP0 T (ix2 r s) = ((W x (ha p) (row qb s) (row kb r) : ℝ) : EReal) := by
  rw [offP0_at, raw0_real hT, W_exp _ _ _ _ (row_lt hlt r s)]
theorem offS0_real (hT : TileOf x p kb qb T) (hlt : kb.val < qb.val) (r s : Fin 512) : offS0 T (ix2 r s) = ((S x (ha p) (row qb s) (row kb r) : ℝ) : EReal) := by
  rw [offS0_at, raw0_real hT, gap0_real hT, ← EReal.coe_mul, S, W_exp _ _ _ _ (row_lt hlt r s)]
theorem diaP0_real (hT : TileOf x p kb qb T) (he : kb = qb) (r s : Fin 512) : diaP0 T (ix2 r s) = ((W x (ha p) (row qb s) (row kb r) : ℝ) : EReal) := by
  subst he
  rw [diaP0_at, sle512, Scalar.select_decide, raw0_real hT]
  by_cases h : r ≤ s
  · rw [if_pos h, W_exp _ _ _ _ ((row_le kb r s).2 h)]
  · rw [if_neg h, W_off _ _ _ _ (fun h' => h ((row_le kb r s).1 h'))]; rfl
theorem diaS0_real (hT : TileOf x p kb qb T) (he : kb = qb) (r s : Fin 512) : diaS0 T (ix2 r s) = ((S x (ha p) (row qb s) (row kb r) : ℝ) : EReal) := by
  subst he
  rw [diaS0_at, sle512, Scalar.select_decide, raw0_real hT, gap0_real hT]
  by_cases h : r ≤ s
  · rw [if_pos h, ← EReal.coe_mul, S, W_exp _ _ _ _ ((row_le kb r s).2 h)]
  · rw [if_neg h, S_off _ _ _ _ (fun h' => h ((row_le kb r s).1 h'))]; rfl

theorem raw1_real (hT : TileOf x p kb qb T) (r s : Fin 512) :
    raw1 T r s = ((Real.exp (L x (hb p) (row qb s) (row kb r) - (M x (hb p) (row qb s) + Real.log (Z x (hb p) (row qb s)))) : ℝ) : EReal) := by
  simp only [raw1, sum_B, sum_36, hT.kB, hT.qB, hT.c3, hT.c4, hT.c5, hT.lB, eighth_bf16]
  simp only [← EReal.coe_mul, sum_coe, ← EReal.coe_add, ← EReal.coe_sub, Ideal.exp_coe]
  refine congrArg (fun y : ℝ => ((Real.exp y : ℝ) : EReal)) ?_
  have e : ∑ d, x.k (hb p) (row kb r) d * (x.q (hb p) (row qb s) d * (1 / 8)) = (∑ d, x.q (hb p) (row qb s) d * x.k (hb p) (row kb r) d) * (1 / 8) := by
    rw [Finset.sum_mul]; exact Finset.sum_congr rfl fun d _ => by ring
  rw [e, L]; ring

theorem gap1_real (hT : TileOf x p kb qb T) (r s : Fin 512) :
    gap1 T r s = ((D x (hb p) (row qb s) (row kb r) - Del x (hb p) (row qb s) : ℝ) : EReal) := by
  unfold gap1
  rw [sum_B]
  have e : ∑ d : Fin 64, T.d (ix2 s (lnB d)) * T.o (ix2 s (lnB d)) = ((Del x (hb p) (row qb s) : ℝ) : EReal) := by
    simp only [hT.gB, hT.oB, ← EReal.coe_mul, sum_coe]; rfl
  refine (congrArg₂ (fun u w : EReal => u - w) ?_ e).trans (EReal.coe_sub _ _).symm
  simp only [hT.vB, hT.gB, ← EReal.coe_mul, sum_coe]; rfl

theorem offP1_real (hT : TileOf x p kb qb T) (hlt : kb.val < qb.val) (r s : Fin 512) : offP1b T (ix2 r s) = ((W x (hb p) (row qb s) (row kb r) : ℝ) : EReal) := by
  rw [offP1_at, raw1_real hT, W_exp _ _ _ _ (row_lt hlt r s)]
theorem offS1_real (hT : TileOf x p kb qb T) (hlt : kb.val < qb.val) (r s : Fin 512) : offS1b T (ix2 r s) = ((S x (hb p) (row qb s) (row kb r) : ℝ) : EReal) := by
  rw [offS1_at, raw1_real hT, gap1_real hT, ← EReal.coe_mul, S, W_exp _ _ _ _ (row_lt hlt r s)]
theorem diaP1_real (hT : TileOf x p kb qb T) (he : kb = qb) (r s : Fin 512) : diaP1b T (ix2 r s) = ((W x (hb p) (row qb s) (row kb r) : ℝ) : EReal) := by
  subst he
  rw [diaP1_at, sle512, Scalar.select_decide, raw1_real hT]
  by_cases h : r ≤ s
  · rw [if_pos h, W_exp _ _ _ _ ((row_le kb r s).2 h)]
  · rw [if_neg h, W_off _ _ _ _ (fun h' => h ((row_le kb r s).1 h'))]; rfl
theorem diaS1_real (hT : TileOf x p kb qb T) (he : kb = qb) (r s : Fin 512) : diaS1b T (ix2 r s) = ((S x (hb p) (row qb s) (row kb r) : ℝ) : EReal) := by
  subst he
  rw [diaS1_at, sle512, Scalar.select_decide, raw1_real hT, gap1_real hT]
  by_cases h : r ≤ s
  · rw [if_pos h, ← EReal.coe_mul, S, W_exp _ _ _ _ ((row_le kb r s).2 h)]
  · rw [if_neg h, S_off _ _ _ _ (fun h' => h ((row_le kb r s).1 h'))]; rfl

theorem slt_A (d : Fin 64) : IntOp.cmpi CmpIPredicate.slt (BitVec.ofNat 32 d.val) 64#32 = 1#1 := by revert d; decide +kernel
theorem sge_A (d : Fin 64) : IntOp.cmpi CmpIPredicate.sge (BitVec.ofNat 32 d.val) 64#32 = 0#1 := by revert d; decide +kernel
theorem slt_B (d : Fin 64) : IntOp.cmpi CmpIPredicate.slt (BitVec.ofNat 32 (64 + d.val)) 64#32 = 0#1 := by revert d; decide +kernel
theorem sge_B (d : Fin 64) : IntOp.cmpi CmpIPredicate.sge (BitVec.ofNat 32 (64 + d.val)) 64#32 = 1#1 := by revert d; decide +kernel
theorem sel_one (u w : EReal) : Scalar.select 1#1 u w = u := by rw [Scalar.select]; exact if_pos rfl
theorem sel_zero (u w : EReal) : Scalar.select 0#1 u w = w := by rw [Scalar.select]; exact if_neg (by decide)
theorem zeros {ι : Type} [Fintype ι] : ∑ _ : ι, (0 : EReal) = 0 := Finset.sum_const_zero

/-- The row block of a column. -/
theorem put_rows {off : Fin 2 → ℕ} (b : Fin 8) (hoff : off = ![512 * b.val, 0]) (X : Vec Ideal S4096x128 .f32) (w : Vec Ideal S512x128 .f32) (b' : Fin 8) (r : Fin 512) (l : Fin 128) :
    VecWindow.put X off S512x128.size w (ix2 (row b' r) l) = if b = b' then w (ix2 r l) else X (ix2 (row b' r) l) := by
  subst hoff
  have hl := l.isLt
  have hr := r.isLt
  unfold VecWindow.put
  by_cases e : b = b'
  · subst e
    rw [if_pos rfl, dif_pos (by
      refine Fin.forall_fin_two.2 ⟨?_, ?_⟩
      · show 512 * b.val ≤ 512 * b.val + r.val ∧ 512 * b.val + r.val < 512 * b.val + 512; omega
      · show 0 ≤ l.val ∧ l.val < 0 + 128; omega)]
    refine congrArg w (funext fun a => Fin.ext ?_)
    revert a
    refine Fin.forall_fin_two.2 ⟨?_, ?_⟩
    · show 512 * b.val + r.val - 512 * b.val = r.val; omega
    · show l.val - 0 = l.val; omega
  · rw [if_neg e, dif_neg (fun h => e ?_)]
    have h0 : 512 * b.val ≤ 512 * b'.val + r.val ∧ 512 * b'.val + r.val < 512 * b.val + 512 := h 0
    exact Fin.ext (by omega)
theorem win_rows {off : Fin 2 → ℕ} (b : Fin 8) (hoff : off = ![512 * b.val, 0]) (h) (X : Vec Ideal S4096x128 .f32) (r : Fin 512) (l : Fin 128) :
    VecWindow.window X off S512x128.size h (ix2 r l) = X (ix2 (row b r) l) := by
  subst hoff
  refine congrArg X (funext fun a => Fin.ext ?_)
  revert a
  refine Fin.forall_fin_two.2 ⟨?_, ?_⟩
  · show 512 * b.val + 1 * r.val = 512 * b.val + r.val; omega
  · show 0 + 1 * l.val = l.val; omega

/-- The two planes of the gates' sums. -/
theorem plane0 (X : Vec Ideal S2x512x1 .f32) (h) (r : Fin 512) : plane X ![0, 0, 0] h (ix3 0 r 0) = X (ix3 0 r 0) := by
  refine congrArg X (funext fun a => Fin.ext ?_)
  fin_cases a
  · rfl
  · show 0 + 1 * r.val = r.val; omega
  · rfl
theorem plane1 (X : Vec Ideal S2x512x1 .f32) (h) (r : Fin 512) : plane X ![1, 0, 0] h (ix3 0 r 0) = X (ix3 1 r 0) := by
  refine congrArg X (funext fun a => Fin.ext ?_)
  fin_cases a
  · rfl
  · show 0 + 1 * r.val = r.val; omega
  · rfl
theorem put0 (X : Vec Ideal S2x512x1 .f32) (w : Vec Ideal S1x512x1 .f32) (r : Fin 512) : VecWindow.put X ![0, 0, 0] S1x512x1.size w (ix3 0 r 0) = w (ix3 0 r 0) := by
  have hr := r.isLt
  unfold VecWindow.put
  rw [dif_pos (by
    intro a; fin_cases a
    · exact ⟨Nat.le_refl _, Nat.lt_succ_self _⟩
    · show 0 ≤ r.val ∧ r.val < 0 + 512; omega
    · exact ⟨Nat.le_refl _, Nat.lt_succ_self _⟩)]
  refine congrArg w (funext fun a => Fin.ext ?_)
  fin_cases a
  · rfl
  · rfl
  · rfl
theorem put1_0 (X : Vec Ideal S2x512x1 .f32) (w : Vec Ideal S1x512x1 .f32) (r : Fin 512) : VecWindow.put X ![1, 0, 0] S1x512x1.size w (ix3 0 r 0) = X (ix3 0 r 0) := by
  unfold VecWindow.put
  rw [dif_neg fun h => absurd (h 0).1 (by show ¬ 1 ≤ 0; omega)]
theorem put1_1 (X : Vec Ideal S2x512x1 .f32) (w : Vec Ideal S1x512x1 .f32) (r : Fin 512) : VecWindow.put X ![1, 0, 0] S1x512x1.size w (ix3 1 r 0) = w (ix3 0 r 0) := by
  have hr := r.isLt
  unfold VecWindow.put
  rw [dif_pos (by
    intro a; fin_cases a
    · exact ⟨Nat.le_refl _, Nat.lt_succ_self _⟩
    · show 0 ≤ r.val ∧ r.val < 0 + 512; omega
    · exact ⟨Nat.le_refl _, Nat.lt_succ_self _⟩)]
  refine congrArg w (funext fun a => Fin.ext ?_)
  fin_cases a
  · rfl
  · rfl
  · rfl

theorem offDv_A (hT : TileOf x p kb qb T) (hlt : kb.val < qb.val) (X : Vec Ideal S512x128 .f32) (r : Fin 512) (d : Fin 64) :
    offDv T X (ix2 r (lnA d)) = X (ix2 r (lnA d)) + ((Pv x (ha p) (row kb r) d qb : ℝ) : EReal) := by
  unfold offDv
  rw [offDv_pay]
  simp only [slt_A, sge_A, sel_one, sel_zero, zeros, add_zero, offP0_real hT hlt, hT.gA, ← EReal.coe_mul, sum_coe]; rfl
theorem offDk_A (hT : TileOf x p kb qb T) (hlt : kb.val < qb.val) (X : Vec Ideal S512x128 .f32) (r : Fin 512) (d : Fin 64) :
    offDk T X (ix2 r (lnA d)) = X (ix2 r (lnA d)) + ((Pk x (ha p) (row kb r) d qb : ℝ) : EReal) := by
  unfold offDk
  rw [offDk_pay]
  simp only [slt_A, sge_A, sel_one, sel_zero, zeros, add_zero, offS0_real hT hlt, hT.qA, eighth_bf16, ← EReal.coe_mul, sum_coe, ← mul_assoc]; rfl
theorem offDq_A (hT : TileOf x p kb qb T) (hlt : kb.val < qb.val) {off : Fin 2 → ℕ} (hoff : off = ![512 * qb.val, 0]) (h) (X : Vec Ideal S4096x128 .f32) (b : Fin 8) (r : Fin 512) (d : Fin 64) :
    offDq T off h X (ix2 (row b r) (lnA d)) = X (ix2 (row b r) (lnA d)) + (((if qb = b then Pq x (ha p) (row b r) d kb else 0) : ℝ) : EReal) := by
  unfold offDq
  rw [put_rows qb hoff, offDq_pay, win_rows qb hoff]
  by_cases e : qb = b
  · rw [if_pos e, if_pos e]; subst e
    simp only [slt_A, sge_A, sel_one, sel_zero, zeros, add_zero, zero_add, offS0_real hT hlt, hT.kA, eighth_f32, ← EReal.coe_mul, sum_coe, Pq, Finset.sum_mul]
  · rw [if_neg e, if_neg e]; exact (add_zero _).symm
theorem offDc_A (hT : TileOf x p kb qb T) (hlt : kb.val < qb.val) (X : Vec Ideal S2x512x1 .f32) (r : Fin 512) :
    offDc T X (ix3 0 r 0) = X (ix3 0 r 0) - ((Pc x (ha p) (row kb r) qb : ℝ) : EReal) := by
  unfold offDc
  rw [put1_0, put0, offC0_pay, plane0]
  simp only [offS0_real hT hlt, sum_coe]; rfl

theorem offDv_B (hT : TileOf x p kb qb T) (hlt : kb.val < qb.val) (X : Vec Ideal S512x128 .f32) (r : Fin 512) (d : Fin 64) :
    offDv T X (ix2 r (lnB d)) = X (ix2 r (lnB d)) + ((Pv x (hb p) (row kb r) d qb : ℝ) : EReal) := by
  unfold offDv
  rw [offDv_pay]
  simp only [slt_B, sge_B, sel_one, sel_zero, zeros, add_zero, offP1_real hT hlt, hT.gB, ← EReal.coe_mul, sum_coe]; rfl
theorem offDk_B (hT : TileOf x p kb qb T) (hlt : kb.val < qb.val) (X : Vec Ideal S512x128 .f32) (r : Fin 512) (d : Fin 64) :
    offDk T X (ix2 r (lnB d)) = X (ix2 r (lnB d)) + ((Pk x (hb p) (row kb r) d qb : ℝ) : EReal) := by
  unfold offDk
  rw [offDk_pay]
  simp only [slt_B, sge_B, sel_one, sel_zero, zeros, add_zero, offS1_real hT hlt, hT.qB, eighth_bf16, ← EReal.coe_mul, sum_coe, ← mul_assoc]; rfl
theorem offDq_B (hT : TileOf x p kb qb T) (hlt : kb.val < qb.val) {off : Fin 2 → ℕ} (hoff : off = ![512 * qb.val, 0]) (h) (X : Vec Ideal S4096x128 .f32) (b : Fin 8) (r : Fin 512) (d : Fin 64) :
    offDq T off h X (ix2 (row b r) (lnB d)) = X (ix2 (row b r) (lnB d)) + (((if qb = b then Pq x (hb p) (row b r) d kb else 0) : ℝ) : EReal) := by
  unfold offDq
  rw [put_rows qb hoff, offDq_pay, win_rows qb hoff]
  by_cases e : qb = b
  · rw [if_pos e, if_pos e]; subst e
    simp only [slt_B, sge_B, sel_one, sel_zero, zeros, add_zero, zero_add, offS1_real hT hlt, hT.kB, eighth_f32, ← EReal.coe_mul, sum_coe, Pq, Finset.sum_mul]
  · rw [if_neg e, if_neg e]; exact (add_zero _).symm
theorem offDc_B (hT : TileOf x p kb qb T) (hlt : kb.val < qb.val) (X : Vec Ideal S2x512x1 .f32) (r : Fin 512) :
    offDc T X (ix3 1 r 0) = X (ix3 1 r 0) - ((Pc x (hb p) (row kb r) qb : ℝ) : EReal) := by
  unfold offDc
  rw [put1_1, offC1_pay, plane1]
  simp only [offS1_real hT hlt, sum_coe]; rfl

theorem diaDv_A (hT : TileOf x p kb qb T) (he : kb = qb) (X : Vec Ideal S512x128 .f32) (r : Fin 512) (d : Fin 64) :
    diaDv T X (ix2 r (lnA d)) = X (ix2 r (lnA d)) + ((Pv x (ha p) (row kb r) d qb : ℝ) : EReal) := by
  unfold diaDv
  rw [diaDv_pay]
  simp only [slt_A, sge_A, sel_one, sel_zero, zeros, add_zero, diaP0_real hT he, hT.gA, ← EReal.coe_mul, sum_coe]; rfl
theorem diaDk_A (hT : TileOf x p kb qb T) (he : kb = qb) (X : Vec Ideal S512x128 .f32) (r : Fin 512) (d : Fin 64) :
    diaDk T X (ix2 r (lnA d)) = X (ix2 r (lnA d)) + ((Pk x (ha p) (row kb r) d qb : ℝ) : EReal) := by
  unfold diaDk
  rw [diaDk_pay]
  simp only [slt_A, sge_A, sel_one, sel_zero, zeros, add_zero, diaS0_real hT he, hT.qA, eighth_bf16, ← EReal.coe_mul, sum_coe, ← mul_assoc]; rfl
theorem diaDq_A (hT : TileOf x p kb qb T) (he : kb = qb) {off : Fin 2 → ℕ} (hoff : off = ![512 * qb.val, 0]) (h) (X : Vec Ideal S4096x128 .f32) (b : Fin 8) (r : Fin 512) (d : Fin 64) :
    diaDq T off h X (ix2 (row b r) (lnA d)) = X (ix2 (row b r) (lnA d)) + (((if qb = b then Pq x (ha p) (row b r) d kb else 0) : ℝ) : EReal) := by
  unfold diaDq
  rw [put_rows qb hoff, diaDq_pay, win_rows qb hoff]
  by_cases e : qb = b
  · rw [if_pos e, if_pos e]; subst e
    simp only [slt_A, sge_A, sel_one, sel_zero, zeros, add_zero, zero_add, diaS0_real hT he, hT.kA, eighth_f32, ← EReal.coe_mul, sum_coe, Pq, Finset.sum_mul]
  · rw [if_neg e, if_neg e]; exact (add_zero _).symm
theorem diaDc_A (hT : TileOf x p kb qb T) (he : kb = qb) (X : Vec Ideal S2x512x1 .f32) (r : Fin 512) :
    diaDc T X (ix3 0 r 0) = X (ix3 0 r 0) - ((Pc x (ha p) (row kb r) qb : ℝ) : EReal) := by
  unfold diaDc
  rw [put1_0, put0, diaC0_pay, plane0]
  simp only [diaS0_real hT he, sum_coe]; rfl

theorem diaDv_B (hT : TileOf x p kb qb T) (he : kb = qb) (X : Vec Ideal S512x128 .f32) (r : Fin 512) (d : Fin 64) :
    diaDv T X (ix2 r (lnB d)) = X (ix2 r (lnB d)) + ((Pv x (hb p) (row kb r) d qb : ℝ) : EReal) := by
  unfold diaDv
  rw [diaDv_pay]
  simp only [slt_B, sge_B, sel_one, sel_zero, zeros, add_zero, diaP1_real hT he, hT.gB, ← EReal.coe_mul, sum_coe]; rfl
theorem diaDk_B (hT : TileOf x p kb qb T) (he : kb = qb) (X : Vec Ideal S512x128 .f32) (r : Fin 512) (d : Fin 64) :
    diaDk T X (ix2 r (lnB d)) = X (ix2 r (lnB d)) + ((Pk x (hb p) (row kb r) d qb : ℝ) : EReal) := by
  unfold diaDk
  rw [diaDk_pay]
  simp only [slt_B, sge_B, sel_one, sel_zero, zeros, add_zero, diaS1_real hT he, hT.qB, eighth_bf16, ← EReal.coe_mul, sum_coe, ← mul_assoc]; rfl
theorem diaDq_B (hT : TileOf x p kb qb T) (he : kb = qb) {off : Fin 2 → ℕ} (hoff : off = ![512 * qb.val, 0]) (h) (X : Vec Ideal S4096x128 .f32) (b : Fin 8) (r : Fin 512) (d : Fin 64) :
    diaDq T off h X (ix2 (row b r) (lnB d)) = X (ix2 (row b r) (lnB d)) + (((if qb = b then Pq x (hb p) (row b r) d kb else 0) : ℝ) : EReal) := by
  unfold diaDq
  rw [put_rows qb hoff, diaDq_pay, win_rows qb hoff]
  by_cases e : qb = b
  · rw [if_pos e, if_pos e]; subst e
    simp only [slt_B, sge_B, sel_one, sel_zero, zeros, add_zero, zero_add, diaS1_real hT he, hT.kB, eighth_f32, ← EReal.coe_mul, sum_coe, Pq, Finset.sum_mul]
  · rw [if_neg e, if_neg e]; exact (add_zero _).symm
theorem diaDc_B (hT : TileOf x p kb qb T) (he : kb = qb) (X : Vec Ideal S2x512x1 .f32) (r : Fin 512) :
    diaDc T X (ix3 1 r 0) = X (ix3 1 r 0) - ((Pc x (hb p) (row kb r) qb : ℝ) : EReal) := by
  unfold diaDc
  rw [put1_1, diaC1_pay, plane1]
  simp only [diaS1_real hT he, sum_coe]; rfl

end Cert.KernelIdeal.Hand

end
-- ==== Proof.Sums.lean ====
module

public import proofs.«01_k».proof.Proof.Step
public import proofs.«01_k».proof.Proof.Run

/-! The running sums after every grid point, and what they are when they leave. -/

@[expose] public section

noncomputable section

namespace Cert.KernelIdeal.Hand

open Cert.KernelIdeal Cert.KernelIdeal.Gen Idealize.ShloMosaic Idealize.ShloMosaic.TcCoe Idealize.SL.Sem
open Cert.Att

/-- The tiles of a pair as indices. -/
def kF (j : Fin 36) : Fin 8 := ⟨ki j, by revert j; decide +kernel⟩
def qF (j : Fin 36) : Fin 8 := ⟨qi j, by revert j; decide +kernel⟩
theorem k_le : ∀ j : Fin 36, ki j ≤ qi j := by decide +kernel
theorem off_eq : ∀ j : Fin 36, k0_off3 (lit1 j) = ![512 * (qF j).val, 0] := by
  intro j; funext a; revert j a; decide +kernel
/-- Below the diagonal the pair before has the same key tile and the query tile before. -/
theorem before : ∀ j j' : Fin 36, j'.val + 1 = j.val → ki j ≠ qi j → kF j' = kF j ∧ qi j = qi j' + 1 := by decide +kernel

/-- The first tiles' part of a sum. -/
def upto (P : Fin 8 → ℝ) (n : ℕ) : ℝ := ∑ b : Fin 8, if b.val ≤ n then P b else 0
theorem upto_succ (P : Fin 8 → ℝ) (b : Fin 8) (n : ℕ) (h : b.val = n + 1) : upto P b.val = upto P n + P b := by
  unfold upto
  rw [show P b = ∑ b' : Fin 8, if b = b' then P b' else 0 by simp, ← Finset.sum_add_distrib]
  refine Finset.sum_congr rfl fun b' _ => ?_
  by_cases h1 : b'.val ≤ n
  · rw [if_pos h1, if_pos (by omega), if_neg (fun e => by subst e; omega), add_zero]
  · rw [if_neg h1]
    by_cases e : b = b'
    · subst e; rw [if_pos le_rfl, if_pos rfl, zero_add]
    · rw [if_neg e, if_neg (fun h2 => e (Fin.ext (by omega))), add_zero]
theorem upto_dia (P : Fin 8 → ℝ) (b : Fin 8) (h : ∀ b' : Fin 8, b'.val < b.val → P b' = 0) : upto P b.val = P b := by
  unfold upto
  rw [Finset.sum_eq_single b]
  · rw [if_pos le_rfl]
  · intro b' _ hb
    by_cases h1 : b'.val ≤ b.val
    · rw [if_pos h1, h b' (by have := Fin.val_ne_of_ne hb; omega)]
    · rw [if_neg h1]
  · exact fun h => absurd (Finset.mem_univ _) h
theorem upto_all (P : Fin 8 → ℝ) : upto P 7 = ∑ b, P b :=
  Finset.sum_congr rfl fun b _ => if_pos (by have := b.isLt; omega)

/-- The pairs' part of a query tile's sum. -/
def part (P : Fin 8 → ℝ) (b : Fin 8) (n : ℕ) : ℝ := ∑ j : Fin 36, if j.val < n ∧ qF j = b then P (kF j) else 0
theorem part_zero (P : Fin 8 → ℝ) (b : Fin 8) : part P b 0 = 0 :=
  Finset.sum_eq_zero fun j _ => if_neg fun h => absurd h.1 (Nat.not_lt_zero _)
theorem part_succ (P : Fin 8 → ℝ) (b : Fin 8) (j : Fin 36) : part P b (j.val + 1) = part P b j.val + (if qF j = b then P (kF j) else 0) := by
  unfold part
  rw [show (if qF j = b then P (kF j) else 0) = ∑ j' : Fin 36, if j = j' then (if qF j' = b then P (kF j') else 0) else 0 by simp, ← Finset.sum_add_distrib]
  refine Finset.sum_congr rfl fun j' _ => ?_
  by_cases e : j = j'
  · subst e
    by_cases e' : qF j = b
    · simp [e']
    · simp [e']
  · rw [if_neg e, add_zero]
    have : j'.val < j.val + 1 ↔ j'.val < j.val := by have := Fin.val_ne_of_ne e; omega
    simp only [this]
theorem part_card : ∀ b k : Fin 8, (Finset.univ.filter fun j : Fin 36 => qF j = b ∧ kF j = k).card = if k.val ≤ b.val then 1 else 0 := by decide +kernel
theorem part_all (P : Fin 8 → ℝ) (b : Fin 8) (h : ∀ k : Fin 8, b.val < k.val → P k = 0) : part P b 36 = ∑ k, P k := by
  unfold part
  have e : ∀ j : Fin 36, (if j.val < 36 ∧ qF j = b then P (kF j) else 0) = ∑ k : Fin 8, if qF j = b ∧ kF j = k then P k else 0 := by
    intro j
    by_cases e : qF j = b
    · rw [if_pos ⟨j.isLt, e⟩, Finset.sum_eq_single (kF j)]
      · rw [if_pos ⟨e, rfl⟩]
      · exact fun k _ hk => if_neg fun h => hk h.2.symm
      · exact fun h => absurd (Finset.mem_univ _) h
    · rw [if_neg fun h => e h.2]; exact (Finset.sum_eq_zero fun k _ => if_neg fun h => e h.1).symm
  rw [Finset.sum_congr rfl fun j _ => e j, Finset.sum_comm]
  refine Finset.sum_congr rfl fun k _ => ?_
  rw [← Finset.sum_filter, Finset.sum_const, part_card]
  by_cases hk : k.val ≤ b.val
  · rw [if_pos hk, one_smul]
  · rw [if_neg hk, zero_smul, h k (by omega)]

/-- A tile's part is nothing where no key of it is seen. -/
theorem Pv_off (x : Args) (a : Fin 8) (k b : Fin 8) (r : Fin 512) (d : Fin 64) (h : b.val < k.val) : Pv x a (row k r) d b = 0 :=
  Finset.sum_eq_zero fun s _ => by rw [W_off _ _ _ _ (row_not h r s), zero_mul]
theorem Pk_off (x : Args) (a : Fin 8) (k b : Fin 8) (r : Fin 512) (d : Fin 64) (h : b.val < k.val) : Pk x a (row k r) d b = 0 :=
  Finset.sum_eq_zero fun s _ => by rw [S_off _ _ _ _ (row_not h r s), zero_mul, zero_mul]
theorem Pc_off (x : Args) (a : Fin 8) (k b : Fin 8) (r : Fin 512) (h : b.val < k.val) : Pc x a (row k r) b = 0 :=
  Finset.sum_eq_zero fun s _ => by rw [S_off _ _ _ _ (row_not h r s)]
theorem Pq_off (x : Args) (a : Fin 8) (k b : Fin 8) (r : Fin 512) (d : Fin 64) (h : b.val < k.val) : Pq x a (row b r) d k = 0 :=
  Finset.sum_eq_zero fun t _ => by rw [S_off _ _ _ _ (row_not h t r), zero_mul, zero_mul]

/-- The rows tile by tile. -/
theorem sum_rows (f : Fin 4096 → ℝ) : ∑ b : Fin 8, ∑ r : Fin 512, f (row b r) = ∑ s, f s := by
  rw [← Fintype.sum_prod_type' (f := fun b r => f (row b r))]
  exact Fintype.sum_equiv finProdFinEquiv _ _ fun y => congrArg f (Fin.ext (by simp only [row, finProdFinEquiv_apply_val]; omega))

/-- The sums after a pair. -/
structure Good (x : Args) (p : Fin 4) (j : Fin 36) (s : St Ideal) : Prop where
  dvA : ∀ r d, s.dv (ix2 r (lnA d)) = ((upto (Pv x (ha p) (row (kF j) r) d) (qi j) : ℝ) : EReal)
  dkA : ∀ r d, s.dk (ix2 r (lnA d)) = ((upto (Pk x (ha p) (row (kF j) r) d) (qi j) : ℝ) : EReal)
  dcA : ∀ r, s.dc (ix3 0 r 0) = ((-upto (Pc x (ha p) (row (kF j) r)) (qi j) : ℝ) : EReal)
  dqA : ∀ b r d, s.dq (ix2 (row b r) (lnA d)) = ((part (Pq x (ha p) (row b r) d) b (j.val + 1) : ℝ) : EReal)
  dvB : ∀ r d, s.dv (ix2 r (lnB d)) = ((upto (Pv x (hb p) (row (kF j) r) d) (qi j) : ℝ) : EReal)
  dkB : ∀ r d, s.dk (ix2 r (lnB d)) = ((upto (Pk x (hb p) (row (kF j) r) d) (qi j) : ℝ) : EReal)
  dcB : ∀ r, s.dc (ix3 1 r 0) = ((-upto (Pc x (hb p) (row (kF j) r)) (qi j) : ℝ) : EReal)
  dqB : ∀ b r d, s.dq (ix2 (row b r) (lnB d)) = ((part (Pq x (hb p) (row b r) d) b (j.val + 1) : ℝ) : EReal)

theorem zero_real : FloatOps.ofBits (F := Ideal) .f32 0 = ((0 : ℝ) : EReal) := by
  exact Ideal.ofBits_zero_f32.trans rfl

theorem good_off {x : Args} {p : Fin 4} {j j' : Fin 36} {T : Tl Ideal} {s : St Ideal} (hT : TileOf x p (kF j) (qF j) T) (hj : j'.val + 1 = j.val)
    (hk : ki j ≠ qi j) (hg : Good x p j' s) : Good x p j (offSt T (k0_off3 (lit1 j)) (off_inb j) s) := by
  obtain ⟨ek, eq⟩ := before j j' hj hk
  have hlt : (kF j).val < (qF j).val := lt_of_le_of_ne (k_le j) hk
  have hq : (qF j).val = qi j' + 1 := eq
  refine ⟨?_, ?_, ?_, ?_, ?_, ?_, ?_, ?_⟩
  · intro r d
    show offDv T s.dv _ = _
    rw [offDv_A hT hlt, hg.dvA, ← EReal.coe_add, ek]
    exact congrArg (fun y : ℝ => (y : EReal)) (upto_succ _ (qF j) _ hq).symm
  · intro r d
    show offDk T s.dk _ = _
    rw [offDk_A hT hlt, hg.dkA, ← EReal.coe_add, ek]
    exact congrArg (fun y : ℝ => (y : EReal)) (upto_succ _ (qF j) _ hq).symm
  · intro r
    show offDc T s.dc (ix3 0 r 0) = _
    rw [offDc_A hT hlt, hg.dcA, ← EReal.coe_sub, ek]
    refine congrArg (fun y : ℝ => (y : EReal)) ?_
    show _ = -upto _ (qF j).val
    rw [upto_succ _ (qF j) _ hq]; ring
  · intro b r d
    show offDq T _ _ s.dq _ = _
    rw [offDq_A hT hlt (off_eq j), hg.dqA, hj, ← EReal.coe_add, part_succ _ _ j]
  · intro r d
    show offDv T s.dv _ = _
    rw [offDv_B hT hlt, hg.dvB, ← EReal.coe_add, ek]
    exact congrArg (fun y : ℝ => (y : EReal)) (upto_succ _ (qF j) _ hq).symm
  · intro r d
    show offDk T s.dk _ = _
    rw [offDk_B hT hlt, hg.dkB, ← EReal.coe_add, ek]
    exact congrArg (fun y : ℝ => (y : EReal)) (upto_succ _ (qF j) _ hq).symm
  · intro r
    show offDc T s.dc (ix3 1 r 0) = _
    rw [offDc_B hT hlt, hg.dcB, ← EReal.coe_sub, ek]
    refine congrArg (fun y : ℝ => (y : EReal)) ?_
    show _ = -upto _ (qF j).val
    rw [upto_succ _ (qF j) _ hq]; ring
  · intro b r d
    show offDq T _ _ s.dq _ = _
    rw [offDq_B hT hlt (off_eq j), hg.dqB, hj, ← EReal.coe_add, part_succ _ _ j]

theorem good_dia {x : Args} {p : Fin 4} {j : Fin 36} {T : Tl Ideal} {X : Vec Ideal S4096x128 .f32} (hT : TileOf x p (kF j) (qF j) T) (hk : ki j = qi j)
    (hA : ∀ b r d, X (ix2 (row b r) (lnA d)) = ((part (Pq x (ha p) (row b r) d) b j.val : ℝ) : EReal))
    (hB : ∀ b r d, X (ix2 (row b r) (lnB d)) = ((part (Pq x (hb p) (row b r) d) b j.val : ℝ) : EReal))
    : Good x p j (diaSt T (k0_off3 (lit1 j)) (off_inb j) X) := by
  have he : kF j = qF j := Fin.ext hk
  refine ⟨?_, ?_, ?_, ?_, ?_, ?_, ?_, ?_⟩
  · intro r d
    show diaDv T (k0_pay5 (F := Ideal)) _ = _
    rw [diaDv_A hT he, show k0_pay5 (F := Ideal) (ix2 r (lnA d)) = ((0 : ℝ) : EReal) from zero_real, ← EReal.coe_add, zero_add]
    exact congrArg (fun y : ℝ => (y : EReal)) (upto_dia _ (qF j) fun b' h => Pv_off _ _ _ _ _ _ (he ▸ h)).symm
  · intro r d
    show diaDk T (k0_pay4 (F := Ideal)) _ = _
    rw [diaDk_A hT he, show k0_pay4 (F := Ideal) (ix2 r (lnA d)) = ((0 : ℝ) : EReal) from zero_real, ← EReal.coe_add, zero_add]
    exact congrArg (fun y : ℝ => (y : EReal)) (upto_dia _ (qF j) fun b' h => Pk_off _ _ _ _ _ _ (he ▸ h)).symm
  · intro r
    show diaDc T (k0_pay6 (F := Ideal)) (ix3 0 r 0) = _
    rw [diaDc_A hT he, show k0_pay6 (F := Ideal) (ix3 0 r 0) = ((0 : ℝ) : EReal) from zero_real, ← EReal.coe_sub, zero_sub]
    exact congrArg (fun y : ℝ => ((-y : ℝ) : EReal)) (upto_dia _ (qF j) fun b' h => Pc_off _ _ _ _ _ (he ▸ h)).symm
  · intro b r d
    show diaDq T _ _ X _ = _
    rw [diaDq_A hT he (off_eq j), hA, ← EReal.coe_add, part_succ]
  · intro r d
    show diaDv T (k0_pay5 (F := Ideal)) _ = _
    rw [diaDv_B hT he, show k0_pay5 (F := Ideal) (ix2 r (lnB d)) = ((0 : ℝ) : EReal) from zero_real, ← EReal.coe_add, zero_add]
    exact congrArg (fun y : ℝ => (y : EReal)) (upto_dia _ (qF j) fun b' h => Pv_off _ _ _ _ _ _ (he ▸ h)).symm
  · intro r d
    show diaDk T (k0_pay4 (F := Ideal)) _ = _
    rw [diaDk_B hT he, show k0_pay4 (F := Ideal) (ix2 r (lnB d)) = ((0 : ℝ) : EReal) from zero_real, ← EReal.coe_add, zero_add]
    exact congrArg (fun y : ℝ => (y : EReal)) (upto_dia _ (qF j) fun b' h => Pk_off _ _ _ _ _ _ (he ▸ h)).symm
  · intro r
    show diaDc T (k0_pay6 (F := Ideal)) (ix3 1 r 0) = _
    rw [diaDc_B hT he, show k0_pay6 (F := Ideal) (ix3 1 r 0) = ((0 : ℝ) : EReal) from zero_real, ← EReal.coe_sub, zero_sub]
    exact congrArg (fun y : ℝ => ((-y : ℝ) : EReal)) (upto_dia _ (qF j) fun b' h => Pc_off _ _ _ _ _ (he ▸ h)).symm
  · intro b r d
    show diaDq T _ _ X _ = _
    rw [diaDq_B hT he (off_eq j), hB, ← EReal.coe_add, part_succ]

/-- The head pair of a point. -/
abbrev pq (t : Fin grid0.N) : Fin 4 := grid0.coords t 0

theorem back : ∀ t : Fin grid0.N, pr (grid0.coords t) ≠ 0 → ∃ h : t.val - 1 < grid0.N, 0 < t.val ∧ (pr (grid0.coords ⟨t.val - 1, h⟩)).val + 1 = (pr (grid0.coords t)).val ∧ pq ⟨t.val - 1, h⟩ = pq t := by
  decide +kernel
theorem dia0 : ki 0 = qi 0 := by decide

/-- After every point the sums are the pair's. -/
theorem good_at (V : (c : Dev nD) → (b : Ref sig .tc) → Buf (Elt Ideal) ((c.tc : Thread nD τ).loc b)) (c : Dev nD) (x : Args)
    (hT : ∀ t : Fin grid0.N, TileOf x (pq t) (kF (pr (grid0.coords t))) (qF (pr (grid0.coords t))) (tl V c t)) :
    ∀ (n : ℕ) (t : Fin grid0.N), t.val = n → Good x (pq t) (pr (grid0.coords t)) (stAt V c (t.val + 1)) := by
  intro n
  induction n with
  | zero =>
    intro t ht
    have e0 : pr (grid0.coords t) = 0 := by
      by_contra h
      obtain ⟨_, hp, _⟩ := back t h
      omega
    rw [stAt_succ]; unfold stepSt
    rw [if_pos (by rw [e0]; exact dia0), if_pos e0]
    refine good_dia (hT t) (by rw [e0]; exact dia0) ?_ ?_ <;> intro b r d <;> rw [e0] <;> exact zero_real.trans (congrArg (fun y : ℝ => (y : EReal)) (part_zero _ _).symm)
  | succ n ih =>
    intro t ht
    rw [stAt_succ]; unfold stepSt
    by_cases e0 : pr (grid0.coords t) = 0
    · rw [if_pos (by rw [e0]; exact dia0), if_pos e0]
      refine good_dia (hT t) (by rw [e0]; exact dia0) ?_ ?_ <;> intro b r d <;> rw [e0] <;> exact zero_real.trans (congrArg (fun y : ℝ => (y : EReal)) (part_zero _ _).symm)
    · obtain ⟨h', hp, hj, hq⟩ := back t e0
      have hg := ih ⟨t.val - 1, h'⟩ (by show t.val - 1 = n; omega)
      rw [hq] at hg
      have hs : t.val - 1 + 1 = t.val := by omega
      simp only [hs] at hg
      by_cases hk : ki (pr (grid0.coords t)) = qi (pr (grid0.coords t))
      · rw [if_pos hk, if_neg e0]
        refine good_dia (hT t) hk ?_ ?_
        · intro b r d; rw [hg.dqA, hj]
        · intro b r d; rw [hg.dqB, hj]
      · rw [if_neg hk]
        exact good_off (hT t) hj hk hg

theorem last_dvA {x : Args} {p : Fin 4} {j : Fin 36} {s : St Ideal} (hg : Good x p j s) (h7 : qi j = 7) (r : Fin 512) (d : Fin 64) :
    s.dv (ix2 r (lnA d)) = ((dv x (ha p) (row (kF j) r) d : ℝ) : EReal) := by
  rw [hg.dvA, h7, upto_all]
  exact congrArg (fun y : ℝ => (y : EReal)) (sum_rows fun s => W x (ha p) s (row (kF j) r) * x.g (ha p) s d)
theorem last_dkA {x : Args} {p : Fin 4} {j : Fin 36} {s : St Ideal} (hg : Good x p j s) (h7 : qi j = 7) (r : Fin 512) (d : Fin 64) :
    s.dk (ix2 r (lnA d)) = ((dk x (ha p) (row (kF j) r) d : ℝ) : EReal) := by
  rw [hg.dkA, h7, upto_all]
  exact congrArg (fun y : ℝ => (y : EReal)) (sum_rows fun s => S x (ha p) s (row (kF j) r) * x.q (ha p) s d * (1 / 8))
theorem last_dcA {x : Args} {p : Fin 4} {j : Fin 36} {s : St Ideal} (hg : Good x p j s) (h7 : qi j = 7) (r : Fin 512) :
    s.dc (ix3 0 r 0) = ((dc x (ha p) (row (kF j) r) : ℝ) : EReal) := by
  rw [hg.dcA, h7, upto_all]
  exact congrArg (fun y : ℝ => ((-y : ℝ) : EReal)) (sum_rows fun s => S x (ha p) s (row (kF j) r))
theorem last_dqA {x : Args} {p : Fin 4} {j : Fin 36} {s : St Ideal} (hg : Good x p j s) (h35 : j.val = 35) (b : Fin 8) (r : Fin 512) (d : Fin 64) :
    s.dq (ix2 (row b r) (lnA d)) = ((dq x (ha p) (row b r) d : ℝ) : EReal) := by
  rw [hg.dqA, h35, part_all _ _ fun k hk => Pq_off _ _ _ _ _ _ hk]
  exact congrArg (fun y : ℝ => (y : EReal)) (sum_rows fun t => S x (ha p) (row b r) t * x.k (ha p) t d * (1 / 8))

theorem last_dvB {x : Args} {p : Fin 4} {j : Fin 36} {s : St Ideal} (hg : Good x p j s) (h7 : qi j = 7) (r : Fin 512) (d : Fin 64) :
    s.dv (ix2 r (lnB d)) = ((dv x (hb p) (row (kF j) r) d : ℝ) : EReal) := by
  rw [hg.dvB, h7, upto_all]
  exact congrArg (fun y : ℝ => (y : EReal)) (sum_rows fun s => W x (hb p) s (row (kF j) r) * x.g (hb p) s d)
theorem last_dkB {x : Args} {p : Fin 4} {j : Fin 36} {s : St Ideal} (hg : Good x p j s) (h7 : qi j = 7) (r : Fin 512) (d : Fin 64) :
    s.dk (ix2 r (lnB d)) = ((dk x (hb p) (row (kF j) r) d : ℝ) : EReal) := by
  rw [hg.dkB, h7, upto_all]
  exact congrArg (fun y : ℝ => (y : EReal)) (sum_rows fun s => S x (hb p) s (row (kF j) r) * x.q (hb p) s d * (1 / 8))
theorem last_dcB {x : Args} {p : Fin 4} {j : Fin 36} {s : St Ideal} (hg : Good x p j s) (h7 : qi j = 7) (r : Fin 512) :
    s.dc (ix3 1 r 0) = ((dc x (hb p) (row (kF j) r) : ℝ) : EReal) := by
  rw [hg.dcB, h7, upto_all]
  exact congrArg (fun y : ℝ => ((-y : ℝ) : EReal)) (sum_rows fun s => S x (hb p) s (row (kF j) r))
theorem last_dqB {x : Args} {p : Fin 4} {j : Fin 36} {s : St Ideal} (hg : Good x p j s) (h35 : j.val = 35) (b : Fin 8) (r : Fin 512) (d : Fin 64) :
    s.dq (ix2 (row b r) (lnB d)) = ((dq x (hb p) (row b r) d : ℝ) : EReal) := by
  rw [hg.dqB, h35, part_all _ _ fun k hk => Pq_off _ _ _ _ _ _ hk]
  exact congrArg (fun y : ℝ => (y : EReal)) (sum_rows fun t => S x (hb p) (row b r) t * x.k (hb p) t d * (1 / 8))

end Cert.KernelIdeal.Hand

end
-- ==== Proof.Refv.lean ====
module

public import proofs.«01_k».proof.Proof.Math
public import proofs.«01_k».proof.Proof.Gen.ReferenceIdeal.Run
public import Idealize.ShloMosaic.Lib.Pipeline.ValueKit
public import Idealize.ShloMosaic.Lib.Pointwise

/-! What the reference computes, stage by stage, over real arguments. -/

@[expose] public section

noncomputable section

namespace Cert.ReferenceIdeal.Hand

open Cert.ReferenceIdeal Cert.ReferenceIdeal.Gen Cert.ReferenceIdeal.Facts Idealize.ShloMosaic Idealize.ShloMosaic.TcCoe Idealize.SL.Sem
open Cert.Att

variable (A0 : FVec Ideal S4096x6144 .bf16) (A1 : FVec Ideal S8x4096 .f32) (A2 : FVec Ideal S4096x512 .bf16)

/-! ## The stages -/

def qh : FVec Ideal S4096x8x64 .f32 := shapeCast _ (extf .f32 (extractStridedSlice S4096x512 ![0, 3072] A0 slices_S4096x6144_S4096x512_0_3072) bitsLt_bf16_f32) shapeCasts_S4096x512_S4096x8x64
def kh : FVec Ideal S4096x8x64 .f32 := shapeCast _ (extf .f32 (extractStridedSlice S4096x512 ![0, 3584] A0 slices_S4096x6144_S4096x512_0_3584) bitsLt_bf16_f32) shapeCasts_S4096x512_S4096x8x64
def vh : FVec Ideal S4096x8x64 .f32 := shapeCast _ (extf .f32 (extractStridedSlice S4096x512 ![0, 4096] A0 slices_S4096x6144_S4096x512_0_4096) bitsLt_bf16_f32) shapeCasts_S4096x512_S4096x8x64
def gh : FVec Ideal S8x64x4096 .f32 := transpose S8x64x4096 [1, 2, 0] (shapeCast _ (extf .f32 A2 bitsLt_bf16_f32) shapeCasts_S4096x512_S4096x8x64) transposes_S4096x8x64_S8x64x4096_1_2_0
def eighth : FVec Ideal S8x4096x4096 .f32 := broadcastInDim S8x4096x4096 ![] bcast_S_S8x4096x4096 (constant S_ .f32 0x3E000000#32)
def past : IVec S8x4096x4096 1 :=
  broadcastInDim S8x4096x4096 ![0, 1, 2] bcast_S1x4096x4096_S8x4096x4096_0_1_2 (broadcastInDim S1x4096x4096 ![1, 2] bcast_S4096x4096_S1x4096x4096_1_2 (cmpi .sge (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))
def score : FVec Ideal S8x4096x4096 .f32 :=
  select past (addf (mulf (Host.dotGeneral dot_S4096x8x64_S4096x8x64_S8x4096x4096_2_2_0_0_1_1 none (qh A0) (kh A0)) eighth) (subf (broadcastInDim S8x4096x4096 ![0, 1, 2] bcast_S8x4096x1_S8x4096x4096_0_1_2 (broadcastInDim S8x4096x1 ![0, 1] bcast_S8x4096_S8x4096x1_0_1 A1)) (broadcastInDim S8x4096x4096 ![0, 1, 2] bcast_S8x1x4096_S8x4096x4096_0_1_2 (broadcastInDim S8x1x4096 ![0, 2] bcast_S8x4096_S8x1x4096_0_2 A1)))) (broadcastInDim S8x4096x4096 ![] bcast_S_S8x4096x4096 (id (constant S_ .f32 0xFF800000#32)))
def greatest : FVec Ideal S8x4096 .f32 := Host.reduce FloatOps.maximumf (score A0 A1) (constant S_ .f32 0xFF800000#32) reducesTo_S8x4096x4096_S8x4096_d2 h_S_
def ex : FVec Ideal S8x4096x4096 .f32 :=
  Host.exp (subf (score A0 A1) (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 (constant S_ .f32 0xFF800000#32)) (greatest A0 A1)))))
def total : FVec Ideal S8x4096x1 .f32 := broadcastInDim S8x4096x1 ![0, 1] bcast_S8x4096_S8x4096x1_0_1 (Host.reduceAdd (ex A0 A1) (constant S_ .f32 0x00000000#32) reducesTo_S8x4096x4096_S8x4096_d2 h_S_)
def totals : FVec Ideal S8x4096x4096 .f32 := broadcastInDim S8x4096x4096 ![0, 1, 2] bcast_S8x4096x1_S8x4096x4096_0_1_2 (total A0 A1)
def weight : FVec Ideal S8x4096x4096 .f32 := Host.divf (ex A0 A1) (totals A0 A1)
def dps : FVec Ideal S8x4096x4096 .f32 := Host.dotGeneral dot_S8x64x4096_S4096x8x64_S8x4096x4096_1_2_2_0_0_1 none (gh A2) (vh A0)
def rowsum : FVec Ideal S8x4096 .f32 :=
  Host.reduceAdd (mulf (mulf (dps A0 A2) (broadcastInDim S8x4096x4096 ![0, 1, 2] bcast_S8x4096x1_S8x4096x4096_0_1_2 (Host.divf (broadcastInDim S8x4096x1 ![] bcast_S_S8x4096x1 (constant S_ .f32 0x3F800000#32)) (mulf (total A0 A1) (total A0 A1))))) (ex A0 A1)) (constant S_ .f32 0x00000000#32) reducesTo_S8x4096x4096_S8x4096_d2 h_S_
def ds : FVec Ideal S8x4096x4096 .f32 :=
  select past (mulf (addf (Host.divf (dps A0 A2) (totals A0 A1)) (broadcastInDim S8x4096x4096 ![0, 1] bcast_S8x4096_S8x4096x4096_0_1 (Host.reduceAdd (Host.negf (shapeCast _ (rowsum A0 A1 A2) shapeCasts_S8x4096_S8x4096x1)) (constant S_ .f32 0x00000000#32) reducesTo_S8x4096x1_S8x4096_d2 h_S_))) (ex A0 A1)) (broadcastInDim S8x4096x4096 ![] bcast_S_S8x4096x4096 (constant S_ .f32 0x00000000#32))
def dcs : FVec Ideal S8x4096 .f32 :=
  addf (Host.reduceAdd (shapeCast _ (Host.reduceAdd (Host.negf (ds A0 A1 A2)) (constant S_ .f32 0x00000000#32) reducesTo_S8x4096x4096_S8x4096_d1 h_S_) shapeCasts_S8x4096_S8x1x4096) (constant S_ .f32 0x00000000#32) reducesTo_S8x1x4096_S8x4096_d1 h_S_) (Host.reduceAdd (shapeCast _ (Host.reduceAdd (ds A0 A1 A2) (constant S_ .f32 0x00000000#32) reducesTo_S8x4096x4096_S8x4096_d2 h_S_) shapeCasts_S8x4096_S8x4096x1) (constant S_ .f32 0x00000000#32) reducesTo_S8x4096x1_S8x4096_d2 h_S_)
def gates : FVec Ideal S4x2x8x4096 .f32 := broadcastInDim S4x2x8x4096 ![0, 1, 2, 3] bcast_S4x2x1x4096_S4x2x8x4096_0_1_2_3 (shapeCast _ (dcs A0 A1 A2) shapeCasts_S8x4096_S4x2x1x4096)

def out0 : FVec Ideal S4096x512 .f32 := shapeCast _ (transpose S4096x8x64 [1, 0, 2] (Host.dotGeneral dot_S8x4096x4096_S4096x8x64_S8x4096x64_2_0_1_2_0_1 none (mulf (ds A0 A1 A2) eighth) (kh A0)) transposes_S8x4096x64_S4096x8x64_1_0_2) shapeCasts_S4096x8x64_S4096x512
def out1 : FVec Ideal S4096x512 .bf16 := truncf .bf16 (shapeCast _ (transpose S4096x8x64 [1, 0, 2] (Host.dotGeneral dot_S8x4096x4096_S4096x8x64_S8x4096x64_1_0_2_2_0_1 none (mulf (ds A0 A1 A2) eighth) (qh A0)) transposes_S8x4096x64_S4096x8x64_1_0_2) shapeCasts_S4096x8x64_S4096x512) bitsLt_bf16_f32
def out2 : FVec Ideal S4096x512 .bf16 := truncf .bf16 (shapeCast _ (transpose S4096x8x64 [2, 0, 1] (Host.dotGeneral dot_S8x64x4096_S8x4096x4096_S8x64x4096_2_1_1_2_0_0 none (gh A2) (weight A0 A1)) transposes_S8x64x4096_S4096x8x64_2_0_1) shapeCasts_S4096x8x64_S4096x512) bitsLt_bf16_f32
def out3 : FVec Ideal S4x8x4096 .f32 := shapeCast _ (extractStridedSlice S4x1x8x4096 ![0, 0, 0, 0] (gates A0 A1 A2) slices_S4x2x8x4096_S4x1x8x4096_0_0_0_0) shapeCasts_S4x1x8x4096_S4x8x4096
def out4 : FVec Ideal S4x8x4096 .f32 := shapeCast _ (extractStridedSlice S4x1x8x4096 ![0, 1, 0, 0] (gates A0 A1 A2) slices_S4x2x8x4096_S4x1x8x4096_0_1_0_0) shapeCasts_S4x1x8x4096_S4x8x4096

theorem is_out0 (m : (ℓ : Loc nD τ sig) → Buf (Elt Ideal) ℓ) (c : Dev nD) :
    Value.res_out0 m c = out0 (m ((c.tc : Thread nD τ).loc main_arg0)) (m ((c.tc : Thread nD τ).loc main_arg1)) (m ((c.tc : Thread nD τ).loc main_arg2)) := rfl
theorem is_out1 (m : (ℓ : Loc nD τ sig) → Buf (Elt Ideal) ℓ) (c : Dev nD) :
    Value.res_out1 m c = out1 (m ((c.tc : Thread nD τ).loc main_arg0)) (m ((c.tc : Thread nD τ).loc main_arg1)) (m ((c.tc : Thread nD τ).loc main_arg2)) := rfl
theorem is_out2 (m : (ℓ : Loc nD τ sig) → Buf (Elt Ideal) ℓ) (c : Dev nD) :
    Value.res_out2 m c = out2 (m ((c.tc : Thread nD τ).loc main_arg0)) (m ((c.tc : Thread nD τ).loc main_arg1)) (m ((c.tc : Thread nD τ).loc main_arg2)) := rfl
theorem is_out3 (m : (ℓ : Loc nD τ sig) → Buf (Elt Ideal) ℓ) (c : Dev nD) :
    Value.res_out3 m c = out3 (m ((c.tc : Thread nD τ).loc main_arg0)) (m ((c.tc : Thread nD τ).loc main_arg1)) (m ((c.tc : Thread nD τ).loc main_arg2)) := rfl
theorem is_out4 (m : (ℓ : Loc nD τ sig) → Buf (Elt Ideal) ℓ) (c : Dev nD) :
    Value.res_out4 m c = out4 (m ((c.tc : Thread nD τ).loc main_arg0)) (m ((c.tc : Thread nD τ).loc main_arg1)) (m ((c.tc : Thread nD τ).loc main_arg2)) := rfl

/-! ## Their entries -/

/-- The arguments are the real numbers `x`. -/
structure Reads (x : Args) : Prop where
  q : ∀ (a : Fin 8) (s : Fin 4096) (d : Fin 64) (i : Fin 6144), i.val = 3072 + (64 * a.val + d.val) → A0 (ix2 s i) = ((x.q a s d : ℝ) : EReal)
  k : ∀ (a : Fin 8) (s : Fin 4096) (d : Fin 64) (i : Fin 6144), i.val = 3584 + (64 * a.val + d.val) → A0 (ix2 s i) = ((x.k a s d : ℝ) : EReal)
  v : ∀ (a : Fin 8) (s : Fin 4096) (d : Fin 64) (i : Fin 6144), i.val = 4096 + (64 * a.val + d.val) → A0 (ix2 s i) = ((x.v a s d : ℝ) : EReal)
  g : ∀ (a : Fin 8) (s : Fin 4096) (d : Fin 64) (i : Fin 512), i.val = 64 * a.val + d.val → A2 (ix2 s i) = ((x.g a s d : ℝ) : EReal)
  c : ∀ (a : Fin 8) (s : Fin 4096), A1 (ix2 a s) = ((x.c a s : ℝ) : EReal)

variable {A0 A1 A2} {x : Args} (h : Reads A0 A1 A2 x) (a : Fin 8) (s t : Fin 4096) (d : Fin 64)
include h

theorem qh_at : qh A0 (ix3 s a d) = ((x.q a s d : ℝ) : EReal) := by
  pointwise [qh]
  exact h.q a s d _ (by simp [mul_comm])
theorem kh_at : kh A0 (ix3 s a d) = ((x.k a s d : ℝ) : EReal) := by
  pointwise [kh]
  exact h.k a s d _ (by simp [mul_comm])
theorem vh_at : vh A0 (ix3 s a d) = ((x.v a s d : ℝ) : EReal) := by
  pointwise [vh]
  exact h.v a s d _ (by simp [mul_comm])
theorem gh_at : gh A2 (ix3 a d s) = ((x.g a s d : ℝ) : EReal) := by
  pointwise [gh]
  exact h.g a s d _ (by simp [mul_comm])
omit h in
theorem sge_word {m : ℕ} (hm : m ≤ 4096) (s t : Fin m) :
    IntOp.cmpi CmpIPredicate.sge (BitVec.ofNat 32 s.val) (BitVec.ofNat 32 t.val) = BitVec.ofBool (decide (t ≤ s)) := by
  have hs := s.isLt
  have ht := t.isLt
  simp only [IntOp.cmpi, BitVec.sle, Fin.le_def]
  rw [BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp
omit h in
theorem past_at : past (ix3 a s t) = BitVec.ofBool (decide (t ≤ s)) := by
  pointwise [past]
  exact sge_word le_rfl s t
omit h in
theorem eighth_at : eighth (ix3 a s t) = ((1 / 8 : ℝ) : EReal) := by
  pointwise [eighth]
  exact eighth_f32
theorem score_at : score A0 A1 (ix3 a s t) = lg x a s t := by
  pointwise [score]
  rw [past_at, Scalar.select_decide, eighth_at]
  simp only [qh_at h, kh_at h, h.c, id]
  pointwise
  simp only [bot_f32, ← EReal.coe_mul, sum_coe, ← EReal.coe_sub, ← EReal.coe_add]
  rfl
theorem greatest_at : greatest A0 A1 (ix2 a s) = ((M x a s : ℝ) : EReal) := by
  pointwise [greatest]
  simp only [score_at h, bot_f32]
  exact top_eq x a s
omit h in
theorem ex_of (sc : FVec Ideal S8x4096x4096 .f32) (gr : FVec Ideal S8x4096 .f32) :
    Host.exp (subf sc (broadcastInDim S8x4096x4096 ![0, 1, 2] bcast_S8x4096x1_S8x4096x4096_0_1_2 (broadcastInDim S8x4096x1 ![0, 1] bcast_S8x4096_S8x4096x1_0_1 (maximumf (broadcastInDim S8x4096 ![] bcast_S_S8x4096 (constant S_ .f32 0xFF800000#32)) gr)))) (ix3 a s t) =
      Ideal.exp (sc (ix3 a s t) - max (Ideal.ofBits FTy.f32 4286578688#32) (gr (ix2 a s))) := by
  pointwise
theorem ex_at : ex A0 A1 (ix3 a s t) = ((E x a s t : ℝ) : EReal) := by
  refine (ex_of a s t (score A0 A1) (greatest A0 A1)).trans ?_
  rw [score_at h, greatest_at h, bot_f32, max_eq_right bot_le]
  unfold lg E
  split
  · rw [← EReal.coe_sub, Ideal.exp_coe]
  · rw [EReal.bot_sub, Ideal.exp_bot, EReal.coe_zero]
theorem total_at (i : Fin 1) : total A0 A1 (ix3 a s i) = ((Z x a s : ℝ) : EReal) := by
  pointwise [total]
  simp only [ex_at h, sum_coe]
  rfl
theorem weight_at : weight A0 A1 (ix3 a s t) = ((W x a s t : ℝ) : EReal) := by
  pointwise [weight, totals]
  rw [ex_at h, total_at h, div_real (Z_ne x a s)]
  rfl
theorem dps_at : dps A0 A2 (ix3 a s t) = ((D x a s t : ℝ) : EReal) := by
  pointwise [dps]
  simp only [gh_at h, vh_at h, ← EReal.coe_mul, sum_coe]
  exact congrArg _ (Finset.sum_congr rfl fun d _ => mul_comm _ _)
theorem rowsum_at : rowsum A0 A1 A2 (ix2 a s) = ((∑ u, D x a s u * (1 / (Z x a s * Z x a s)) * E x a s u : ℝ) : EReal) := by
  pointwise [rowsum]
  have h1 : (1 : EReal) = ((1 : ℝ) : EReal) := EReal.coe_one.symm
  simp only [dps_at h, total_at h, ex_at h]
  rw [h1]
  simp only [← EReal.coe_mul, div_real (mul_ne_zero (Z_ne x a s) (Z_ne x a s)), sum_coe]
theorem ds_at : ds A0 A1 A2 (ix3 a s t) = ((S x a s t : ℝ) : EReal) := by
  pointwise [ds, totals]
  rw [past_at, Scalar.select_decide]
  by_cases hp : t ≤ s
  · rw [if_pos hp, dps_at h, total_at h, ex_at h, rowsum_at h, Fin.sum_univ_one, div_real (Z_ne x a s), ← EReal.coe_neg,
      ← EReal.coe_add, ← EReal.coe_mul, S_quot]
  · rw [if_neg hp, S_off x a s t hp, EReal.coe_zero]
theorem dcs_at : dcs A0 A1 A2 (ix2 a t) = ((dc x a t : ℝ) : EReal) := by
  pointwise [dcs]
  simp only [ds_at h, Fin.sum_univ_one, ← EReal.coe_neg, sum_coe, ← EReal.coe_add]
  rw [S_sum, add_zero, Finset.sum_neg_distrib]
  rfl
omit h in
theorem head_of (i : Fin 512) (hi : i.val = 64 * a.val + d.val) (h1 : i.val / 64 < 8) (h2 : i.val % 64 < 64) :
    (⟨i.val / 64, h1⟩ : Fin 8) = a ∧ (⟨i.val % 64, h2⟩ : Fin 64) = d := by
  constructor <;> ext <;> simp only <;> omega
theorem out0_at (i : Fin 512) (hi : i.val = 64 * a.val + d.val) : out0 A0 A1 A2 (ix2 s i) = ((dq x a s d : ℝ) : EReal) := by
  pointwise [out0]
  obtain ⟨h1, h2⟩ := head_of a d i hi (by omega) (by omega)
  simp only [h1, h2, ds_at h, eighth_at, kh_at h, ← EReal.coe_mul, sum_coe]
  exact congrArg _ (Finset.sum_congr rfl fun t _ => by ring)
theorem out1_at (i : Fin 512) (hi : i.val = 64 * a.val + d.val) : out1 A0 A1 A2 (ix2 t i) = ((dk x a t d : ℝ) : EReal) := by
  pointwise [out1]
  obtain ⟨h1, h2⟩ := head_of a d i hi (by omega) (by omega)
  simp only [h1, h2, ds_at h, eighth_at, qh_at h, ← EReal.coe_mul, sum_coe]
  exact congrArg _ (Finset.sum_congr rfl fun t _ => by ring)
theorem out2_at (i : Fin 512) (hi : i.val = 64 * a.val + d.val) : out2 A0 A1 A2 (ix2 t i) = ((dv x a t d : ℝ) : EReal) := by
  pointwise [out2]
  obtain ⟨h1, h2⟩ := head_of a d i hi (by omega) (by omega)
  simp only [h1, h2, gh_at h, weight_at h, ← EReal.coe_mul, sum_coe]
  exact congrArg _ (Finset.sum_congr rfl fun t _ => mul_comm _ _)
theorem out3_at (p : Fin 4) (r : Fin 8) (hp : a.val = 2 * p.val) : out3 A0 A1 A2 (ix3 p r t) = ((dc x a t : ℝ) : EReal) := by
  pointwise [out3, gates]
  rw [show (⟨p.val * 2, by omega⟩ : Fin 8) = a from Fin.ext (by simp only; omega)]
  exact dcs_at h a t
theorem out4_at (p : Fin 4) (r : Fin 8) (hp : a.val = 2 * p.val + 1) : out4 A0 A1 A2 (ix3 p r t) = ((dc x a t : ℝ) : EReal) := by
  pointwise [out4, gates]
  rw [show (⟨p.val * 2 + 1, by omega⟩ : Fin 8) = a from Fin.ext (by simp only; omega)]
  exact dcs_at h a t

end Cert.ReferenceIdeal.Hand

end
-- ==== Proof.HostK.lean ====
module

public import proofs.«01_k».proof.Proof.Run
public import proofs.«01_k».proof.Proof.Refv

/-! What the host hands the launch: the attention's output, its row normalisers, and the gates in three parts. -/

@[expose] public section

noncomputable section

namespace Cert.KernelIdeal.Hand

open Cert.KernelIdeal Cert.KernelIdeal.Gen Idealize.ShloMosaic Idealize.ShloMosaic.TcCoe Idealize.SL.Sem
open Idealize.ShloMosaic.StableHlo
open Cert.Att

variable (A0 : FVec Ideal S4096x6144 .bf16) (A1 : FVec Ideal S8x4096 .f32)

/-- The attention's output. -/
def hostO : FVec Ideal S4096x512 .f32 :=
  shapeCast _ (transpose S4096x8x64 [2, 0, 1] (Host.dotGeneral dot_S4096x8x64_S8x4096x4096_S8x64x4096_0_2_2_1_1_0 none (ReferenceIdeal.Hand.vh A0) (ReferenceIdeal.Hand.weight A0 A1)) transposes_S8x64x4096_S4096x8x64_2_0_1) shapeCasts_S4096x8x64_S4096x512

/-- The exponentials under a query's greatest score. -/
def hostE : FVec Ideal S8x4096x4096 .f32 :=
  Host.exp (subf (ReferenceIdeal.Hand.score A0 A1) (broadcastInDim S8x4096x4096 ![0, 1, 2] bcast_S8x4096x1_S8x4096x4096_0_1_2 (broadcastInDim S8x4096x1 ![0, 1] bcast_S8x4096_S8x4096x1_0_1 (ReferenceIdeal.Hand.greatest A0 A1))))
/-- The row normalisers less the gates. -/
def hostN : FVec Ideal S8x4096 .f32 :=
  subf (addf (ReferenceIdeal.Hand.greatest A0 A1) (Host.log (Host.reduceAdd (hostE A0 A1) (constant S_ .f32 0x00000000#32) reducesTo_S8x4096x4096_S8x4096_d2 h_S_))) A1
/-- Those, over a head's lanes. -/
def hostL : FVec Ideal S4096x512 .f32 :=
  shapeCast _ (broadcastInDim S4096x8x64 ![0, 1, 2] bcast_S4096x8x1_S4096x8x64_0_1_2 (broadcastInDim S4096x8x1 ![0, 1] bcast_S4096x8_S4096x8x1_0_1 (transpose S4096x8 [1, 0] (hostN A0 A1) transposes_S8x4096_S4096x8_1_0))) shapeCasts_S4096x8x64_S4096x512

/-- A gate's three parts. -/
def part0 : FVec Ideal S8x4096 .bf16 := truncf .bf16 (Host.negf A1) bitsLt_bf16_f32
def rest0 : FVec Ideal S8x4096 .f32 := subf (Host.negf A1) (extf .f32 (part0 A1) bitsLt_bf16_f32)
def part1 : FVec Ideal S8x4096 .bf16 := truncf .bf16 (rest0 A1) bitsLt_bf16_f32
def part2 : FVec Ideal S8x4096 .bf16 := truncf .bf16 (subf (rest0 A1) (extf .f32 (part1 A1) bitsLt_bf16_f32)) bitsLt_bf16_f32
def parts : FVec Ideal S3x8x4096 .bf16 :=
  concatenate S3x8x4096 0 [⟨S1x8x4096, broadcastInDim S1x8x4096 ![1, 2] bcast_S8x4096_S1x8x4096_1_2 (part0 A1)⟩, ⟨S1x8x4096, broadcastInDim S1x8x4096 ![1, 2] bcast_S8x4096_S1x8x4096_1_2 (part1 A1)⟩, ⟨S1x8x4096, broadcastInDim S1x8x4096 ![1, 2] bcast_S8x4096_S1x8x4096_1_2 (part2 A1)⟩] concatenates_S1x8x4096_S1x8x4096_S1x8x4096_S3x8x4096_d0
/-- The gates' parts beside the keys. -/
def hostC : FVec Ideal S4x4096x128 .bf16 :=
  truncf .bf16 (pad S4x4096x128 ![0, 0, 0] ![0, 0, 122] ![0, 0, 0] (shapeCast S4x4096x6 (transpose S4x4096x2x3 [1, 3, 2, 0] (shapeCast S3x4x2x4096 (extf .f32 (parts A1) bitsLt_bf16_f32) shapeCasts_S3x8x4096_S3x4x2x4096) transposes_S3x4x2x4096_S4x4096x2x3_1_3_2_0) shapeCasts_S4x4096x2x3_S4x4096x6) (sitofp .f32 (constantI S_ 32 0#32)) pads_S4x4096x6_S4x4096x128_000_000_01220 h_S_) bitsLt_bf16_f32

variable (m : (ℓ : Loc nD τ sig) → Buf (Elt Ideal) ℓ) (c : Dev nD)

set_option maxRecDepth 8192 in
set_option maxHeartbeats 50800000 in
theorem entry_o : entry m c main_v40 = hostO (m ((c : Thread nD τ).loc main_arg0)) (m ((c : Thread nD τ).loc main_arg1)) := by
  unfold entry
  simp only [hostAll, List.flatten_cons, List.flatten_nil, List.cons_append, List.nil_append, List.append_nil, hostOps0, hostOps0_1, hostOps0_2, hostOps0_3, hostOps0_4, hostOps0_5, hostOps0_6, TRef.nullary, TRef.ternary, TRef.unary, TRef.binary, TRef.toBuf, TRef.ofBuf, cast_eq]
  after_results_simp <;> rfl

set_option maxRecDepth 8192 in
set_option maxHeartbeats 50800000 in
theorem entry_l : entry m c main_v71 = hostL (m ((c : Thread nD τ).loc main_arg0)) (m ((c : Thread nD τ).loc main_arg1)) := by
  unfold entry
  simp only [hostAll, List.flatten_cons, List.flatten_nil, List.cons_append, List.nil_append, List.append_nil, hostOps0, hostOps0_1, hostOps0_2, hostOps0_3, hostOps0_4, hostOps0_5, hostOps0_6, TRef.nullary, TRef.ternary, TRef.unary, TRef.binary, TRef.toBuf, TRef.ofBuf, cast_eq]
  after_results_simp <;> rfl

set_option maxRecDepth 8192 in
set_option maxHeartbeats 50800000 in
theorem entry_c : entry m c main_v89 = hostC (m ((c : Thread nD τ).loc main_arg1)) := by
  unfold entry
  simp only [hostAll, List.flatten_cons, List.flatten_nil, List.cons_append, List.nil_append, List.append_nil, hostOps0, hostOps0_1, hostOps0_2, hostOps0_3, hostOps0_4, hostOps0_5, hostOps0_6, TRef.nullary, TRef.ternary, TRef.unary, TRef.binary, TRef.toBuf, TRef.ofBuf, cast_eq]
  after_results_simp <;> rfl

/-! ## Their entries -/

variable {A0 A1} {A2 : FVec Ideal S4096x512 .bf16} {x : Args} (h : ReferenceIdeal.Hand.Reads A0 A1 A2 x) (a : Fin 8) (s t : Fin 4096) (d : Fin 64)
include h

theorem hostO_at (i : Fin 512) (hi : i.val = 64 * a.val + d.val) : hostO A0 A1 (ix2 s i) = ((O x a s d : ℝ) : EReal) := by
  pointwise [hostO]
  obtain ⟨h1, h2⟩ := ReferenceIdeal.Hand.head_of a d i hi (by omega) (by omega)
  simp only [h1, h2, ReferenceIdeal.Hand.vh_at h, ReferenceIdeal.Hand.weight_at h, ← EReal.coe_mul, sum_coe]
  exact congrArg (fun y : ℝ => (y : EReal)) (Finset.sum_congr rfl fun t _ => mul_comm _ _)
omit h in
theorem hostE_of (sc : FVec Ideal S8x4096x4096 .f32) (gr : FVec Ideal S8x4096 .f32) :
    Host.exp (subf sc (broadcastInDim S8x4096x4096 ![0, 1, 2] bcast_S8x4096x1_S8x4096x4096_0_1_2 (broadcastInDim S8x4096x1 ![0, 1] bcast_S8x4096_S8x4096x1_0_1 gr))) (ix3 a s t) =
      Ideal.exp (sc (ix3 a s t) - gr (ix2 a s)) := by
  pointwise
theorem hostE_at : hostE A0 A1 (ix3 a s t) = ((E x a s t : ℝ) : EReal) := by
  refine (hostE_of a s t _ _).trans ?_
  rw [ReferenceIdeal.Hand.score_at h, ReferenceIdeal.Hand.greatest_at h]
  unfold lg E
  split
  · rw [← EReal.coe_sub, Ideal.exp_coe]
  · rw [EReal.bot_sub, Ideal.exp_bot, EReal.coe_zero]
omit h in
theorem hostN_of (ee : FVec Ideal S8x4096x4096 .f32) (gr : FVec Ideal S8x4096 .f32) :
    subf (addf gr (Host.log (Host.reduceAdd ee (constant S_ .f32 0x00000000#32) reducesTo_S8x4096x4096_S8x4096_d2 h_S_))) A1 (ix2 a s) =
      gr (ix2 a s) + Ideal.log (∑ t, ee (ix3 a s t)) - A1 (ix2 a s) := by
  pointwise
theorem hostN_at : hostN A0 A1 (ix2 a s) = ((M x a s + Real.log (Z x a s) - x.c a s : ℝ) : EReal) := by
  refine (hostN_of a s _ _).trans ?_
  simp only [hostE_at h, sum_coe, ReferenceIdeal.Hand.greatest_at h, h.c]
  show _ + Ideal.log ((Z x a s : ℝ) : EReal) - _ = _
  rw [Ideal.log_coe, if_neg (not_le.2 (Z_pos x a s)), ← EReal.coe_add, ← EReal.coe_sub]
theorem hostL_at (i : Fin 512) (hi : i.val = 64 * a.val + d.val) : hostL A0 A1 (ix2 s i) = ((M x a s + Real.log (Z x a s) - x.c a s : ℝ) : EReal) := by
  pointwise [hostL]
  obtain ⟨h1, h2⟩ := ReferenceIdeal.Hand.head_of a d i hi (by omega) (by omega)
  simp only [h1]
  exact hostN_at h a s

theorem part0_at : part0 A1 (ix2 a s) = ((-x.c a s : ℝ) : EReal) := by
  pointwise [part0]
  rw [h.c, EReal.coe_neg]
theorem rest0_at : rest0 A1 (ix2 a s) = ((0 : ℝ) : EReal) := by
  pointwise [rest0]
  rw [part0_at h, h.c, ← EReal.coe_neg, ← EReal.coe_sub, sub_self]
theorem part1_at : part1 A1 (ix2 a s) = ((0 : ℝ) : EReal) := by
  pointwise [part1]
  exact rest0_at h a s
theorem part2_at : part2 A1 (ix2 a s) = ((0 : ℝ) : EReal) := by
  pointwise [part2]
  rw [part1_at h, rest0_at h, ← EReal.coe_sub, sub_self]
omit h in
theorem parts_at0 : parts A1 (ix3 0 a s) = part0 A1 (ix2 a s) := by
  pointwise [parts]
omit h in
theorem parts_at1 : parts A1 (ix3 1 a s) = part1 A1 (ix2 a s) := by
  pointwise [parts]
omit h in
theorem parts_at2 : parts A1 (ix3 2 a s) = part2 A1 (ix2 a s) := by
  pointwise [parts]
theorem hostC_at0 (p : Fin 4) (hp : a.val = 2 * p.val) : hostC A1 (ix3 p s 0) = ((-x.c a s : ℝ) : EReal) := by
  pointwise [hostC]
  rw [show (⟨p.val * 2, by omega⟩ : Fin 8) = a from Fin.ext (by simp only; omega), parts_at0]
  exact part0_at h a s
theorem hostC_at1 (p : Fin 4) (hp : a.val = 2 * p.val) : hostC A1 (ix3 p s 1) = ((0 : ℝ) : EReal) := by
  pointwise [hostC]
  rw [show (⟨p.val * 2, by omega⟩ : Fin 8) = a from Fin.ext (by simp only; omega), parts_at1]
  exact part1_at h a s
theorem hostC_at2 (p : Fin 4) (hp : a.val = 2 * p.val) : hostC A1 (ix3 p s 2) = ((0 : ℝ) : EReal) := by
  pointwise [hostC]
  rw [show (⟨p.val * 2, by omega⟩ : Fin 8) = a from Fin.ext (by simp only; omega), parts_at2]
  exact part2_at h a s
theorem hostC_at3 (p : Fin 4) (hp : a.val = 2 * p.val + 1) : hostC A1 (ix3 p s 3) = ((-x.c a s : ℝ) : EReal) := by
  pointwise [hostC]
  rw [show (⟨p.val * 2 + 1, by omega⟩ : Fin 8) = a from Fin.ext (by simp only; omega), parts_at0]
  exact part0_at h a s
theorem hostC_at4 (p : Fin 4) (hp : a.val = 2 * p.val + 1) : hostC A1 (ix3 p s 4) = ((0 : ℝ) : EReal) := by
  pointwise [hostC]
  rw [show (⟨p.val * 2 + 1, by omega⟩ : Fin 8) = a from Fin.ext (by simp only; omega), parts_at1]
  exact part1_at h a s
theorem hostC_at5 (p : Fin 4) (hp : a.val = 2 * p.val + 1) : hostC A1 (ix3 p s 5) = ((0 : ℝ) : EReal) := by
  pointwise [hostC]
  rw [show (⟨p.val * 2 + 1, by omega⟩ : Fin 8) = a from Fin.ext (by simp only; omega), parts_at2]
  exact part2_at h a s
end Cert.KernelIdeal.Hand

end
-- ==== Proof.Blocks.lean ====
module

public import proofs.«01_k».proof.Proof.Sums
public import proofs.«01_k».proof.Proof.HostK
public import proofs.«01_k».proof.Proof.Gen.Pre_finite
public import Idealize.ShloMosaic.Lib.ReduceAll

/-! Which part of which array each tile of a grid point is, and what the precondition says of the arguments. -/

@[expose] public section

noncomputable section

namespace Cert.KernelIdeal.Hand

open Cert.KernelIdeal Cert.KernelIdeal.Gen Idealize.ShloMosaic Idealize.ShloMosaic.TcCoe Idealize.SL.Sem
open Cert.Att

variable (V : (c : Dev nD) → (b : Ref sig .tc) → Buf (Elt Ideal) ((c.tc : Thread nD τ).loc b)) (c : Dev nD)

theorem blk0 (t : Fin grid0.N) (s : Fin 512) (l : Fin 128) (i : Fin 4096) (k : Fin 6144) (hi : i.val = qi (pr (grid0.coords t)) * 512 + s.val)
    (hk : k.val = (24 + (pq t).val) * 128 + l.val) : (tl V c t).q (ix2 s l) = V c main_arg0 (ix2 i k) := by
  refine congrArg (V c main_arg0) (funext fun a => Fin.ext ?_)
  have e := tr0 (F := Ideal) (grid0.coords t)
  fin_cases a
  · show cc0_transform_0 k0_off1_inb numel1_S1 (tabs (F := Ideal)) (grid0.coords t) 0 * 512 + 1 * s.val = i.val
    rw [e]; show qi (pr (grid0.coords t)) * 512 + 1 * s.val = i.val; omega
  · show cc0_transform_0 k0_off1_inb numel1_S1 (tabs (F := Ideal)) (grid0.coords t) 1 * 128 + 1 * l.val = k.val
    rw [e]; show (24 + (pq t).val) * 128 + 1 * l.val = k.val; omega

theorem blk1 (t : Fin grid0.N) (s : Fin 512) (l : Fin 128) (i : Fin 4096) (k : Fin 6144) (hi : i.val = ki (pr (grid0.coords t)) * 512 + s.val)
    (hk : k.val = (28 + (pq t).val) * 128 + l.val) : (tl V c t).k (ix2 s l) = V c main_arg0 (ix2 i k) := by
  refine congrArg (V c main_arg0) (funext fun a => Fin.ext ?_)
  have e := tr1 (F := Ideal) (grid0.coords t)
  fin_cases a
  · show cc0_transform_1 k0_off1_inb numel1_S1 (tabs (F := Ideal)) (grid0.coords t) 0 * 512 + 1 * s.val = i.val
    rw [e]; show ki (pr (grid0.coords t)) * 512 + 1 * s.val = i.val; omega
  · show cc0_transform_1 k0_off1_inb numel1_S1 (tabs (F := Ideal)) (grid0.coords t) 1 * 128 + 1 * l.val = k.val
    rw [e]; show (28 + (pq t).val) * 128 + 1 * l.val = k.val; omega

theorem blk2 (t : Fin grid0.N) (s : Fin 512) (l : Fin 128) (i : Fin 4096) (k : Fin 6144) (hi : i.val = ki (pr (grid0.coords t)) * 512 + s.val)
    (hk : k.val = (32 + (pq t).val) * 128 + l.val) : (tl V c t).v (ix2 s l) = V c main_arg0 (ix2 i k) := by
  refine congrArg (V c main_arg0) (funext fun a => Fin.ext ?_)
  have e := tr2 (F := Ideal) (grid0.coords t)
  fin_cases a
  · show cc0_transform_2 k0_off1_inb numel1_S1 (tabs (F := Ideal)) (grid0.coords t) 0 * 512 + 1 * s.val = i.val
    rw [e]; show ki (pr (grid0.coords t)) * 512 + 1 * s.val = i.val; omega
  · show cc0_transform_2 k0_off1_inb numel1_S1 (tabs (F := Ideal)) (grid0.coords t) 1 * 128 + 1 * l.val = k.val
    rw [e]; show (32 + (pq t).val) * 128 + 1 * l.val = k.val; omega

theorem blk4 (t : Fin grid0.N) (s : Fin 512) (l : Fin 128) (i : Fin 4096) (k : Fin 512) (hi : i.val = qi (pr (grid0.coords t)) * 512 + s.val)
    (hk : k.val = (pq t).val * 128 + l.val) : (tl V c t).o (ix2 s l) = V c main_v40 (ix2 i k) := by
  refine congrArg (V c main_v40) (funext fun a => Fin.ext ?_)
  have e := tr4 (F := Ideal) (grid0.coords t)
  fin_cases a
  · show cc0_transform_4 k0_off1_inb numel1_S1 (tabs (F := Ideal)) (grid0.coords t) 0 * 512 + 1 * s.val = i.val
    rw [e]; show qi (pr (grid0.coords t)) * 512 + 1 * s.val = i.val; omega
  · show cc0_transform_4 k0_off1_inb numel1_S1 (tabs (F := Ideal)) (grid0.coords t) 1 * 128 + 1 * l.val = k.val
    rw [e]; show (pq t).val * 128 + 1 * l.val = k.val; omega

theorem blk5 (t : Fin grid0.N) (s : Fin 512) (l : Fin 128) (i : Fin 4096) (k : Fin 512) (hi : i.val = qi (pr (grid0.coords t)) * 512 + s.val)
    (hk : k.val = (pq t).val * 128 + l.val) : (tl V c t).l (ix2 s l) = V c main_v71 (ix2 i k) := by
  refine congrArg (V c main_v71) (funext fun a => Fin.ext ?_)
  have e := tr5 (F := Ideal) (grid0.coords t)
  fin_cases a
  · show cc0_transform_5 k0_off1_inb numel1_S1 (tabs (F := Ideal)) (grid0.coords t) 0 * 512 + 1 * s.val = i.val
    rw [e]; show qi (pr (grid0.coords t)) * 512 + 1 * s.val = i.val; omega
  · show cc0_transform_5 k0_off1_inb numel1_S1 (tabs (F := Ideal)) (grid0.coords t) 1 * 128 + 1 * l.val = k.val
    rw [e]; show (pq t).val * 128 + 1 * l.val = k.val; omega

theorem blk6 (t : Fin grid0.N) (s : Fin 512) (l : Fin 128) (i : Fin 4096) (k : Fin 512) (hi : i.val = qi (pr (grid0.coords t)) * 512 + s.val)
    (hk : k.val = (pq t).val * 128 + l.val) : (tl V c t).d (ix2 s l) = V c main_arg2 (ix2 i k) := by
  refine congrArg (V c main_arg2) (funext fun a => Fin.ext ?_)
  have e := tr6 (F := Ideal) (grid0.coords t)
  fin_cases a
  · show cc0_transform_6 k0_off1_inb numel1_S1 (tabs (F := Ideal)) (grid0.coords t) 0 * 512 + 1 * s.val = i.val
    rw [e]; show qi (pr (grid0.coords t)) * 512 + 1 * s.val = i.val; omega
  · show cc0_transform_6 k0_off1_inb numel1_S1 (tabs (F := Ideal)) (grid0.coords t) 1 * 128 + 1 * l.val = k.val
    rw [e]; show (pq t).val * 128 + 1 * l.val = k.val; omega

theorem blk3 (t : Fin grid0.N) (r : Fin 512) (l : Fin 128) (i : Fin 4096) (p : Fin 4) (hp : p.val = (pq t).val)
    (hi : i.val = ki (pr (grid0.coords t)) * 512 + r.val) : (tl V c t).ck (ix3 0 r l) = V c main_v89 (ix3 p i l) := by
  refine congrArg (V c main_v89) (funext fun a => Fin.ext ?_)
  have e := tr3 (F := Ideal) (grid0.coords t)
  fin_cases a
  · show cc0_transform_3 k0_off1_inb numel1_S1 (tabs (F := Ideal)) (grid0.coords t) 0 * 1 + 1 * 0 = p.val
    rw [e]; show (pq t).val * 1 + 1 * 0 = p.val; omega
  · show cc0_transform_3 k0_off1_inb numel1_S1 (tabs (F := Ideal)) (grid0.coords t) 1 * 512 + 1 * r.val = i.val
    rw [e]; show ki (pr (grid0.coords t)) * 512 + 1 * r.val = i.val; omega
  · show cc0_transform_3 k0_off1_inb numel1_S1 (tabs (F := Ideal)) (grid0.coords t) 2 * 128 + 1 * l.val = l.val
    rw [e]; show 0 * 128 + 1 * l.val = l.val; omega

variable {c} {x : Args} {m : (ℓ : Loc nD τ sig) → Buf (Elt Ideal) ℓ}

/-- Every tile of every point holds the pair's blocks of real arrays. -/
theorem tile_of (h : ReferenceIdeal.Hand.Reads (m ((c : Thread nD τ).loc main_arg0)) (m ((c : Thread nD τ).loc main_arg1)) (m ((c : Thread nD τ).loc main_arg2)) x)
    (t : Fin grid0.N) : TileOf x (pq t) (kF (pr (grid0.coords t))) (qF (pr (grid0.coords t))) (tl (entry m) c t) := by
  have hpq : (pq t).val < 4 := (pq t).isLt
  have hqf : (qF (pr (grid0.coords t))).val = qi (pr (grid0.coords t)) := rfl
  have hkf : (kF (pr (grid0.coords t))).val = ki (pr (grid0.coords t)) := rfl
  constructor
  · intro s d
    rw [blk0 (entry m) c t s (lnA d) (row (qF (pr (grid0.coords t))) s) ⟨(24 + (pq t).val) * 128 + d.val, by omega⟩ (by simp only [row]; omega) rfl, entry_arg0]
    exact h.q (ha (pq t)) _ d _ (by simp only [ha]; omega)
  · intro s d
    rw [blk0 (entry m) c t s (lnB d) (row (qF (pr (grid0.coords t))) s) ⟨(24 + (pq t).val) * 128 + (64 + d.val), by omega⟩ (by simp only [row]; omega) rfl, entry_arg0]
    exact h.q (hb (pq t)) _ d _ (by simp only [hb]; omega)
  · intro s d
    rw [blk1 (entry m) c t s (lnA d) (row (kF (pr (grid0.coords t))) s) ⟨(28 + (pq t).val) * 128 + d.val, by omega⟩ (by simp only [row]; omega) rfl, entry_arg0]
    exact h.k (ha (pq t)) _ d _ (by simp only [ha]; omega)
  · intro s d
    rw [blk1 (entry m) c t s (lnB d) (row (kF (pr (grid0.coords t))) s) ⟨(28 + (pq t).val) * 128 + (64 + d.val), by omega⟩ (by simp only [row]; omega) rfl, entry_arg0]
    exact h.k (hb (pq t)) _ d _ (by simp only [hb]; omega)
  · intro s d
    rw [blk2 (entry m) c t s (lnA d) (row (kF (pr (grid0.coords t))) s) ⟨(32 + (pq t).val) * 128 + d.val, by omega⟩ (by simp only [row]; omega) rfl, entry_arg0]
    exact h.v (ha (pq t)) _ d _ (by simp only [ha]; omega)
  · intro s d
    rw [blk2 (entry m) c t s (lnB d) (row (kF (pr (grid0.coords t))) s) ⟨(32 + (pq t).val) * 128 + (64 + d.val), by omega⟩ (by simp only [row]; omega) rfl, entry_arg0]
    exact h.v (hb (pq t)) _ d _ (by simp only [hb]; omega)
  · intro s d
    rw [blk6 (entry m) c t s (lnA d) (row (qF (pr (grid0.coords t))) s) ⟨(pq t).val * 128 + d.val, by omega⟩ (by simp only [row]; omega) rfl, entry_arg2]
    exact h.g (ha (pq t)) _ d _ (by simp only [ha]; omega)
  · intro s d
    rw [blk6 (entry m) c t s (lnB d) (row (qF (pr (grid0.coords t))) s) ⟨(pq t).val * 128 + (64 + d.val), by omega⟩ (by simp only [row]; omega) rfl, entry_arg2]
    exact h.g (hb (pq t)) _ d _ (by simp only [hb]; omega)
  · intro s d
    rw [blk4 (entry m) c t s (lnA d) (row (qF (pr (grid0.coords t))) s) ⟨(pq t).val * 128 + d.val, by omega⟩ (by simp only [row]; omega) rfl, entry_o]
    exact hostO_at h (ha (pq t)) _ d _ (by simp only [ha]; omega)
  · intro s d
    rw [blk4 (entry m) c t s (lnB d) (row (qF (pr (grid0.coords t))) s) ⟨(pq t).val * 128 + (64 + d.val), by omega⟩ (by simp only [row]; omega) rfl, entry_o]
    exact hostO_at h (hb (pq t)) _ d _ (by simp only [hb]; omega)
  · intro r
    rw [blk3 (entry m) c t r 0 (row (kF (pr (grid0.coords t))) r) (pq t) rfl (by simp only [row]; omega), entry_c]
    exact hostC_at0 h (ha (pq t)) _ (pq t) rfl
  · intro r
    rw [blk3 (entry m) c t r 1 (row (kF (pr (grid0.coords t))) r) (pq t) rfl (by simp only [row]; omega), entry_c]
    exact hostC_at1 h (ha (pq t)) _ (pq t) rfl
  · intro r
    rw [blk3 (entry m) c t r 2 (row (kF (pr (grid0.coords t))) r) (pq t) rfl (by simp only [row]; omega), entry_c]
    exact hostC_at2 h (ha (pq t)) _ (pq t) rfl
  · intro r
    rw [blk3 (entry m) c t r 3 (row (kF (pr (grid0.coords t))) r) (pq t) rfl (by simp only [row]; omega), entry_c]
    exact hostC_at3 h (hb (pq t)) _ (pq t) rfl
  · intro r
    rw [blk3 (entry m) c t r 4 (row (kF (pr (grid0.coords t))) r) (pq t) rfl (by simp only [row]; omega), entry_c]
    exact hostC_at4 h (hb (pq t)) _ (pq t) rfl
  · intro r
    rw [blk3 (entry m) c t r 5 (row (kF (pr (grid0.coords t))) r) (pq t) rfl (by simp only [row]; omega), entry_c]
    exact hostC_at5 h (hb (pq t)) _ (pq t) rfl
  · intro s
    rw [blk5 (entry m) c t s 0 (row (qF (pr (grid0.coords t))) s) ⟨(pq t).val * 128 + 0, by omega⟩ (by simp only [row]; omega) rfl, entry_l]
    exact hostL_at h (ha (pq t)) _ 0 _ (by simp only [ha]; omega)
  · intro s
    rw [blk5 (entry m) c t s 64 (row (qF (pr (grid0.coords t))) s) ⟨(pq t).val * 128 + 64, by omega⟩ (by simp only [row]; omega) rfl, entry_l]
    exact hostL_at h (hb (pq t)) _ 0 _ (by simp only [hb]; omega)

/-- A number of absolute value under infinity is real. -/
theorem real_of_lt (y : EReal) (h : FloatOps.cmpf (F := Ideal) (φ := .f32) .olt (FloatOps.hostAbsf (F := Ideal) (φ := .f32) y) (Ideal.ofBits .f32 0x7F800000#32) = 1#1) :
    y = ((y.toReal : ℝ) : EReal) := by
  rw [Ideal.cmpf_def] at h
  induction y with
  | bot => exfalso; revert h; simp [Ideal.cmp, Ideal.absf_def (φ := .f32) (⊥ : EReal)]
  | top => exfalso; revert h; simp [Ideal.cmp, Ideal.absf_def (φ := .f32) (⊤ : EReal)]
  | coe y => rfl

variable (A0 : FVec Ideal S4096x6144 .bf16) (A1 : FVec Ideal S8x4096 .f32) (A2 : FVec Ideal S4096x512 .bf16)

/-- The real arguments. -/
def realArgs : Args where
  q a s d := (A0 (ix2 s ⟨3072 + (64 * a.val + d.val), by omega⟩) : EReal).toReal
  k a s d := (A0 (ix2 s ⟨3584 + (64 * a.val + d.val), by omega⟩) : EReal).toReal
  v a s d := (A0 (ix2 s ⟨4096 + (64 * a.val + d.val), by omega⟩) : EReal).toReal
  g a s d := (A2 (ix2 s ⟨64 * a.val + d.val, by omega⟩) : EReal).toReal
  c a s := (A1 (ix2 a s) : EReal).toReal

theorem andi_left {a b : BitVec 1} (h : IntOp.andi a b = 1#1) : a = 1#1 ∧ b = 1#1 := by
  revert a b; decide

/-- Under the precondition the arguments are real. -/
theorem reads_of (h : Cert.Pre_finite.fn (F := Ideal) A0 A1 A2 = fun _ => 1#1) : ReferenceIdeal.Hand.Reads A0 A1 A2 (realArgs A0 A1 A2) := by
  have h0 := congrFun h (fun a => a.elim0)
  dsimp only [Cert.Pre_finite.fn] at h0
  obtain ⟨h1, hg⟩ := andi_left h0
  obtain ⟨hq, hc⟩ := andi_left h1
  have q := fun i => Host.reduce_andi_all _ _ _ _ _ hq i
  have c := fun i => Host.reduce_andi_all _ _ _ _ _ hc i
  have g := fun i => Host.reduce_andi_all _ _ _ _ _ hg i
  have a0 : ∀ (s : Fin 4096) (i : Fin 6144) (j : Fin 1536), i.val = 3072 + j.val → A0 (ix2 s i) = (((A0 (ix2 s i) : EReal).toReal : ℝ) : EReal) := by
    intro s i j hi
    have e := q (ix2 s j)
    rw [show A0 (ix2 s i) = extractStridedSlice Cert.Pre_finite.S4096x1536 ![0, 3072] A0 Cert.Pre_finite.Facts.slices_S4096x6144_S4096x1536_0_3072 (ix2 s j) from
      (congrArg A0 (funext fun a => Fin.ext (by fin_cases a; exact (Nat.zero_add s.val).symm; exact hi)))]
    exact real_of_lt _ e
  constructor
  · intro a s d i hi
    have e := a0 s i ⟨64 * a.val + d.val, by omega⟩ hi
    have b : 3072 + (64 * a.val + d.val) < 6144 := by clear e hi; omega
    obtain rfl : i = ⟨3072 + (64 * a.val + d.val), b⟩ := Fin.ext hi
    exact e
  · intro a s d i hi
    have e := a0 s i ⟨512 + (64 * a.val + d.val), by omega⟩ (by simp only; omega)
    have b : 3584 + (64 * a.val + d.val) < 6144 := by clear e hi; omega
    obtain rfl : i = ⟨3584 + (64 * a.val + d.val), b⟩ := Fin.ext hi
    exact e
  · intro a s d i hi
    have e := a0 s i ⟨1024 + (64 * a.val + d.val), by omega⟩ (by simp only; omega)
    have b : 4096 + (64 * a.val + d.val) < 6144 := by clear e hi; omega
    obtain rfl : i = ⟨4096 + (64 * a.val + d.val), b⟩ := Fin.ext hi
    exact e
  · intro a s d i hi
    have e := real_of_lt _ (g (ix2 s i))
    have b : 64 * a.val + d.val < 512 := by clear e hi; omega
    obtain rfl : i = ⟨64 * a.val + d.val, b⟩ := Fin.ext hi
    exact e
  · intro a s
    exact real_of_lt _ (c (ix2 a s))

end Cert.KernelIdeal.Hand

end
-- ==== Proof.Attn.lean ====
module

public import proofs.«01_k».proof.Defs
public import proofs.«01_k».proof.Proof.Blocks
public import Idealize.ShloMosaic.Lib.Pipeline.ArrRel

/-! The gradients of the attention: what the launch leaves in its five arrays is what the reference computes. -/

@[expose] public section

noncomputable section

namespace Cert.KernelIdeal.Hand

open Cert.KernelIdeal Cert.KernelIdeal.Gen Idealize.ShloMosaic Idealize.ShloMosaic.TcCoe Idealize.SL.Sem
open Cert.Att

/-- A point writes a query block back at the pair's last point, and a key block back at its last query block. -/
theorem flush7 : ∀ t : Fin grid0.N, ((cfg0 (F := Ideal) adm).win 7).flush t = true → (pr (grid0.coords t)).val = 35 := by
  decide +kernel
theorem flush8 : ∀ t : Fin grid0.N, ((cfg0 (F := Ideal) adm).win 8).flush t = true → qi (pr (grid0.coords t)) = 7 := by
  decide +kernel
theorem flush9 : ∀ t : Fin grid0.N, ((cfg0 (F := Ideal) adm).win 9).flush t = true → qi (pr (grid0.coords t)) = 7 := by
  decide +kernel
theorem flush10 : ∀ t : Fin grid0.N, ((cfg0 (F := Ideal) adm).win 10).flush t = true → qi (pr (grid0.coords t)) = 7 := by
  decide +kernel
theorem flush11 : ∀ t : Fin grid0.N, ((cfg0 (F := Ideal) adm).win 11).flush t = true → qi (pr (grid0.coords t)) = 7 := by
  decide +kernel

/-- Every block of every result is written back. -/
theorem covers7 : ((cfg0 (F := Ideal) adm).win 7).Covers := by decide +kernel
theorem covers8 : ((cfg0 (F := Ideal) adm).win 8).Covers := by decide +kernel
theorem covers9 : ((cfg0 (F := Ideal) adm).win 9).Covers := by decide +kernel
theorem covers10 : ((cfg0 (F := Ideal) adm).win 10).Covers := by decide +kernel
theorem covers11 : ((cfg0 (F := Ideal) adm).win 11).Covers := by decide +kernel

/-- A lane of a pair belongs to its first head or to its second. -/
theorem lane_cases (l : Fin 128) : (∃ d : Fin 64, l = lnA d) ∨ (∃ d : Fin 64, l = lnB d) := by
  rcases Nat.lt_or_ge l.val 64 with hl | hl
  · exact Or.inl ⟨⟨l.val, hl⟩, rfl⟩
  · exact Or.inr ⟨⟨l.val - 64, by omega⟩, Fin.ext (show l.val = 64 + (l.val - 64) by omega)⟩

variable {c : Dev nD} {x : Args} {m : (ℓ : Loc nD τ sig) → Buf (Elt Ideal) ℓ}
variable (h : ReferenceIdeal.Hand.Reads (m ((c : Thread nD τ).loc main_arg0)) (m ((c : Thread nD τ).loc main_arg1)) (m ((c : Thread nD τ).loc main_arg2)) x)
include h

theorem good_of (t : Fin grid0.N) : Good x (pq t) (pr (grid0.coords t)) (stAt (entry m) c (t.val + 1)) :=
  good_at (entry m) c x (fun u => tile_of h u) t.val t rfl

theorem arr7 (after : (w : Fin 12) → Fin grid0.N → ((cfg0 (F := Ideal) adm).win w).block.Idx → Elt Ideal ((cfg0 (F := Ideal) adm).win w).elt)
    (hL : ∀ u : Fin grid0.N, ((cfg0 (F := Ideal) adm).win 7).flush u = true → (data (entry m) c).Leaves 7 u (after 7 u)) :
    ((data (entry m) c).withAfter after).arrAt 7 (cfg0 (F := Ideal) adm).N = ReferenceIdeal.Hand.out0 (m ((c : Thread nD τ).loc main_arg0)) (m ((c : Thread nD τ).loc main_arg1)) (m ((c : Thread nD τ).loc main_arg2)) := by
  refine Pipeline.Dat.arrAt_eq_of_covers _ 7 _ covers7 fun t hf y => ?_
  obtain ⟨Y, -, hX⟩ := hL t hf
  have hX' : after 7 t = (stAt (entry m) c (t.val + 1)).dq := hX
  have hp : (pq t).val < 4 := (pq t).isLt
  have g := good_of h t
  obtain ⟨r, hr⟩ : ∃ r : Fin 4096, r = y 0 := ⟨_, rfl⟩
  obtain ⟨l, hl⟩ : ∃ l : Fin 128, l = y 1 := ⟨_, rfl⟩
  have ey : y = ix2 r l := funext fun a => by fin_cases a; exact hr.symm; exact hl.symm
  clear hr hl
  have ee : (((cfg0 (F := Ideal) adm).win 7).blk t).view.emb y = ix2 r ⟨(pq t).val * 128 + l.val, by omega⟩ := funext fun a => Fin.ext <| by
    have e := tr7 (grid0.coords t)
    rw [ey]
    fin_cases a
    · show cc0_transform_7 (grid0.coords t) 0 * 4096 + 1 * r.val = r.val
      rw [e]; show 0 * 4096 + 1 * r.val = r.val; omega
    · show cc0_transform_7 (grid0.coords t) 1 * 128 + 1 * l.val = (pq t).val * 128 + l.val
      rw [e]; show (pq t).val * 128 + 1 * l.val = (pq t).val * 128 + l.val; omega
  blk_simp
  rw [Pipeline.RDat.withAfter_after, hX', ee, ey]
  have er : r = row ⟨r.val / 512, by omega⟩ ⟨r.val % 512, by omega⟩ := Fin.ext (show r.val = 512 * (r.val / 512) + r.val % 512 by omega)
  rcases lane_cases l with ⟨d, rfl⟩ | ⟨d, rfl⟩
  · rw [er]
    exact (last_dqA g (flush7 t hf) _ _ d).trans (ReferenceIdeal.Hand.out0_at h (ha (pq t)) _ d _ (by simp only [ha]; omega)).symm
  · rw [er]
    exact (last_dqB g (flush7 t hf) _ _ d).trans (ReferenceIdeal.Hand.out0_at h (hb (pq t)) _ d _ (by simp only [hb]; omega)).symm

theorem arr8 (after : (w : Fin 12) → Fin grid0.N → ((cfg0 (F := Ideal) adm).win w).block.Idx → Elt Ideal ((cfg0 (F := Ideal) adm).win w).elt)
    (hL : ∀ u : Fin grid0.N, ((cfg0 (F := Ideal) adm).win 8).flush u = true → (data (entry m) c).Leaves 8 u (after 8 u)) :
    ((data (entry m) c).withAfter after).arrAt 8 (cfg0 (F := Ideal) adm).N = ReferenceIdeal.Hand.out1 (m ((c : Thread nD τ).loc main_arg0)) (m ((c : Thread nD τ).loc main_arg1)) (m ((c : Thread nD τ).loc main_arg2)) := by
  refine Pipeline.Dat.arrAt_eq_of_covers _ 8 _ covers8 fun t hf y => ?_
  obtain ⟨Y, -, hX⟩ := hL t hf
  have hX' : after 8 t = outDk (stAt (entry m) c (t.val + 1)) := hX (flush8 t hf)
  have hp : (pq t).val < 4 := (pq t).isLt
  have g := good_of h t
  obtain ⟨r, hr⟩ : ∃ r : Fin 512, r = y 0 := ⟨_, rfl⟩
  obtain ⟨l, hl⟩ : ∃ l : Fin 128, l = y 1 := ⟨_, rfl⟩
  have ey : y = ix2 r l := funext fun a => by fin_cases a; exact hr.symm; exact hl.symm
  clear hr hl
  have ee : (((cfg0 (F := Ideal) adm).win 8).blk t).view.emb y = ix2 (row (kF (pr (grid0.coords t))) r) ⟨(pq t).val * 128 + l.val, by omega⟩ := funext fun a => Fin.ext <| by
    have e := tr8 (F := Ideal) (grid0.coords t)
    have hk : (kF (pr (grid0.coords t))).val = ki (pr (grid0.coords t)) := rfl
    rw [ey]
    fin_cases a
    · show cc0_transform_8 k0_off1_inb numel1_S1 (tabs (F := Ideal)) (grid0.coords t) 0 * 512 + 1 * r.val = 512 * (kF (pr (grid0.coords t))).val + r.val
      rw [e]; show ki (pr (grid0.coords t)) * 512 + 1 * r.val = _; omega
    · show cc0_transform_8 k0_off1_inb numel1_S1 (tabs (F := Ideal)) (grid0.coords t) 1 * 128 + 1 * l.val = (pq t).val * 128 + l.val
      rw [e]; show (pq t).val * 128 + 1 * l.val = (pq t).val * 128 + l.val; omega
  blk_simp
  rw [Pipeline.RDat.withAfter_after, hX', ee, ey]
  rcases lane_cases l with ⟨d, rfl⟩ | ⟨d, rfl⟩
  · exact (outDk_at _ r _).trans ((last_dkA g (flush8 t hf) r d).trans (ReferenceIdeal.Hand.out1_at h (ha (pq t)) _ d _ (by simp only [ha]; omega)).symm)
  · exact (outDk_at _ r _).trans ((last_dkB g (flush8 t hf) r d).trans (ReferenceIdeal.Hand.out1_at h (hb (pq t)) _ d _ (by simp only [hb]; omega)).symm)

theorem arr9 (after : (w : Fin 12) → Fin grid0.N → ((cfg0 (F := Ideal) adm).win w).block.Idx → Elt Ideal ((cfg0 (F := Ideal) adm).win w).elt)
    (hL : ∀ u : Fin grid0.N, ((cfg0 (F := Ideal) adm).win 9).flush u = true → (data (entry m) c).Leaves 9 u (after 9 u)) :
    ((data (entry m) c).withAfter after).arrAt 9 (cfg0 (F := Ideal) adm).N = ReferenceIdeal.Hand.out2 (m ((c : Thread nD τ).loc main_arg0)) (m ((c : Thread nD τ).loc main_arg1)) (m ((c : Thread nD τ).loc main_arg2)) := by
  refine Pipeline.Dat.arrAt_eq_of_covers _ 9 _ covers9 fun t hf y => ?_
  obtain ⟨Y, -, hX⟩ := hL t hf
  have hX' : after 9 t = outDv (stAt (entry m) c (t.val + 1)) := hX (flush9 t hf)
  have hp : (pq t).val < 4 := (pq t).isLt
  have g := good_of h t
  obtain ⟨r, hr⟩ : ∃ r : Fin 512, r = y 0 := ⟨_, rfl⟩
  obtain ⟨l, hl⟩ : ∃ l : Fin 128, l = y 1 := ⟨_, rfl⟩
  have ey : y = ix2 r l := funext fun a => by fin_cases a; exact hr.symm; exact hl.symm
  clear hr hl
  have ee : (((cfg0 (F := Ideal) adm).win 9).blk t).view.emb y = ix2 (row (kF (pr (grid0.coords t))) r) ⟨(pq t).val * 128 + l.val, by omega⟩ := funext fun a => Fin.ext <| by
    have e := tr9 (F := Ideal) (grid0.coords t)
    have hk : (kF (pr (grid0.coords t))).val = ki (pr (grid0.coords t)) := rfl
    rw [ey]
    fin_cases a
    · show cc0_transform_9 k0_off1_inb numel1_S1 (tabs (F := Ideal)) (grid0.coords t) 0 * 512 + 1 * r.val = 512 * (kF (pr (grid0.coords t))).val + r.val
      rw [e]; show ki (pr (grid0.coords t)) * 512 + 1 * r.val = _; omega
    · show cc0_transform_9 k0_off1_inb numel1_S1 (tabs (F := Ideal)) (grid0.coords t) 1 * 128 + 1 * l.val = (pq t).val * 128 + l.val
      rw [e]; show (pq t).val * 128 + 1 * l.val = (pq t).val * 128 + l.val; omega
  blk_simp
  rw [Pipeline.RDat.withAfter_after, hX', ee, ey]
  rcases lane_cases l with ⟨d, rfl⟩ | ⟨d, rfl⟩
  · exact (outDv_at _ r _).trans ((last_dvA g (flush9 t hf) r d).trans (ReferenceIdeal.Hand.out2_at h (ha (pq t)) _ d _ (by simp only [ha]; omega)).symm)
  · exact (outDv_at _ r _).trans ((last_dvB g (flush9 t hf) r d).trans (ReferenceIdeal.Hand.out2_at h (hb (pq t)) _ d _ (by simp only [hb]; omega)).symm)

theorem arr10 (after : (w : Fin 12) → Fin grid0.N → ((cfg0 (F := Ideal) adm).win w).block.Idx → Elt Ideal ((cfg0 (F := Ideal) adm).win w).elt)
    (hL : ∀ u : Fin grid0.N, ((cfg0 (F := Ideal) adm).win 10).flush u = true → (data (entry m) c).Leaves 10 u (after 10 u)) :
    ((data (entry m) c).withAfter after).arrAt 10 (cfg0 (F := Ideal) adm).N = ReferenceIdeal.Hand.out3 (m ((c : Thread nD τ).loc main_arg0)) (m ((c : Thread nD τ).loc main_arg1)) (m ((c : Thread nD τ).loc main_arg2)) := by
  refine Pipeline.Dat.arrAt_eq_of_covers _ 10 _ covers10 fun t hf y => ?_
  obtain ⟨Y, -, hX⟩ := hL t hf
  have hX' : after 10 t = outC0 (stAt (entry m) c (t.val + 1)) := hX (flush10 t hf)
  have hp : (pq t).val < 4 := (pq t).isLt
  have g := good_of h t
  obtain ⟨b, hb'⟩ : ∃ b : Fin 8, b = y 1 := ⟨_, rfl⟩
  obtain ⟨r, hr⟩ : ∃ r : Fin 512, r = y 2 := ⟨_, rfl⟩
  have ey : y = ix3 0 b r := funext fun a => by fin_cases a; exact Subsingleton.elim (α := Fin 1) _ _; exact hb'.symm; exact hr.symm
  clear hb' hr
  have ee : (((cfg0 (F := Ideal) adm).win 10).blk t).view.emb y = ix3 (pq t) b (row (kF (pr (grid0.coords t))) r) := funext fun a => Fin.ext <| by
    have e := tr10 (F := Ideal) (grid0.coords t)
    have hk : (kF (pr (grid0.coords t))).val = ki (pr (grid0.coords t)) := rfl
    rw [ey]
    fin_cases a
    · show cc0_transform_10 k0_off1_inb numel1_S1 (tabs (F := Ideal)) (grid0.coords t) 0 * 1 + 1 * 0 = (pq t).val
      rw [e]; show (pq t).val * 1 + 1 * 0 = _; omega
    · show cc0_transform_10 k0_off1_inb numel1_S1 (tabs (F := Ideal)) (grid0.coords t) 1 * 8 + 1 * b.val = b.val
      rw [e]; show 0 * 8 + 1 * b.val = _; omega
    · show cc0_transform_10 k0_off1_inb numel1_S1 (tabs (F := Ideal)) (grid0.coords t) 2 * 512 + 1 * r.val = 512 * (kF (pr (grid0.coords t))).val + r.val
      rw [e]; show ki (pr (grid0.coords t)) * 512 + 1 * r.val = _; omega
  blk_simp
  rw [Pipeline.RDat.withAfter_after, hX', ee, ey]
  exact (outC_pay _ b r).trans ((plane0 _ _ r).trans ((last_dcA g (flush10 t hf) r).trans (ReferenceIdeal.Hand.out3_at h (ha (pq t)) _ (pq t) b (by simp only [ha])).symm))

theorem arr11 (after : (w : Fin 12) → Fin grid0.N → ((cfg0 (F := Ideal) adm).win w).block.Idx → Elt Ideal ((cfg0 (F := Ideal) adm).win w).elt)
    (hL : ∀ u : Fin grid0.N, ((cfg0 (F := Ideal) adm).win 11).flush u = true → (data (entry m) c).Leaves 11 u (after 11 u)) :
    ((data (entry m) c).withAfter after).arrAt 11 (cfg0 (F := Ideal) adm).N = ReferenceIdeal.Hand.out4 (m ((c : Thread nD τ).loc main_arg0)) (m ((c : Thread nD τ).loc main_arg1)) (m ((c : Thread nD τ).loc main_arg2)) := by
  refine Pipeline.Dat.arrAt_eq_of_covers _ 11 _ covers11 fun t hf y => ?_
  obtain ⟨Y, -, hX⟩ := hL t hf
  have hX' : after 11 t = outC1 (stAt (entry m) c (t.val + 1)) := hX (flush11 t hf)
  have hp : (pq t).val < 4 := (pq t).isLt
  have g := good_of h t
  obtain ⟨b, hb'⟩ : ∃ b : Fin 8, b = y 1 := ⟨_, rfl⟩
  obtain ⟨r, hr⟩ : ∃ r : Fin 512, r = y 2 := ⟨_, rfl⟩
  have ey : y = ix3 0 b r := funext fun a => by fin_cases a; exact Subsingleton.elim (α := Fin 1) _ _; exact hb'.symm; exact hr.symm
  clear hb' hr
  have ee : (((cfg0 (F := Ideal) adm).win 11).blk t).view.emb y = ix3 (pq t) b (row (kF (pr (grid0.coords t))) r) := funext fun a => Fin.ext <| by
    have e := tr11 (F := Ideal) (grid0.coords t)
    have hk : (kF (pr (grid0.coords t))).val = ki (pr (grid0.coords t)) := rfl
    rw [ey]
    fin_cases a
    · show cc0_transform_11 k0_off1_inb numel1_S1 (tabs (F := Ideal)) (grid0.coords t) 0 * 1 + 1 * 0 = (pq t).val
      rw [e]; show (pq t).val * 1 + 1 * 0 = _; omega
    · show cc0_transform_11 k0_off1_inb numel1_S1 (tabs (F := Ideal)) (grid0.coords t) 1 * 8 + 1 * b.val = b.val
      rw [e]; show 0 * 8 + 1 * b.val = _; omega
    · show cc0_transform_11 k0_off1_inb numel1_S1 (tabs (F := Ideal)) (grid0.coords t) 2 * 512 + 1 * r.val = 512 * (kF (pr (grid0.coords t))).val + r.val
      rw [e]; show ki (pr (grid0.coords t)) * 512 + 1 * r.val = _; omega
  blk_simp
  rw [Pipeline.RDat.withAfter_after, hX', ee, ey]
  exact (outC_pay' _ b r).trans ((plane1 _ _ r).trans ((last_dcB g (flush11 t hf) r).trans (ReferenceIdeal.Hand.out4_at h (hb (pq t)) _ (pq t) b (by simp only [hb])).symm))

variable {r : PUnit × MemSt nD τ sig (Elt Ideal)} (hr : Pipeline.RDat.FramePost (cfg0 (F := Ideal) adm) (data (entry m)) (entry m) r)
include hr

theorem mem7 : r.2.mem ((c : Thread nD τ).loc main_v90_0) = ReferenceIdeal.Hand.out0 (m ((c : Thread nD τ).loc main_arg0)) (m ((c : Thread nD τ).loc main_arg1)) (m ((c : Thread nD τ).loc main_arg2)) := by
  obtain ⟨after, hL, hA⟩ := hr.exists_exact c
  have e := hA 7
  rw [arr7 h after (hL 7)] at e
  exact e

theorem mem8 : r.2.mem ((c : Thread nD τ).loc main_v90_1) = ReferenceIdeal.Hand.out1 (m ((c : Thread nD τ).loc main_arg0)) (m ((c : Thread nD τ).loc main_arg1)) (m ((c : Thread nD τ).loc main_arg2)) := by
  obtain ⟨after, hL, hA⟩ := hr.exists_exact c
  have e := hA 8
  rw [arr8 h after (hL 8)] at e
  exact e

theorem mem9 : r.2.mem ((c : Thread nD τ).loc main_v90_2) = ReferenceIdeal.Hand.out2 (m ((c : Thread nD τ).loc main_arg0)) (m ((c : Thread nD τ).loc main_arg1)) (m ((c : Thread nD τ).loc main_arg2)) := by
  obtain ⟨after, hL, hA⟩ := hr.exists_exact c
  have e := hA 9
  rw [arr9 h after (hL 9)] at e
  exact e

theorem mem10 : r.2.mem ((c : Thread nD τ).loc main_v90_3) = ReferenceIdeal.Hand.out3 (m ((c : Thread nD τ).loc main_arg0)) (m ((c : Thread nD τ).loc main_arg1)) (m ((c : Thread nD τ).loc main_arg2)) := by
  obtain ⟨after, hL, hA⟩ := hr.exists_exact c
  have e := hA 10
  rw [arr10 h after (hL 10)] at e
  exact e

theorem mem11 : r.2.mem ((c : Thread nD τ).loc main_v90_4) = ReferenceIdeal.Hand.out4 (m ((c : Thread nD τ).loc main_arg0)) (m ((c : Thread nD τ).loc main_arg1)) (m ((c : Thread nD τ).loc main_arg2)) := by
  obtain ⟨after, hL, hA⟩ := hr.exists_exact c
  have e := hA 11
  rw [arr11 h after (hL 11)] at e
  exact e

omit h hr

/-- The launch leaves the reference's five gradients. -/
theorem value : Cert.algebraic_KernelIdeal_ReferenceIdeal_pre_finite := by
  intro m g m' g' hpre hm
  refine ⟨fun c => ReferenceIdeal.Hand.out0 (m ((c : Thread nD τ).loc main_arg0)) (m ((c : Thread nD τ).loc main_arg1)) (m ((c : Thread nD τ).loc main_arg2)), fun c => ReferenceIdeal.Hand.out1 (m ((c : Thread nD τ).loc main_arg0)) (m ((c : Thread nD τ).loc main_arg1)) (m ((c : Thread nD τ).loc main_arg2)), fun c => ReferenceIdeal.Hand.out2 (m ((c : Thread nD τ).loc main_arg0)) (m ((c : Thread nD τ).loc main_arg1)) (m ((c : Thread nD τ).loc main_arg2)), fun c => ReferenceIdeal.Hand.out3 (m ((c : Thread nD τ).loc main_arg0)) (m ((c : Thread nD τ).loc main_arg1)) (m ((c : Thread nD τ).loc main_arg2)), fun c => ReferenceIdeal.Hand.out4 (m ((c : Thread nD τ).loc main_arg0)) (m ((c : Thread nD τ).loc main_arg1)) (m ((c : Thread nD τ).loc main_arg2)), ?_, ?_⟩
  · refine (θ_run Cert.KernelIdeal.defs _ _).mono (fun r hr c => ?_) (run_main (F := Ideal) m g)
    have h := reads_of _ _ _ (hpre c)
    exact ⟨mem7 h hr.1, mem8 h hr.1, mem9 h hr.1, mem10 h hr.1, mem11 h hr.1, final_args m hr.1 c⟩
  · refine (θ_run Cert.ReferenceIdeal.defs _ _).mono (fun r hr c => ?_) (Cert.ReferenceIdeal.Value.run (F := Ideal) m' g')
    obtain ⟨h0, h1, h2⟩ := hm c
    obtain ⟨r0, r1, r2, r3, r4, ra⟩ := hr c
    refine ⟨r0.trans ?_, r1.trans ?_, r2.trans ?_, r3.trans ?_, r4.trans ?_, ra⟩
    · exact (ReferenceIdeal.Hand.is_out0 m' c).trans (by rw [h0, h1, h2])
    · exact (ReferenceIdeal.Hand.is_out1 m' c).trans (by rw [h0, h1, h2])
    · exact (ReferenceIdeal.Hand.is_out2 m' c).trans (by rw [h0, h1, h2])
    · exact (ReferenceIdeal.Hand.is_out3 m' c).trans (by rw [h0, h1, h2])
    · exact (ReferenceIdeal.Hand.is_out4 m' c).trans (by rw [h0, h1, h2])

end Cert.KernelIdeal.Hand

end
-- ==== Proof.Mm2.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

noncomputable section

namespace Cert.Kernel2Ideal.Hand

open Cert.Kernel2Ideal Cert.Kernel2Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- Every element of the product, whichever block holds it, is the reference's sum over the whole contracted axis. -/
theorem value : Cert.algebraic_Kernel2Ideal_Reference2Ideal := by
  intro m g m' g' _ hm
  refine ⟨fun c => (dats m 0 c).arrAt 2 cfg0.N, Value.run_blocks m g,
    (θ_run Cert.Reference2Ideal.defs _ _).mono (fun r h c => ⟨(h c).1.trans ?_, (h c).2⟩)
      (Cert.Reference2Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel2Ideal.Hand

end
-- ==== Proof.Mm3.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

noncomputable section

namespace Cert.Kernel3Ideal.Hand

open Cert.Kernel3Ideal Cert.Kernel3Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- Every element of the product, whichever block holds it, is the reference's sum over the whole contracted axis. -/
theorem value : Cert.algebraic_Kernel3Ideal_Reference3Ideal := by
  intro m g m' g' _ hm
  refine ⟨fun c => (dats m 0 c).arrAt 2 cfg0.N, Value.run_blocks m g,
    (θ_run Cert.Reference3Ideal.defs _ _).mono (fun r h c => ⟨(h c).1.trans ?_, (h c).2⟩)
      (Cert.Reference3Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel3Ideal.Hand

end
-- ==== Proof.Mm4.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

noncomputable section

namespace Cert.Kernel4Ideal.Hand

open Cert.Kernel4Ideal Cert.Kernel4Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- Every element of the product, whichever block holds it, is the reference's sum over the whole contracted axis. -/
theorem value : Cert.algebraic_Kernel4Ideal_Reference4Ideal := by
  intro m g m' g' _ hm
  refine ⟨fun c => (dats m 0 c).arrAt 2 cfg0.N, Value.run_blocks m g,
    (θ_run Cert.Reference4Ideal.defs _ _).mono (fun r h c => ⟨(h c).1.trans ?_, (h c).2⟩)
      (Cert.Reference4Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel4Ideal.Hand

end
-- ==== Proof.Mm5.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

noncomputable section

namespace Cert.Kernel5Ideal.Hand

open Cert.Kernel5Ideal Cert.Kernel5Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 1).val % 2 * 2 + (grid0.coords t 1).val / 2, (grid0.coords t 0).val, 0] := by
  decide +kernel

/-- The reference leaves its arguments alone and its counters at zero. -/
theorem frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- Every element of the product, whichever block holds it, is the reference's sum over the whole contracted axis. -/
theorem value : Cert.algebraic_Kernel5Ideal_Reference5Ideal := by
  intro m g m' g' _ hm
  refine ⟨fun c => (dats m 0 c).arrAt 2 cfg0.N, Value.run_blocks m g,
    (θ_run Cert.Reference5Ideal.defs _ _).mono (fun r h c => ⟨(h c).1.trans ?_, (h c).2⟩)
      (Cert.Reference5Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]
  have hb : (grid0.coords t 1).val < 4 := (grid0.coords t 1).isLt
  omega

end Cert.Kernel5Ideal.Hand

end
-- ==== Proof.Mm6.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

noncomputable section

namespace Cert.Kernel6Ideal.Hand

open Cert.Kernel6Ideal Cert.Kernel6Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- Every element of the product, whichever block holds it, is the reference's sum over the whole contracted axis. -/
theorem value : Cert.algebraic_Kernel6Ideal_Reference6Ideal := by
  intro m g m' g' _ hm
  refine ⟨fun c => (dats m 0 c).arrAt 2 cfg0.N, Value.run_blocks m g,
    (θ_run Cert.Reference6Ideal.defs _ _).mono (fun r h c => ⟨(h c).1.trans ?_, (h c).2⟩)
      (Cert.Reference6Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel6Ideal.Hand

end
-- ==== Proof.Mm7.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

noncomputable section

namespace Cert.Kernel7Ideal.Hand

open Cert.Kernel7Ideal Cert.Kernel7Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- Every element of the product, whichever block holds it, is the reference's sum over the whole contracted axis. -/
theorem value : Cert.algebraic_Kernel7Ideal_Reference7Ideal := by
  intro m g m' g' _ hm
  refine ⟨fun c => (dats m 0 c).arrAt 2 cfg0.N, Value.run_blocks m g,
    (θ_run Cert.Reference7Ideal.defs _ _).mono (fun r h c => ⟨(h c).1.trans ?_, (h c).2⟩)
      (Cert.Reference7Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel7Ideal.Hand

end
-- ==== Proof.Mm8.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

noncomputable section

namespace Cert.Kernel8Ideal.Hand

open Cert.Kernel8Ideal Cert.Kernel8Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- Every element of the product, whichever block holds it, is the reference's sum over the whole contracted axis. -/
theorem value : Cert.algebraic_Kernel8Ideal_Reference8Ideal := by
  intro m g m' g' _ hm
  refine ⟨fun c => (dats m 0 c).arrAt 2 cfg0.N, Value.run_blocks m g,
    (θ_run Cert.Reference8Ideal.defs _ _).mono (fun r h c => ⟨(h c).1.trans ?_, (h c).2⟩)
      (Cert.Reference8Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel8Ideal.Hand

end
-- ==== Proof.Mm9.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

noncomputable section

namespace Cert.Kernel9Ideal.Hand

open Cert.Kernel9Ideal Cert.Kernel9Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- Every element of the product, whichever block holds it, is the reference's sum over the whole contracted axis. -/
theorem value : Cert.algebraic_Kernel9Ideal_Reference9Ideal := by
  intro m g m' g' _ hm
  refine ⟨fun c => (dats m 0 c).arrAt 2 cfg0.N, Value.run_blocks m g,
    (θ_run Cert.Reference9Ideal.defs _ _).mono (fun r h c => ⟨(h c).1.trans ?_, (h c).2⟩)
      (Cert.Reference9Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel9Ideal.Hand

end
-- ==== Proof.Mm10.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

noncomputable section

namespace Cert.Kernel10Ideal.Hand

open Cert.Kernel10Ideal Cert.Kernel10Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference10Ideal := fun m g _ =>
  (θ_run Cert.Reference10Ideal.defs _ _).mono (fun r h => ⟨fun c => (h c).2, sem_eq_zero_of_no_sems (by decide) r.2⟩)
    (Cert.Reference10Ideal.Value.run (F := Ideal) m g)

/-- Every element of the product, whichever block holds it, is the reference's sum over the whole contracted axis. -/
theorem value : Cert.algebraic_Kernel10Ideal_Reference10Ideal := by
  intro m g m' g' _ hm
  refine ⟨fun c => (dats m 0 c).arrAt 2 cfg0.N, Value.run_blocks m g,
    (θ_run Cert.Reference10Ideal.defs _ _).mono (fun r h c => ⟨(h c).1.trans ?_, (h c).2⟩)
      (Cert.Reference10Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel10Ideal.Hand

end
-- ==== Proof.Mm11.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise

@[expose] public section

noncomputable section

namespace Cert.Kernel11Ideal.Hand

open Cert.Kernel11Ideal Cert.Kernel11Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 1).val, (grid0.coords t 0).val, 0] := by
  decide +kernel

/-- The reference leaves its arguments alone and its counters at zero. -/
theorem frame_reference : Cert.quiescent_Reference11Ideal := fun m g _ =>
  (θ_run Cert.Reference11Ideal.defs _ _).mono (fun r h => ⟨fun c => (h c).2, sem_eq_zero_of_no_sems (by decide) r.2⟩)
    (Cert.Reference11Ideal.Value.run (F := Ideal) m g)

/-- Every element of the product, whichever block holds it, is the reference's sum over the whole contracted axis. -/
theorem value : Cert.algebraic_Kernel11Ideal_Reference11Ideal := by
  intro m g m' g' _ hm
  refine ⟨fun c => (dats m 0 c).arrAt 2 cfg0.N, Value.run_blocks m g,
    (θ_run Cert.Reference11Ideal.defs _ _).mono (fun r h c => ⟨(h c).1.trans ?_, (h c).2⟩)
      (Cert.Reference11Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel11Ideal.Hand

end
-- ==== Proof.Mm12.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise

@[expose] public section

noncomputable section

namespace Cert.Kernel12Ideal.Hand

open Cert.Kernel12Ideal Cert.Kernel12Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference12Ideal := fun m g _ =>
  (θ_run Cert.Reference12Ideal.defs _ _).mono (fun r h => ⟨fun c => (h c).2, sem_eq_zero_of_no_sems (by decide) r.2⟩)
    (Cert.Reference12Ideal.Value.run (F := Ideal) m g)

/-- Every element of the product, whichever block holds it, is the reference's sum over the whole contracted axis. -/
theorem value : Cert.algebraic_Kernel12Ideal_Reference12Ideal := by
  intro m g m' g' _ hm
  refine ⟨fun c => (dats m 0 c).arrAt 2 cfg0.N, Value.run_blocks m g,
    (θ_run Cert.Reference12Ideal.defs _ _).mono (fun r h c => ⟨(h c).1.trans ?_, (h c).2⟩)
      (Cert.Reference12Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel12Ideal.Hand

end
-- ==== Proof.Mm13.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise

@[expose] public section

noncomputable section

namespace Cert.Kernel13Ideal.Hand

open Cert.Kernel13Ideal Cert.Kernel13Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 1).val, (grid0.coords t 0).val, 0] := by
  decide +kernel

/-- The reference leaves its arguments alone and its counters at zero. -/
theorem frame_reference : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

/-- Every element of the product, whichever block holds it, is the reference's sum over the whole contracted axis. -/
theorem value : Cert.algebraic_Kernel13Ideal_Reference13Ideal := by
  intro m g m' g' _ hm
  refine ⟨fun c => (dats m 0 c).arrAt 2 cfg0.N, Value.run_blocks m g,
    (θ_run Cert.Reference13Ideal.defs _ _).mono (fun r h c => ⟨(h c).1.trans ?_, (h c).2⟩)
      (Cert.Reference13Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel13Ideal.Hand

end
-- ==== Proof.Mm14.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise

@[expose] public section

noncomputable section

namespace Cert.Kernel14Ideal.Hand

open Cert.Kernel14Ideal Cert.Kernel14Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- The reference leaves its arguments alone and its counters at zero. -/
theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

/-- Every element of the product, whichever block holds it, is the reference's sum over the whole contracted axis. -/
theorem value : Cert.algebraic_Kernel14Ideal_Reference14Ideal := by
  intro m g m' g' _ hm
  refine ⟨fun c => (dats m 0 c).arrAt 2 cfg0.N, Value.run_blocks m g,
    (θ_run Cert.Reference14Ideal.defs _ _).mono (fun r h c => ⟨(h c).1.trans ?_, (h c).2⟩)
      (Cert.Reference14Ideal.Value.run (F := Ideal) m' g')⟩
  obtain ⟨h0, h1, h2⟩ := hm c
  rw [h1, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel14Ideal.Hand

end
-- ==== Proof.Mm15.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise

@[expose] public section

noncomputable section

namespace Cert.Kernel15Ideal.Hand

open Cert.Kernel15Ideal Cert.Kernel15Ideal.Gen Idealize.ShloMosaic Idealize.ShloMosaic.TcCoe Idealize.SL.Sem

/-- The blocks each grid point reads and writes. -/
theorem idx : ∀ t : Fin grid0.N, win0_0.index t = ![0, (grid0.coords t 0).val] ∧ win0_1.index t = ![0, (grid0.coords t 1).val] ∧
    win0_2.index t = ![(grid0.coords t 1).val, (grid0.coords t 0).val, 0] := by
  decide +kernel

/-- The reference leaves its arguments alone and its counters at zero. -/
theorem frame_reference : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

/-- Every element of the product, whichever block holds it, is the reference's sum over the whole contracted axis. -/
theorem value : Cert.algebraic_Kernel15Ideal_Reference15Ideal := by
  intro m g m' g' _ hm
  refine ⟨fun c => (dats m 0 c).arrAt 2 cfg0.N, Value.run_blocks m g,
    (θ_run Cert.Reference15Ideal.defs _ _).mono (fun r h c => ⟨(h c).1.trans ?_, (h c).2⟩)
      (Cert.Reference15Ideal.Value.run (F := Ideal) m' g')⟩
  obtain ⟨h0, h1, h2⟩ := hm c
  rw [h0, h2]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]; congr 1 <;> blk_ext [iblk, V, idx t]

end Cert.Kernel15Ideal.Hand

end
-- ==== Proof.Mm16.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise

@[expose] public section

noncomputable section

namespace Cert.Kernel16Ideal.Hand

open Cert.Kernel16Ideal Cert.Kernel16Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

/-- Every element of the product, whichever block holds it, is the reference's sum over the whole contracted axis. -/
theorem value : Cert.algebraic_Kernel16Ideal_Reference16Ideal := by
  intro m g m' g' _ hm
  refine ⟨fun c => (dats m 0 c).arrAt 2 cfg0.N, Value.run_blocks m g,
    (θ_run Cert.Reference16Ideal.defs _ _).mono (fun r h c => ⟨(h c).1.trans ?_, (h c).2⟩)
      (Cert.Reference16Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel16Ideal.Hand

end
-- ==== Proof.Mm17.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise

@[expose] public section

noncomputable section

namespace Cert.Kernel17Ideal.Hand

open Cert.Kernel17Ideal Cert.Kernel17Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference17Ideal := fun m g _ =>
  (θ_run Cert.Reference17Ideal.defs _ _).mono (fun r h => ⟨fun c => (h c).2, sem_eq_zero_of_no_sems (by decide) r.2⟩)
    (Cert.Reference17Ideal.Value.run (F := Ideal) m g)

/-- Every element of the product, whichever block holds it, is the reference's sum over the whole contracted axis. -/
theorem value : Cert.algebraic_Kernel17Ideal_Reference17Ideal := by
  intro m g m' g' _ hm
  refine ⟨fun c => (dats m 0 c).arrAt 2 cfg0.N, Value.run_blocks m g,
    (θ_run Cert.Reference17Ideal.defs _ _).mono (fun r h c => ⟨(h c).1.trans ?_, (h c).2⟩)
      (Cert.Reference17Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel17Ideal.Hand

end
-- ==== Proof.Mm18.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise

@[expose] public section

noncomputable section

namespace Cert.Kernel18Ideal.Hand

open Cert.Kernel18Ideal Cert.Kernel18Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference18Ideal := fun m g _ =>
  (θ_run Cert.Reference18Ideal.defs _ _).mono (fun r h => ⟨fun c => (h c).2, sem_eq_zero_of_no_sems (by decide) r.2⟩)
    (Cert.Reference18Ideal.Value.run (F := Ideal) m g)

/-- Every element of the product, whichever block holds it, is the reference's sum over the whole contracted axis. -/
theorem value : Cert.algebraic_Kernel18Ideal_Reference18Ideal := by
  intro m g m' g' _ hm
  refine ⟨fun c => (dats m 0 c).arrAt 2 cfg0.N, Value.run_blocks m g,
    (θ_run Cert.Reference18Ideal.defs _ _).mono (fun r h c => ⟨(h c).1.trans ?_, (h c).2⟩)
      (Cert.Reference18Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel18Ideal.Hand

end
-- ==== Proof.Mm19.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise

@[expose] public section

noncomputable section

namespace Cert.Kernel19Ideal.Hand

open Cert.Kernel19Ideal Cert.Kernel19Ideal.Gen Idealize.ShloMosaic Idealize.ShloMosaic.TcCoe Idealize.SL.Sem

/-- The blocks each grid point reads and writes. -/
theorem idx : ∀ t : Fin grid0.N, win0_0.index t = ![(grid0.coords t 0).val, 0] ∧ win0_1.index t = ![0, (grid0.coords t 1).val] ∧
    win0_2.index t = ![(grid0.coords t 0).val, (grid0.coords t 1).val] := by
  decide +kernel

/-- The reference leaves its arguments alone and its counters at zero. -/
theorem frame_reference : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

/-- Every element of the product, whichever block holds it, is the reference's sum over the whole contracted axis. -/
theorem value : Cert.algebraic_Kernel19Ideal_Reference19Ideal := by
  intro m g m' g' _ hm
  refine ⟨fun c => (dats m 0 c).arrAt 2 cfg0.N, Value.run_blocks m g,
    (θ_run Cert.Reference19Ideal.defs _ _).mono (fun r h c => ⟨(h c).1.trans ?_, (h c).2⟩)
      (Cert.Reference19Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  congr 1 <;> blk_ext [iblk, V, idx t]

end Cert.Kernel19Ideal.Hand

end
-- ==== Proof.Rms.lean ====
module

public import Idealize.ShloMosaic.Lib.Pipeline.ValueKit
public import Idealize.ShloMosaic.Lib.Pointwise

@[expose] public section

noncomputable section

namespace Cert.Rms

open Idealize.ShloMosaic

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a u h ih => rw [Finset.sum_insert h, Finset.sum_insert h, ih, EReal.coe_add]

/-- The printed constant: the row's length. -/
theorem ofBits_len : Ideal.ofBits FTy.f32 1149239296#32 = ((1024 : ℝ) : EReal) := by
  simp [Ideal.ofBits, Ideal.ieee]
  rw [← EReal.coe_mul]; norm_num

/-- The printed constant minus one half. -/
theorem ofBits_neg_half : Ideal.ofBits FTy.f32 3204448256#32 = ((-(1 / 2) : ℝ) : EReal) := by
  simp [Ideal.ofBits, Ideal.ieee]
  norm_num
  rw [← EReal.coe_mul]; norm_num

/-- The constant added to the mean square. -/
def eps : ℝ := 8796093 * 2 ^ (-43 : ℤ)

theorem eps_pos : 0 < eps := by unfold eps; positivity

theorem ofBits_eps : Ideal.ofBits FTy.f32 897988541#32 = (eps : EReal) := by
  simp [Ideal.ofBits, Ideal.ieee, eps]

/-- The row's gradient as the program arranges it is the gradient of the scaled row as differentiation arranges it. -/
theorem grad (x w g : Fin 1024 → EReal) (hx : ∀ k, x k = ((x k).toReal : ℝ)) (hw : ∀ k, w k = ((w k).toReal : ℝ))
    (hg : ∀ k, g k = ((g k).toReal : ℝ)) (j : Fin 1024) :
    Ideal.rsqrt (Ideal.div (∑ k, x k * x k) (Ideal.ofBits FTy.f32 1149239296#32) + Ideal.ofBits FTy.f32 897988541#32) *
        (w j * g j - x j * Ideal.rsqrt (Ideal.div (∑ k, x k * x k) (Ideal.ofBits FTy.f32 1149239296#32) + Ideal.ofBits FTy.f32 897988541#32) *
          Ideal.div (∑ k, w k * g k * (x k * Ideal.rsqrt (Ideal.div (∑ k, x k * x k) (Ideal.ofBits FTy.f32 1149239296#32) + Ideal.ofBits FTy.f32 897988541#32)))
            (Ideal.ofBits FTy.f32 1149239296#32)) =
      w j * g j * Ideal.rsqrt (Ideal.div (∑ k, x k * x k) (Ideal.ofBits FTy.f32 1149239296#32) + Ideal.ofBits FTy.f32 897988541#32) +
          x j * ∑ _u : Fin 1, Ideal.div ((∑ k, x k * (w k * g k)) * (Ideal.ofBits FTy.f32 3204448256#32 *
            Ideal.div (Ideal.rsqrt (Ideal.div (∑ k, x k * x k) (Ideal.ofBits FTy.f32 1149239296#32) + Ideal.ofBits FTy.f32 897988541#32))
              (Ideal.div (∑ k, x k * x k) (Ideal.ofBits FTy.f32 1149239296#32) + Ideal.ofBits FTy.f32 897988541#32)))
            (Ideal.ofBits FTy.f32 1149239296#32) +
        (∑ _u : Fin 1, Ideal.div ((∑ k, x k * (w k * g k)) * (Ideal.ofBits FTy.f32 3204448256#32 *
            Ideal.div (Ideal.rsqrt (Ideal.div (∑ k, x k * x k) (Ideal.ofBits FTy.f32 1149239296#32) + Ideal.ofBits FTy.f32 897988541#32))
              (Ideal.div (∑ k, x k * x k) (Ideal.ofBits FTy.f32 1149239296#32) + Ideal.ofBits FTy.f32 897988541#32)))
            (Ideal.ofBits FTy.f32 1149239296#32)) * x j := by
  obtain ⟨X, rfl⟩ : ∃ X : Fin 1024 → ℝ, x = fun k => (X k : EReal) := ⟨fun k => (x k).toReal, funext hx⟩
  obtain ⟨W, rfl⟩ : ∃ X : Fin 1024 → ℝ, w = fun k => (X k : EReal) := ⟨fun k => (w k).toReal, funext hw⟩
  obtain ⟨G, rfl⟩ : ∃ X : Fin 1024 → ℝ, g = fun k => (X k : EReal) := ⟨fun k => (g k).toReal, funext hg⟩
  clear hx hw hg
  obtain ⟨V, hV, eV⟩ : ∃ V : ℝ, 0 < V ∧ Ideal.div (∑ k, (X k : EReal) * (X k : EReal)) (Ideal.ofBits FTy.f32 1149239296#32) + Ideal.ofBits FTy.f32 897988541#32 = (V : EReal) := by
    refine ⟨(∑ k, X k * X k) * (1 / 1024) + eps, add_pos_of_nonneg_of_pos (mul_nonneg (Finset.sum_nonneg fun k _ => mul_self_nonneg _) (by norm_num)) eps_pos, ?_⟩
    rw [ofBits_len, ofBits_eps, Ideal.div_coe (by norm_num)]
    simp only [← EReal.coe_mul, coe_sum, ← EReal.coe_add]
  simp only [eV]
  rw [Ideal.rsqrt_coe, if_neg (not_lt.2 hV.le), if_neg hV.ne']
  have hr : (Real.sqrt V)⁻¹ * (Real.sqrt V)⁻¹ = 1 / V := by rw [← mul_inv, Real.mul_self_sqrt hV.le, one_div]
  generalize (Real.sqrt V)⁻¹ = r at hr
  rw [ofBits_len, ofBits_neg_half]
  simp only [Fin.sum_univ_one, Ideal.div_coe hV.ne', Ideal.div_coe (show (1024 : ℝ) ≠ 0 by norm_num), ← EReal.coe_mul, coe_sum, ← EReal.coe_add, ← EReal.coe_sub]
  have e : ∑ k, W k * G k * (X k * r) = (∑ k, X k * (W k * G k)) * r := by
    rw [Finset.sum_mul]; exact Finset.sum_congr rfl fun k _ => by ring
  rw [e]
  generalize ∑ k, X k * (W k * G k) = S
  congr 1
  rw [← hr]
  ring

/-- A sum over the rows, in the order the program takes it: the eight rows of a step, the eight blocks, the sixty-four steps of a block. -/
theorem sum_rows {M : Type} [AddCommMonoid M] (f : Fin 4096 → M) :
    ∑ k, f k = ∑ s : Fin 8, ∑ p : Fin 8, ∑ q : Fin 64, f ⟨512 * p.val + (8 * q.val + s.val), by omega⟩ := by
  have a : ∑ k, f k = ∑ u : Fin 512, ∑ s : Fin 8, f ⟨8 * u.val + s.val, by omega⟩ := by
    have h := Fin.sum_univ_mul_divmod (M := M) 512 8 fun u s => if h : 8 * u + s < 4096 then f ⟨8 * u + s, h⟩ else 0
    refine Eq.trans (Finset.sum_congr rfl fun k _ => ?_) (h.trans (Finset.sum_congr rfl fun u _ => Finset.sum_congr rfl fun s _ => ?_))
    · have hk : 8 * (k.val / 8) + k.val % 8 = k.val := Nat.div_add_mod _ _
      rw [dif_pos (by rw [hk]; exact k.isLt)]
      exact congrArg f (Fin.ext hk.symm)
    · rw [dif_pos (by omega)]
  rw [a, Finset.sum_comm]
  refine Finset.sum_congr rfl fun s _ => ?_
  have h := Fin.sum_univ_mul_divmod (M := M) 8 64 fun p q => if h : 512 * p + (8 * q + s.val) < 4096 then f ⟨512 * p + (8 * q + s.val), h⟩ else 0
  refine Eq.trans (Finset.sum_congr rfl fun k _ => ?_) (h.trans (Finset.sum_congr rfl fun u _ => Finset.sum_congr rfl fun s _ => ?_))
  · have hk : 64 * (k.val / 64) + k.val % 64 = k.val := Nat.div_add_mod _ _
    have hl : k.val < 512 := k.isLt
    rw [dif_pos (by omega)]
    exact congrArg f (Fin.ext (by simp only; omega))
  · rw [dif_pos (by omega)]

/-- A number whose size the program finds below infinity is real. -/
theorem real_of_lt (y : EReal) (h : FloatOps.cmpf (F := Ideal) (φ := .f32) .olt (FloatOps.hostAbsf (F := Ideal) (φ := .f32) y) (Ideal.ofBits .f32 0x7F800000#32) = 1#1) :
    y = ((y.toReal : ℝ) : EReal) := by
  rw [Ideal.cmpf_def] at h
  induction y with
  | bot => exfalso; revert h; simp [Ideal.cmp, Ideal.absf_def (φ := .f32) (⊥ : EReal), show Ideal.ofBits .f32 0x7F800000#32 = (⊤ : EReal) by simp [Ideal.ofBits, Ideal.ieee]]
  | top => exfalso; revert h; simp [Ideal.cmp, Ideal.absf_def (φ := .f32) (⊤ : EReal), show Ideal.ofBits .f32 0x7F800000#32 = (⊤ : EReal) by simp [Ideal.ofBits, Ideal.ieee]]
  | coe y => rfl

theorem andi_left {a b : BitVec 1} (h : IntOp.andi a b = 1#1) : a = 1#1 ∧ b = 1#1 := by
  revert a b; decide

end Cert.Rms

end
-- ==== Proof.Mm22.lean ====
module

public import proofs.«01_k».proof.Defs
public import proofs.«01_k».proof.Proof.Gen.Kernel22.Frame
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import proofs.«01_k».proof.Proof.Rms
public import Idealize.ShloMosaic.Lib.ReduceAll
public import proofs.«01_k».proof.Proof.Gen.Pre_finite_post

@[expose] public section

noncomputable section

namespace Cert.Kernel22Ideal.Hand

open Cert.Kernel22Ideal Cert.Kernel22Ideal.Gen Idealize.ShloMosaic Idealize.ShloMosaic.TcCoe Idealize.SL.Sem

/-- The reference leaves its arguments alone and its counters at zero. -/
theorem frame_reference : Cert.quiescent_Reference22Ideal := fun m g _ =>
  (θ_run Cert.Reference22Ideal.defs _ _).mono (fun r h => ⟨fun c => (h c).2.2, sem_eq_zero_of_no_sems (by decide) r.2⟩)
    (Cert.Reference22Ideal.Value.run (F := Ideal) m g)

/-- The blocks each grid point reads and writes. -/
theorem idx : ∀ t : Fin grid0.N, win0_0.index t = ![t.val, 0] ∧
    win0_1.index t = ![0, 0] ∧
    win0_2.index t = ![t.val, 0] ∧
    win0_3.index t = ![t.val, 0] ∧
    win0_4.index t = ![0, 0] := by
  decide +kernel

/-- The eight partial sums a grid point adds. -/
def part (m : (ℓ : Loc nD τ sig) → Buf (Elt Ideal) ℓ) (c : Dev nD) (p : Fin cfg0.N) : FVec Ideal S8x1024 .f32 :=
  k0_pay5 (F := Ideal) (iblk m c 0 p) (iblk m c 2 p)

/-- The carried sums after the last point. -/
theorem carried (m : (ℓ : Loc nD τ sig) → Buf (Elt Ideal) ℓ) (c : Dev nD) (t : Fin cfg0.N) (ht : t.val + 1 = cfg0.N) (i : S8x1024.Idx) :
    ((outsAt0 (F := Ideal) m c t.val t.isLt).2.2 i : EReal) = 0 + ∑ p : Fin cfg0.N, (part m c p i : EReal) := by
  refine Pipeline.eq_sum_fin_of_reset_step_apply_last (M := EReal) (fun n h => (outsAt0 (F := Ideal) m c n h).2.2) 8 (fun _ => 0) (fun p j => (part m c p j : EReal)) (fun t h j => ?_) (fun t h j => ?_) (by decide) t ht i
  · have hN : t.val < 8 := lt_of_lt_of_eq t.isLt N_0
    rw [outsAt0_A m c t h (by omega) (by omega)]
    frame_out
    rw [zero_add]
    simp only [k0_pay6, shapeCast_self, part]
  · have hN : t.val < 8 := lt_of_lt_of_eq t.isLt N_0
    by_cases h7 : t.val % 8 = 7
    · rw [outsAt0_C m c t h (by omega) h7]
      frame_out
      simp only [k0_pay7, shapeCast_self, part]
      exact congrArg (fun a : EReal => a + (part m c t j : EReal)) (congrFun (Memref.IsWhole.read_unread (Memref.isWhole_whole cc0_scratch0) _) j)
    · rw [outsAt0_B m c t h (by omega) h7]
      frame_out
      simp only [k0_pay7, shapeCast_self, part]
      exact congrArg (fun a : EReal => a + (part m c t j : EReal)) (congrFun (Memref.IsWhole.read_unread (Memref.isWhole_whole cc0_scratch0) _) j)

/-- The row gradients every point leaves. -/
theorem rows (m : (ℓ : Loc nD τ sig) → Buf (Elt Ideal) ℓ) (c : Dev nD) (t : Fin cfg0.N) :
    (outsAt0 (F := Ideal) m c t.val t.isLt).1 = k0_pay4 (F := Ideal) (iblk m c 0 t) (iblk m c 2 t) (iblk m c 1 t) := by
  have hN : t.val < 8 := lt_of_lt_of_eq t.isLt N_0
  by_cases h : t.val % 8 = 0
  · rw [outsAt0_A m c t h (by omega) (by omega)]
    frame_out
  · by_cases h7 : t.val % 8 = 7
    · rw [outsAt0_C m c t h (by omega) h7]
      frame_out
    · rw [outsAt0_B m c t h (by omega) h7]
      frame_out

/-- The gain's gradient is read off the carried sums at the last point. -/
theorem last (m : (ℓ : Loc nD τ sig) → Buf (Elt Ideal) ℓ) (c : Dev nD) (t : Fin cfg0.N) (h7 : t.val % 8 = 7) :
    (outsAt0 (F := Ideal) m c t.val t.isLt).2.1 = k0_pay1 (F := Ideal) (outsAt0 (F := Ideal) m c t.val t.isLt).2.2 := by
  have hN : t.val < 8 := lt_of_lt_of_eq t.isLt N_0
  rw [outsAt0_C m c t (by omega) (by omega) h7]
  frame_out

/-- Under the precondition the row, the gain and the incoming gradient are real. -/
theorem reals (A0 : FVec Ideal S4096x1024 .f32) (A1 : FVec Ideal S1x1024 .f32) (A2 : FVec Ideal S4096x1024 .f32)
    (h : Cert.Pre_finite_post.fn (F := Ideal) A0 A1 A2 = fun _ => 1#1) :
    (∀ i, (A0 i : EReal) = ((A0 i : EReal).toReal : ℝ)) ∧ (∀ i, (A1 i : EReal) = ((A1 i : EReal).toReal : ℝ)) ∧ (∀ i, (A2 i : EReal) = ((A2 i : EReal).toReal : ℝ)) := by
  have h0 := congrFun h (fun a => a.elim0)
  dsimp only [Cert.Pre_finite_post.fn] at h0
  obtain ⟨h1, hw⟩ := Rms.andi_left h0
  obtain ⟨hx, hg⟩ := Rms.andi_left h1
  exact ⟨fun i => Rms.real_of_lt _ (Host.reduce_andi_all _ _ _ _ _ hx i), fun i => Rms.real_of_lt _ (Host.reduce_andi_all _ _ _ _ _ hg i),
    fun i => Rms.real_of_lt _ (Host.reduce_andi_all _ _ _ _ _ hw i)⟩

/-- Every element of the two results is the reference's. -/
theorem value : Cert.algebraic_Kernel22Ideal_Reference22Ideal_pre_finite_post := by
  intro m g m' g' hpre hm
  refine ⟨fun c => (dats m 0 c).arrAt 3 cfg0.N, fun c => (dats m 0 c).arrAt 4 cfg0.N, Value.run_blocks m g,
    (θ_run Cert.Reference22Ideal.defs _ _).mono (fun r h c => ⟨(h c).1.trans ?_, (h c).2.1.trans ?_, (h c).2.2⟩)
      (Cert.Reference22Ideal.Value.run (F := Ideal) m' g')⟩
  · obtain ⟨h0, h1, h2⟩ := hm c
    clear h hm
    obtain ⟨rx, rg, rw'⟩ := reals _ _ _ (hpre c)
    rw [h0, h1, h2]
    clear hpre
    symm
    refine (dats m 0 c).arrAt_eq_of_covers 3 _ (by decide +kernel) fun t hf y => ?_
    blk_simp
    rw [after0_3, rows]
    simp only [k0_pay4, k0_pay3, k0_pay2]
    pointwise
    show @Eq EReal _ _
    have G := Rms.grad (fun k => m ((c.tc : Thread nD τ).loc main_arg0) (ix2 (((View.whole main_v0_0).slice (win0_3.rect t)).emb y 0) k))
      (fun k => m ((c.tc : Thread nD τ).loc main_arg2) (ix2 (((View.whole main_v0_0).slice (win0_3.rect t)).emb y 0) k))
      (fun k => m ((c.tc : Thread nD τ).loc main_arg1) (ix2 0 k)) (fun k => rx _) (fun k => rw' _) (fun k => rg _) (y 1)
    refine Eq.trans ?_ (G.trans ?_)
    all_goals clear G
    · blk_point [iblk, V, idx t]
    · blk_point [iblk, V, idx t]
  · obtain ⟨h0, h1, h2⟩ := hm c
    clear h hm hpre
    rw [h0, h2]
    symm
    refine (dats m 0 c).arrAt_eq_of_covers 4 _ (by decide +kernel) fun t hf y => ?_
    have h7 : t.val % 8 = 7 := (flush0_4 t).mp hf
    blk_simp
    rw [after0_4, last m c t h7]
    simp only [k0_pay1]
    pointwise
    simp only [carried m c t (by have := lt_of_lt_of_eq t.isLt N_0; show t.val + 1 = 8; omega)]
    simp only [part, k0_pay5, k0_pay3, k0_pay2]
    pointwise
    show @Eq EReal _ _
    refine Eq.trans ?_ (Rms.sum_rows _).symm
    refine Finset.sum_congr rfl fun s _ => ?_
    refine Fin.sum_fin_congr fun p => ?_
    refine Finset.sum_congr rfl fun q _ => ?_
    rw [mul_comm]
    blk_point [iblk, V, idx p, idx t]

end Cert.Kernel22Ideal.Hand

end
-- ==== Proof.Mm23.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import proofs.«01_k».proof.Proof.Rms
public import Idealize.ShloMosaic.Lib.ReduceAll
public import proofs.«01_k».proof.Proof.Gen.Pre_finite_pre

@[expose] public section

noncomputable section

namespace Cert.Kernel23Ideal.Hand

open Cert.Kernel23Ideal Cert.Kernel23Ideal.Gen Idealize.ShloMosaic Idealize.ShloMosaic.TcCoe Idealize.SL.Sem

/-- The reference leaves its arguments alone and its counters at zero. -/
theorem frame_reference : Cert.quiescent_Reference23Ideal := fun m g _ =>
  (θ_run Cert.Reference23Ideal.defs _ _).mono (fun r h => ⟨fun c => (h c).2.2, sem_eq_zero_of_no_sems (by decide) r.2⟩)
    (Cert.Reference23Ideal.Value.run (F := Ideal) m g)

/-- The blocks each grid point reads and writes. -/
theorem idx : ∀ t : Fin grid0.N, win0_0.index t = ![t.val, 0] ∧
    win0_1.index t = ![0, 0] ∧
    win0_2.index t = ![t.val, 0] ∧
    win0_3.index t = ![t.val, 0] ∧
    win0_4.index t = ![t.val, 0] ∧
    win0_5.index t = ![0, 0] := by
  decide +kernel

/-- The eight partial sums a grid point adds. -/
def part (m : (ℓ : Loc nD τ sig) → Buf (Elt Ideal) ℓ) (c : Dev nD) (p : Fin cfg0.N) : FVec Ideal S8x1024 .f32 :=
  k0_pay6 (F := Ideal) (iblk m c 0 p) (iblk m c 2 p)

/-- The carried sums after the last point. -/
theorem carried (m : (ℓ : Loc nD τ sig) → Buf (Elt Ideal) ℓ) (c : Dev nD) (t : Fin cfg0.N) (ht : t.val + 1 = cfg0.N) (i : S8x1024.Idx) :
    ((outsAt0 (F := Ideal) m c t.val t.isLt).2.2 i : EReal) = 0 + ∑ p : Fin cfg0.N, (part m c p i : EReal) := by
  refine Pipeline.eq_sum_fin_of_reset_step_apply_last (M := EReal) (fun n h => (outsAt0 (F := Ideal) m c n h).2.2) 8 (fun _ => 0) (fun p j => (part m c p j : EReal)) (fun t h j => ?_) (fun t h j => ?_) (by decide) t ht i
  · have hN : t.val < 8 := lt_of_lt_of_eq t.isLt N_0
    rw [outsAt0_A m c t h (by omega) (by omega)]
    frame_out
    rw [zero_add]
    simp only [k0_pay7, shapeCast_self, part]
  · have hN : t.val < 8 := lt_of_lt_of_eq t.isLt N_0
    by_cases h7 : t.val % 8 = 7
    · rw [outsAt0_C m c t h (by omega) h7]
      frame_out
      simp only [k0_pay1, shapeCast_self, part]
      exact congrArg (fun a : EReal => a + (part m c t j : EReal)) (congrFun (Memref.IsWhole.read_unread (Memref.isWhole_whole cc0_scratch0) _) j)
    · rw [outsAt0_B m c t h (by omega) h7]
      frame_out
      simp only [k0_pay1, shapeCast_self, part]
      exact congrArg (fun a : EReal => a + (part m c t j : EReal)) (congrFun (Memref.IsWhole.read_unread (Memref.isWhole_whole cc0_scratch0) _) j)

/-- The row gradients every point leaves. -/
theorem rows (m : (ℓ : Loc nD τ sig) → Buf (Elt Ideal) ℓ) (c : Dev nD) (t : Fin cfg0.N) :
    (outsAt0 (F := Ideal) m c t.val t.isLt).1 = k0_pay5 (F := Ideal) (iblk m c 0 t) (iblk m c 2 t) (iblk m c 1 t) (iblk m c 3 t) := by
  have hN : t.val < 8 := lt_of_lt_of_eq t.isLt N_0
  by_cases h : t.val % 8 = 0
  · rw [outsAt0_A m c t h (by omega) (by omega)]
    frame_out
  · by_cases h7 : t.val % 8 = 7
    · rw [outsAt0_C m c t h (by omega) h7]
      frame_out
    · rw [outsAt0_B m c t h (by omega) h7]
      frame_out

/-- The gain's gradient is read off the carried sums at the last point. -/
theorem last (m : (ℓ : Loc nD τ sig) → Buf (Elt Ideal) ℓ) (c : Dev nD) (t : Fin cfg0.N) (h7 : t.val % 8 = 7) :
    (outsAt0 (F := Ideal) m c t.val t.isLt).2.1 = k0_pay2 (F := Ideal) (outsAt0 (F := Ideal) m c t.val t.isLt).2.2 := by
  have hN : t.val < 8 := lt_of_lt_of_eq t.isLt N_0
  rw [outsAt0_C m c t (by omega) (by omega) h7]
  frame_out

/-- Under the precondition the row, the gain and the incoming gradient are real. -/
theorem reals (A0 : FVec Ideal S4096x1024 .f32) (A1 : FVec Ideal S1x1024 .f32) (A2 : FVec Ideal S4096x1024 .f32) (A3 : FVec Ideal S4096x1024 .f32)
    (h : Cert.Pre_finite_pre.fn (F := Ideal) A0 A1 A2 A3 = fun _ => 1#1) :
    (∀ i, (A0 i : EReal) = ((A0 i : EReal).toReal : ℝ)) ∧ (∀ i, (A1 i : EReal) = ((A1 i : EReal).toReal : ℝ)) ∧ (∀ i, (A2 i : EReal) = ((A2 i : EReal).toReal : ℝ)) := by
  have h0 := congrFun h (fun a => a.elim0)
  dsimp only [Cert.Pre_finite_pre.fn] at h0
  obtain ⟨h1, hw⟩ := Rms.andi_left h0
  obtain ⟨hx, hg⟩ := Rms.andi_left h1
  exact ⟨fun i => Rms.real_of_lt _ (Host.reduce_andi_all _ _ _ _ _ hx i), fun i => Rms.real_of_lt _ (Host.reduce_andi_all _ _ _ _ _ hg i),
    fun i => Rms.real_of_lt _ (Host.reduce_andi_all _ _ _ _ _ hw i)⟩

/-- Every element of the two results is the reference's. -/
theorem value : Cert.algebraic_Kernel23Ideal_Reference23Ideal_pre_finite_pre := by
  intro m g m' g' hpre hm
  refine ⟨fun c => (dats m 0 c).arrAt 4 cfg0.N, fun c => (dats m 0 c).arrAt 5 cfg0.N, Value.run_blocks m g,
    (θ_run Cert.Reference23Ideal.defs _ _).mono (fun r h c => ⟨(h c).1.trans ?_, (h c).2.1.trans ?_, (h c).2.2⟩)
      (Cert.Reference23Ideal.Value.run (F := Ideal) m' g')⟩
  · obtain ⟨h0, h1, h2, h3⟩ := hm c
    clear h hm
    obtain ⟨rx, rg, rw'⟩ := reals _ _ _ _ (hpre c)
    rw [h0, h1, h2, h3]
    clear hpre
    symm
    refine (dats m 0 c).arrAt_eq_of_covers 4 _ (by decide +kernel) fun t hf y => ?_
    blk_simp
    rw [after0_4, rows]
    simp only [k0_pay5, k0_pay4, k0_pay3]
    pointwise
    show @Eq EReal _ _
    have G := Rms.grad (fun k => m ((c.tc : Thread nD τ).loc main_arg0) (ix2 (((View.whole main_v0_0).slice (win0_4.rect t)).emb y 0) k))
      (fun k => m ((c.tc : Thread nD τ).loc main_arg2) (ix2 (((View.whole main_v0_0).slice (win0_4.rect t)).emb y 0) k))
      (fun k => m ((c.tc : Thread nD τ).loc main_arg1) (ix2 0 k)) (fun k => rx _) (fun k => rw' _) (fun k => rg _) (y 1)
    refine Eq.trans ?_ ((congrArg (fun a : EReal => a + m ((c.tc : Thread nD τ).loc main_arg3) (((View.whole main_v0_0).slice (win0_4.rect t)).emb y)) G).trans ?_)
    all_goals clear G
    · blk_point [iblk, V, idx t]
    · blk_point [iblk, V, idx t]
  · obtain ⟨h0, h1, h2, h3⟩ := hm c
    clear h hm hpre
    rw [h0, h2]
    symm
    refine (dats m 0 c).arrAt_eq_of_covers 5 _ (by decide +kernel) fun t hf y => ?_
    have h7 : t.val % 8 = 7 := (flush0_5 t).mp hf
    blk_simp
    rw [after0_5, last m c t h7]
    simp only [k0_pay2]
    pointwise
    simp only [carried m c t (by have := lt_of_lt_of_eq t.isLt N_0; show t.val + 1 = 8; omega)]
    simp only [part, k0_pay6, k0_pay4, k0_pay3]
    pointwise
    show @Eq EReal _ _
    refine Eq.trans ?_ (Rms.sum_rows _).symm
    refine Finset.sum_congr rfl fun s _ => ?_
    refine Fin.sum_fin_congr fun p => ?_
    refine Finset.sum_congr rfl fun q _ => ?_
    rw [mul_comm]
    blk_point [iblk, V, idx p, idx t]

end Cert.Kernel23Ideal.Hand

end
-- ==== Proof.Gate.lean ====
module

public import Idealize.ShloMosaic.Lib.Pipeline.ValueKit
public import Idealize.ShloMosaic.Lib.Pointwise

@[expose] public section

noncomputable section

namespace Cert.Gate

open Idealize.ShloMosaic

/-- The printed constant one half. -/
theorem ofBits_half : Ideal.ofBits FTy.f32 0x3F000000#32 = ((1 / 2 : ℝ) : EReal) := by
  simp [Ideal.ofBits, Ideal.ieee]
  rw [← EReal.coe_mul]; norm_num

/-- The logistic function through the hyperbolic tangent, at a real. -/
theorem real_gate (x : ℝ) : 1 / 2 + 1 / 2 * Real.tanh (1 / 2 * x) = 1 / (1 + Real.exp (-x)) := by
  have e : Real.exp (-x) = Real.exp (-(1 / 2 * x)) * Real.exp (-(1 / 2 * x)) := by
    rw [← Real.exp_add]; congr 1; ring
  have hi : Real.exp (1 / 2 * x) * Real.exp (-(1 / 2 * x)) = 1 := by
    rw [← Real.exp_add]; simp
  have p := Real.exp_pos (1 / 2 * x)
  have q := Real.exp_pos (-(1 / 2 * x))
  rw [Real.tanh_eq_sinh_div_cosh, Real.sinh_eq, Real.cosh_eq, e]
  generalize Real.exp (1 / 2 * x) = a at *
  generalize Real.exp (-(1 / 2 * x)) = b at *
  have hab : (a + b) ≠ 0 := by positivity
  have hb : (1 + b * b) ≠ 0 := by positivity
  field_simp
  nlinarith [hi]

/-- A half plus half the hyperbolic tangent of half an argument is the logistic function of the argument, at the infinities too. -/
theorem half_add_half_tanh (x : EReal) :
    Ideal.ofBits FTy.f32 1056964608#32 + Ideal.ofBits FTy.f32 1056964608#32 * Ideal.tanh (Ideal.ofBits FTy.f32 1056964608#32 * x) =
      Ideal.div 1 (1 + Ideal.exp (-x)) := by
  rw [show (1056964608#32 : BitVec 32) = 0x3F000000#32 from rfl, ofBits_half]
  induction x using EReal.rec with
  | bot =>
    rw [EReal.coe_mul_bot_of_pos (by norm_num), Ideal.tanh_bot, EReal.neg_bot, Ideal.exp_top]
    rw [show (1 : EReal) + ⊤ = ⊤ from EReal.coe_add_top 1, show Ideal.div 1 ⊤ = 0 by simp [Ideal.div], ← EReal.coe_one, ← EReal.coe_neg,
      ← EReal.coe_mul, ← EReal.coe_add]
    norm_num
  | top =>
    rw [EReal.coe_mul_top_of_pos (by norm_num), Ideal.tanh_top, EReal.neg_top, Ideal.exp_bot]
    rw [add_zero, ← EReal.coe_one, Ideal.div_coe (by norm_num), ← EReal.coe_mul, ← EReal.coe_mul, ← EReal.coe_add]
    norm_num
  | coe r =>
    rw [← EReal.coe_mul, Ideal.tanh_coe, ← EReal.coe_neg, Ideal.exp_coe, ← EReal.coe_mul, ← EReal.coe_add, real_gate, ← EReal.coe_one,
      ← EReal.coe_add, Ideal.div_coe (by positivity), ← EReal.coe_mul, one_mul]

end Cert.Gate

end
-- ==== Proof.Mm24.lean ====
module

public import proofs.«01_k».proof.Defs
public import proofs.«01_k».proof.Proof.Gen.Kernel24.Frame
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import proofs.«01_k».proof.Proof.Gate

@[expose] public section

noncomputable section

namespace Cert.Kernel24Ideal.Hand

open Cert.Kernel24Ideal Cert.Kernel24Ideal.Gen Idealize.ShloMosaic Idealize.ShloMosaic.TcCoe Idealize.SL.Sem

/-- The reference leaves its arguments alone and its counters at zero. -/
theorem frame_reference : Cert.quiescent_Reference24Ideal := fun m g _ =>
  (θ_run Cert.Reference24Ideal.defs _ _).mono (fun r h => ⟨fun c => (h c).2, sem_eq_zero_of_no_sems (by decide) r.2⟩)
    (Cert.Reference24Ideal.Value.run (F := Ideal) m g)

/-- The blocks each grid point reads and writes. -/
theorem idx : ∀ t : Fin grid0.N, win0_0.index t = ![(grid0.coords t 0).val, 0] ∧
    win0_1.index t = ![(grid0.coords t 0).val, 1] ∧
    win0_2.index t = ![(grid0.coords t 0).val, 2] ∧
    win0_3.index t = ![(grid0.coords t 0).val, 0] ∧
    win0_4.index t = ![(grid0.coords t 0).val, 0] ∧
    win0_5.index t = ![(grid0.coords t 0).val, 0] ∧
    win0_6.index t = ![0, 0] ∧
    win0_7.index t = ![0, 0] ∧
    win0_8.index t = ![0, 0] ∧
    win0_9.index t = ![0, 0] ∧
    win0_10.index t = ![(grid0.coords t 0).val, 0] := by
  decide +kernel

/-- Every element of the merged array is the reference's: the three gates times the three products, added in the same order. -/
theorem value : Cert.algebraic_Kernel24Ideal_Reference24Ideal := by
  intro m g m' g' _ hm
  refine ⟨fun c => (dats m 0 c).arrAt 10 cfg0.N, Value.run_blocks m g,
    (θ_run Cert.Reference24Ideal.defs _ _).mono (fun r h c => ⟨(h c).1.trans ?_, (h c).2⟩)
      (Cert.Reference24Ideal.Value.run (F := Ideal) m' g')⟩
  obtain ⟨h0, h1, h2, h3, h4, h5, h6, h7⟩ := hm c
  rw [h0, h1, h2, h3, h4, h5, h6, h7]
  symm
  refine (dats m 0 c).arrAt_eq_of_covers 10 _ (by decide +kernel) fun t hf y => ?_
  blk_simp
  rw [after0_10]
  frame_out
  simp only [k0_pay1, k0_pay2, k0_pay3]
  pointwise
  show @Eq EReal _ _
  simp only [Cert.Gate.half_add_half_tanh]
  blk_point [iblk, V, idx t]

end Cert.Kernel24Ideal.Hand

end
-- ==== Proof.Mm25.lean ====
module

public import proofs.«01_k».proof.Defs
public import proofs.«01_k».proof.Proof.Gen.Kernel25.Frame
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise

@[expose] public section

noncomputable section

namespace Cert.Kernel25Ideal.Hand

open Cert.Kernel25Ideal Cert.Kernel25Ideal.Gen Idealize.ShloMosaic Idealize.ShloMosaic.TcCoe Idealize.SL.Sem

/-- The reference leaves its arguments alone and its counters at zero. -/
theorem frame_reference : Cert.quiescent_Reference25Ideal := fun m g _ =>
  (θ_run Cert.Reference25Ideal.defs _ _).mono (fun r h => ⟨fun c => (h c).2, sem_eq_zero_of_no_sems (by decide) r.2⟩)
    (Cert.Reference25Ideal.Value.run (F := Ideal) m g)

/-- The blocks each grid point reads and writes. -/
theorem idx : ∀ t : Fin grid0.N, win0_0.index t = ![(grid0.coords t 0).val, 18] ∧
    win0_1.index t = ![(grid0.coords t 0).val, 19] ∧
    win0_2.index t = ![(grid0.coords t 0).val, 20] ∧
    win0_3.index t = ![32 * (grid0.coords t 0).val - 1, 19] ∧
    win0_4.index t = ![32 * (grid0.coords t 0).val - 1, 20] ∧
    win0_5.index t = ![0, 0] ∧
    win0_6.index t = ![(grid0.coords t 0).val, 0] := by
  decide +kernel

/-- The factor that silences the rows before the first block. -/
theorem live (t : Fin grid0.N) : (((Scalar.extui (Scalar.cmpi CmpIPredicate.sgt (BitVec.ofNat 32 (grid0.coords t 0).val) 0#32) : BitVec 32).toInt : ℝ) : EReal) =
    if (grid0.coords t 0).val = 0 then 0 else 1 := by
  have e : ∀ t : Fin grid0.N, (Scalar.extui (Scalar.cmpi CmpIPredicate.sgt (BitVec.ofNat 32 (grid0.coords t 0).val) 0#32) : BitVec 32).toInt =
      if (grid0.coords t 0).val = 0 then 0 else 1 := by
    decide +kernel
  rw [e t]
  split_ifs
  · rw [Int.cast_zero, EReal.coe_zero]
  · rw [Int.cast_one, EReal.coe_one]

set_option maxHeartbeats 2000000 in
/-- Every element of the result is the reference's: the gate times the three taps, the two earlier rows read from the block before where the shift leaves the block. -/
theorem value : Cert.algebraic_Kernel25Ideal_Reference25Ideal := by
  intro m g m' g' _ hm
  refine ⟨fun c => (dats m 0 c).arrAt 6 cfg0.N, Value.run_blocks m g,
    (θ_run Cert.Reference25Ideal.defs _ _).mono (fun r h c => ⟨(h c).1.trans ?_, (h c).2⟩)
      (Cert.Reference25Ideal.Value.run (F := Ideal) m' g')⟩
  obtain ⟨h0, h1⟩ := hm c
  rw [h0, h1]
  symm
  refine (dats m 0 c).arrAt_eq_of_covers 6 _ (by decide +kernel) fun t hf y => ?_
  blk_simp
  rw [after0_6]
  frame_out
  simp only [k0_pay1]
  pointwise
  show @Eq EReal _ _
  have hT : (grid0.coords t 0).val < 8 := (grid0.coords t 0).isLt
  have hy0 : (y 0).val < 512 := (y 0).isLt
  have e0 : ((((View.whole main_v0).slice (win0_6.rect t)).emb y) 0).val = 512 * (grid0.coords t 0).val + (y 0).val := by
    blk_simp [idx t]
    omega
  rw [live t]
  refine congrArg₂ (fun a b : EReal => a * b) ?_ ((add_right_comm _ _ _).trans (congrArg₂ (fun a b : EReal => a + b) (congrArg₂ (fun a b : EReal => a + b)
    ((mul_comm _ _).trans (congrArg₂ (fun a b : EReal => a * b) ?_ ?_)) ((mul_comm _ _).trans (congrArg₂ (fun a b : EReal => a * b) ?_ ?_)))
    ((mul_comm _ _).trans (congrArg₂ (fun a b : EReal => a * b) ?_ ?_))))
  · blk_point [iblk, V, idx t]
  · blk_point [iblk, V, idx t]
  · blk_point [iblk, V, idx t]
  · by_cases h1 : (y 0).val < 2
    · rw [dif_pos (by omega)]
      by_cases h2 : (grid0.coords t 0).val = 0
      · rw [if_pos h2, mul_zero, dif_pos (by omega)]
      · rw [if_neg h2, mul_one, dif_neg (by omega)]
        congr 1 <;> blk_ext [iblk, V, idx t]
    · rw [dif_neg (by omega), dif_neg (by omega)]
      congr 1 <;> blk_ext [iblk, V, idx t]
  · blk_point [iblk, V, idx t]
  · by_cases h1 : (y 0).val < 1
    · rw [dif_pos (by omega)]
      by_cases h2 : (grid0.coords t 0).val = 0
      · rw [if_pos h2, mul_zero, dif_pos (by omega)]
      · rw [if_neg h2, mul_one, dif_neg (by omega)]
        congr 1 <;> blk_ext [iblk, V, idx t]
    · rw [dif_neg (by omega), dif_neg (by omega)]
      congr 1 <;> blk_ext [iblk, V, idx t]
  · blk_point [iblk, V, idx t]

end Cert.Kernel25Ideal.Hand

end
-- ==== Proof.Mm26.lean ====
module

public import proofs.«01_k».proof.Defs
public import proofs.«01_k».proof.Proof.Gen.Kernel26.Frame
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise

@[expose] public section

noncomputable section

namespace Cert.Kernel26Ideal.Hand

open Cert.Kernel26Ideal Cert.Kernel26Ideal.Gen Idealize.ShloMosaic Idealize.ShloMosaic.TcCoe Idealize.SL.Sem

/-- The reference leaves its arguments alone and its counters at zero. -/
theorem frame_reference : Cert.quiescent_Reference26Ideal := fun m g _ =>
  (θ_run Cert.Reference26Ideal.defs _ _).mono (fun r h => ⟨fun c => (h c).2, sem_eq_zero_of_no_sems (by decide) r.2⟩)
    (Cert.Reference26Ideal.Value.run (F := Ideal) m g)

/-- The blocks each grid point reads and writes. -/
theorem idx : ∀ t : Fin grid0.N, win0_0.index t = ![(grid0.coords t 0).val, 0] ∧
    win0_1.index t = ![0, 0] ∧
    win0_2.index t = ![(grid0.coords t 0).val, 0] := by
  decide +kernel

/-- Every element of the result is the reference's: the row over the root of its mean square, times the gain. -/
theorem value : Cert.algebraic_Kernel26Ideal_Reference26Ideal := by
  intro m g m' g' _ hm
  refine ⟨fun c => (dats m 0 c).arrAt 2 cfg0.N, Value.run_blocks m g,
    (θ_run Cert.Reference26Ideal.defs _ _).mono (fun r h c => ⟨(h c).1.trans ?_, (h c).2⟩)
      (Cert.Reference26Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  blk_point [iblk, V, idx t]

end Cert.Kernel26Ideal.Hand

end
-- ==== Proof.Mm27.lean ====
module

public import proofs.«01_k».proof.Defs
public import proofs.«01_k».proof.Proof.Gen.Kernel27.Frame
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise

@[expose] public section

noncomputable section

namespace Cert.Kernel27Ideal.Hand

open Cert.Kernel27Ideal Cert.Kernel27Ideal.Gen Idealize.ShloMosaic Idealize.ShloMosaic.TcCoe Idealize.SL.Sem

/-- The reference leaves its arguments alone and its counters at zero. -/
theorem frame_reference : Cert.quiescent_Reference27Ideal := fun m g _ =>
  (θ_run Cert.Reference27Ideal.defs _ _).mono (fun r h => ⟨fun c => (h c).2.2, sem_eq_zero_of_no_sems (by decide) r.2⟩)
    (Cert.Reference27Ideal.Value.run (F := Ideal) m g)

/-- The blocks each grid point reads and writes. -/
theorem idx : ∀ t : Fin grid0.N, win0_0.index t = ![(grid0.coords t 0).val, 0] ∧
    win0_1.index t = ![(grid0.coords t 0).val, 0] ∧
    win0_2.index t = ![0, 0] ∧
    win0_3.index t = ![0, 0] ∧
    win0_4.index t = ![(grid0.coords t 0).val, 0] ∧
    win0_5.index t = ![(grid0.coords t 0).val, 0] := by
  decide +kernel

/-- Every element of both results is the reference's: the residual plus the scaled row, and that sum scaled again for the next sublayer. -/
theorem value : Cert.algebraic_Kernel27Ideal_Reference27Ideal := by
  intro m g m' g' _ hm
  refine ⟨fun c => (dats m 0 c).arrAt 4 cfg0.N, fun c => (dats m 0 c).arrAt 5 cfg0.N, Value.run_blocks m g,
    (θ_run Cert.Reference27Ideal.defs _ _).mono (fun r h c => ⟨(h c).1.trans ?_, (h c).2.1.trans ?_, (h c).2.2⟩)
      (Cert.Reference27Ideal.Value.run (F := Ideal) m' g')⟩
  · obtain ⟨h0, h1, h2, h3⟩ := hm c
    rw [h0, h1, h2]
    symm
    refine (dats m 0 c).arrAt_eq_of_covers 4 _ (by decide +kernel) fun t hf y => ?_
    blk_simp
    rw [after0_4]
    frame_out
    simp only [k0_pay1]
    pointwise
    show @Eq EReal _ _
    blk_point [iblk, V, idx t]
  · obtain ⟨h0, h1, h2, h3⟩ := hm c
    rw [h0, h1, h2, h3]
    symm
    refine (dats m 0 c).arrAt_eq_of_covers 5 _ (by decide +kernel) fun t hf y => ?_
    blk_simp
    rw [after0_5]
    frame_out
    simp only [k0_pay1, k0_pay2]
    pointwise
    show @Eq EReal _ _
    blk_point [iblk, V, idx t]

end Cert.Kernel27Ideal.Hand

end
-- ==== Proof.Mm28.lean ====
module

public import proofs.«01_k».proof.Defs
public import proofs.«01_k».proof.Proof.Gen.Kernel28.Frame
public import proofs.«01_k».proof.Proof.Gen.Kernel28Ideal.Value
public import proofs.«01_k».proof.Proof.Gen.Reference28Ideal.Run
public import Idealize.ShloMosaic.Lib.Pipeline.ValueKit
public import Idealize.ShloMosaic.Lib.Pointwise

@[expose] public section

noncomputable section

namespace Cert.Kernel28Ideal.Hand

open Cert.Kernel28Ideal Cert.Kernel28Ideal.Gen Idealize.ShloMosaic Idealize.ShloMosaic.TcCoe Idealize.SL.Sem

/-- The reference leaves its arguments alone and its counters at zero. -/
theorem frame_reference : Cert.quiescent_Reference28Ideal := fun m g _ =>
  (θ_run Cert.Reference28Ideal.defs _ _).mono (fun r h => ⟨fun c => (h c).2, sem_eq_zero_of_no_sems (by decide) r.2⟩)
    (Cert.Reference28Ideal.Value.run (F := Ideal) m g)

/-- The blocks each grid point reads and writes. -/
theorem idx : ∀ t : Fin grid0.N, win0_0.index t = ![(grid0.coords t 0).val, 0] ∧
    win0_1.index t = ![(grid0.coords t 0).val, 0] ∧
    win0_2.index t = ![0, 0] ∧
    win0_3.index t = ![(grid0.coords t 0).val, 0] := by
  decide +kernel

/-- Every element of the result is the reference's: the residual plus the scaled row. -/
theorem value : Cert.algebraic_Kernel28Ideal_Reference28Ideal := by
  intro m g m' g' _ hm
  refine ⟨fun c => (dats m 0 c).arrAt 3 cfg0.N, Value.run_blocks m g,
    (θ_run Cert.Reference28Ideal.defs _ _).mono (fun r h c => ⟨(h c).1.trans ?_, (h c).2⟩)
      (Cert.Reference28Ideal.Value.run (F := Ideal) m' g')⟩
  obtain ⟨h0, h1, h2⟩ := hm c
  rw [h0, h1, h2]
  symm
  refine (dats m 0 c).arrAt_eq_of_covers 3 _ (by decide +kernel) fun t hf y => ?_
  blk_simp
  rw [after0_3]
  frame_out
  simp only [k0_pay1]
  pointwise
  show @Eq EReal _ _
  blk_point [iblk, V, idx t]

end Cert.Kernel28Ideal.Hand

end
-- ==== Proof.Mm29.lean ====
module

public import proofs.«01_k».proof.Defs
public import proofs.«01_k».proof.Proof.Gen.Kernel29.Frame
public import proofs.«01_k».proof.Proof.Gen.Kernel29Ideal.Value
public import proofs.«01_k».proof.Proof.Gen.Reference29Ideal.Run
public import Idealize.ShloMosaic.Lib.Pipeline.ValueKit
public import Idealize.ShloMosaic.Lib.Pointwise

@[expose] public section

noncomputable section

namespace Cert.Kernel29Ideal.Hand

open Cert.Kernel29Ideal Cert.Kernel29Ideal.Gen Idealize.ShloMosaic Idealize.ShloMosaic.TcCoe Idealize.SL.Sem

/-- The reference leaves its arguments alone and its counters at zero. -/
theorem frame_reference : Cert.quiescent_Reference29Ideal := fun m g _ =>
  (θ_run Cert.Reference29Ideal.defs _ _).mono (fun r h => ⟨fun c => (h c).2, sem_eq_zero_of_no_sems (by decide) r.2⟩)
    (Cert.Reference29Ideal.Value.run (F := Ideal) m g)

/-- The blocks each grid point reads and writes. -/
theorem idx : ∀ t : Fin grid0.N, win0_0.index t = ![(grid0.coords t 0).val, 0] ∧ win0_1.index t = ![(grid0.coords t 1).val, 0] ∧
    win0_2.index t = ![(grid0.coords t 0).val, (grid0.coords t 1).val] := by
  decide +kernel

/-- Every element of the product, whichever block holds it, is the reference's sum over the whole contracted axis. -/
theorem value : Cert.algebraic_Kernel29Ideal_Reference29Ideal := by
  intro m g m' g' _ hm
  refine ⟨fun c => (dats m 0 c).arrAt 2 cfg0.N, Value.run_blocks m g,
    (θ_run Cert.Reference29Ideal.defs _ _).mono (fun r h c => ⟨(h c).1.trans ?_, (h c).2⟩)
      (Cert.Reference29Ideal.Value.run (F := Ideal) m' g')⟩
  obtain ⟨h0, h1⟩ := hm c
  rw [h0, h1]
  symm
  refine (dats m 0 c).arrAt_eq_of_covers 2 _ (by decide +kernel) fun t hf y => ?_
  blk_simp
  rw [after0_2]
  frame_out
  simp only [k0_pay1]
  pointwise
  show @Eq EReal _ _
  refine Finset.sum_congr rfl fun k _ => ?_
  rw [mul_comm]
  congr 1 <;> blk_ext [iblk, V, idx t]

end Cert.Kernel29Ideal.Hand

end
-- ==== Proof.Soft.lean ====
module

public import Idealize.ShloMosaic.Lib.Pipeline.ValueKit
public import Idealize.ShloMosaic.Lib.Pointwise
public import Idealize.ShloMosaic.Lib.WordCmp

@[expose] public section

noncomputable section

namespace Cert.Soft

open Idealize.ShloMosaic

/-- A vector of 4096 as a function of every natural number. -/
def ext (g : Fin 4096 → EReal) (i : ℕ) : EReal := if h : i < 4096 then g ⟨i, h⟩ else 0

/-- The sum of a vector from a place on. -/
def suffix (g : Fin 4096 → EReal) (s : ℕ) : EReal := ∑ i ∈ Finset.Ico s 4096, ext g i

theorem suffix_end (g : Fin 4096 → EReal) (s : ℕ) (h : 4096 ≤ s) : suffix g s = 0 := by
  unfold suffix
  rw [Finset.Ico_eq_empty (by omega)]
  rfl

theorem suffix_zero (s : ℕ) : suffix (fun _ => 0) s = 0 := by
  unfold suffix
  refine Finset.sum_eq_zero fun i _ => ?_
  unfold ext
  split <;> rfl

theorem suffix_all (g : Fin 4096 → EReal) : suffix g 0 = ∑ i : Fin 4096, g i := by
  unfold suffix
  rw [← Finset.range_eq_Ico, Finset.sum_range]
  refine Finset.sum_congr rfl fun i _ => ?_
  unfold ext
  rw [dif_pos i.isLt]

/-- The product with a column of the lower triangle is the sum from the column on. -/
theorem suffix_tri (g : Fin 4096 → EReal) (s : ℕ) : ∑ i : Fin 4096, g i * (if s ≤ i.val then 1 else 0) = suffix g s := by
  have e : ∀ i : Fin 4096, g i * (if s ≤ i.val then 1 else 0) = (fun n : ℕ => if s ≤ n then ext g n else 0) i.val := fun i => by
    unfold ext
    by_cases h : s ≤ i.val
    · simp [h]
    · simp [h]
  rw [Finset.sum_congr rfl fun i _ => e i, ← Finset.sum_range (fun n : ℕ => if s ≤ n then ext g n else 0), ← Finset.sum_filter]
  unfold suffix
  refine Finset.sum_congr ?_ fun _ _ => rfl
  ext n
  simp only [Finset.mem_filter, Finset.mem_range, Finset.mem_Ico]
  omega

/-- A block's part of the sum from a place on, with what the later blocks add. -/
theorem suffix_block (g : Fin 4096 → EReal) (T j : ℕ) (hT : T < 8) (hj : j < 512) :
    (∑ k : Fin 512, ext g (512 * T + k.val) * (if j ≤ k.val then 1 else 0)) + suffix g (512 * (T + 1)) = suffix g (512 * T + j) := by
  have e : ∀ k : Fin 512, ext g (512 * T + k.val) * (if j ≤ k.val then 1 else 0) = (fun n : ℕ => if j ≤ n then ext g (512 * T + n) else 0) k.val := fun k => by
    by_cases h : j ≤ k.val
    · simp [h]
    · simp [h]
  rw [Finset.sum_congr rfl fun k _ => e k, ← Finset.sum_range (fun n : ℕ => if j ≤ n then ext g (512 * T + n) else 0), ← Finset.sum_filter]
  have f : (Finset.range 512).filter (fun n => j ≤ n) = Finset.Ico j 512 := by
    ext n
    simp only [Finset.mem_filter, Finset.mem_range, Finset.mem_Ico]
    omega
  rw [f, Finset.sum_Ico_add (ext g) j 512 (512 * T)]
  unfold suffix
  rw [show j + 512 * T = 512 * T + j by omega, show 512 + 512 * T = 512 * (T + 1) by omega]
  exact Finset.sum_Ico_consecutive _ (by omega) (by omega)

/-- A block's whole sum, with what the later blocks add. -/
theorem suffix_step (g : Fin 4096 → EReal) (T : ℕ) (hT : T < 8) :
    (∑ k : Fin 512, ext g (512 * T + k.val)) + suffix g (512 * (T + 1)) = suffix g (512 * T) := by
  have := suffix_block g T 0 hT (by omega)
  simpa using this

theorem coe_max (x y : ℝ) : ((max x y : ℝ) : EReal) = max (x : EReal) (y : EReal) := EReal.coe_strictMono.monotone.map_max

theorem real_soft (x : ℝ) : Real.exp (x - (max x 0 + Real.log (1 + Real.exp (-(max x (-x)))))) = 1 / (1 + Real.exp (-x)) := by
  have p := Real.exp_pos x
  have q := Real.exp_pos (-x)
  have hq : Real.exp (-x) = (Real.exp x)⁻¹ := Real.exp_neg x
  rcases le_total 0 x with h | h
  · rw [max_eq_left h, max_eq_left (by linarith), show x - (x + Real.log (1 + Real.exp (-x))) = -Real.log (1 + Real.exp (-x)) by ring, Real.exp_neg,
      Real.exp_log (by positivity), one_div]
  · rw [max_eq_right h, max_eq_right (by linarith), neg_neg, zero_add, Real.exp_sub, Real.exp_log (by positivity), hq]
    field_simp
    ring

/-- The slope of the soft maximum, as it is computed from its value, is the logistic function. -/
theorem soft (x : ℝ) :
    Ideal.exp ((x : EReal) - (max (x : EReal) 0 + Ideal.log1p (Ideal.exp (-(max (x : EReal) (-(x : EReal))))))) = Ideal.div 1 (1 + Ideal.exp (-(x : EReal))) := by
  have e1 : (1 : EReal) = ((1 : ℝ) : EReal) := rfl
  have e0 : (0 : EReal) = ((0 : ℝ) : EReal) := rfl
  have p := Real.exp_pos (-(max x (-x)))
  have q := Real.exp_pos (-x)
  unfold Ideal.log1p
  rw [← EReal.coe_neg, ← coe_max, ← EReal.coe_neg, Ideal.exp_coe, Ideal.exp_coe, e1, ← EReal.coe_add, Ideal.log_coe, if_neg (by linarith), e0, ← coe_max,
    ← EReal.coe_add, ← EReal.coe_sub, Ideal.exp_coe, real_soft, ← EReal.coe_add, Ideal.div_coe (by linarith), ← EReal.coe_mul]
  congr 1
  ring

/-- The same value is no infinity. -/
theorem soft_val (x : ℝ) : ∃ y : ℝ, max (x : EReal) 0 + Ideal.log1p (Ideal.exp (-(max (x : EReal) (-(x : EReal))))) = (y : EReal) := by
  have e1 : (1 : EReal) = ((1 : ℝ) : EReal) := rfl
  have e0 : (0 : EReal) = ((0 : ℝ) : EReal) := rfl
  have p := Real.exp_pos (-(max x (-x)))
  refine ⟨max x 0 + Real.log (1 + Real.exp (-(max x (-x)))), ?_⟩
  unfold Ideal.log1p
  rw [← EReal.coe_neg, ← coe_max, ← EReal.coe_neg, Ideal.exp_coe, e1, ← EReal.coe_add, Ideal.log_coe, if_neg (by linarith), e0, ← coe_max,
    ← EReal.coe_add]

theorem ofBits_top : Ideal.ofBits FTy.f32 2139095040#32 = (⊤ : EReal) := by
  simp [Ideal.ofBits, Ideal.ieee]

/-- The condition of an entry of the lower triangle as a number. -/
theorem entry (a b : ℕ) (ha : a < 4096) (hb : b < 4096) :
    FloatOps.uitofp (F := Ideal) FTy.f32 (IntOp.cmpi CmpIPredicate.sle (BitVec.ofNat 32 a) (BitVec.ofNat 32 b)) = if a ≤ b then (1 : EReal) else 0 := by
  rw [WordCmp.cmpi_sle_ofNat (by omega) (by omega)]
  show (((BitVec.ofBool (decide (a ≤ b))).toNat : ℝ) : EReal) = _
  by_cases h : a ≤ b
  · simp [h]
  · simp [h]

end Cert.Soft

end
-- ==== Proof.Gatebwd.lean ====
module

public import proofs.«01_k».proof.Defs
public import proofs.«01_k».proof.Proof.Gen.Kernel30.Frame
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.ReduceAll
public import Idealize.ShloMosaic.Lib.WordCmp
public import proofs.«01_k».proof.Proof.Rms
public import proofs.«01_k».proof.Proof.Gate
public import proofs.«01_k».proof.Proof.Soft
public import proofs.«01_k».proof.Proof.Gen.Pre_finite_gate

@[expose] public section

noncomputable section

namespace Cert.Kernel30Ideal.Hand

open Cert.Kernel30Ideal Cert.Kernel30Ideal.Gen Idealize.ShloMosaic Idealize.ShloMosaic.TcCoe Idealize.SL.Sem

/-- The reference leaves its arguments alone and its counters at zero. -/
theorem frame_reference : Cert.quiescent_Reference30Ideal := fun m g _ =>
  (θ_run Cert.Reference30Ideal.defs _ _).mono (fun r h => ⟨fun c => (h c).2.2, sem_eq_zero_of_no_sems (by decide) r.2⟩)
    (Cert.Reference30Ideal.Value.run (F := Ideal) m g)

/-- The blocks each grid point reads and writes: the columns in reverse. -/
theorem idx : ∀ t : Fin grid0.N, win0_0.index t = ![0, 7 - t.val] ∧
    win0_1.index t = ![0, 0] ∧
    win0_2.index t = ![0, 0, 7 - t.val] ∧
    win0_3.index t = ![0, 0, 7 - t.val] ∧
    win0_4.index t = ![0, 7 - t.val] ∧
    win0_5.index t = ![0, 0] := by
  decide +kernel

/-- The gradient rows the kernel selects: head by head from the even and the odd array, zero below them. -/
def D (A2 A3 : FVec Ideal S4x8x4096 .f32) (y : Fin 16) (i : Fin 4096) : EReal :=
  match y.val with
  | 0 => A2 (ix3 0 0 i) | 1 => A3 (ix3 0 0 i) | 2 => A2 (ix3 1 0 i) | 3 => A3 (ix3 1 0 i)
  | 4 => A2 (ix3 2 0 i) | 5 => A3 (ix3 2 0 i) | 6 => A2 (ix3 3 0 i) | 7 => A3 (ix3 3 0 i)
  | _ => 0

/-- A point's first four rows. -/
def q3 (m : (ℓ : Loc nD τ sig) → Buf (Elt Ideal) ℓ) (c : Dev nD) (t : Fin cfg0.N) : FVec Ideal S16x512 .f32 :=
  k0_pay3 (View.ld (iblk m c 2 t) (Rect.unit ![0, 0, 0] ![1, 1, 512] inb_S4x8x512_S1x1x512_0_0_0))
    (View.ld (iblk m c 3 t) (Rect.unit ![0, 0, 0] ![1, 1, 512] inb_S4x8x512_S1x1x512_0_0_0))
    (View.ld (iblk m c 2 t) (Rect.unit ![1, 0, 0] ![1, 1, 512] inb_S4x8x512_S1x1x512_1_0_0))
    (View.ld (iblk m c 3 t) (Rect.unit ![1, 0, 0] ![1, 1, 512] inb_S4x8x512_S1x1x512_1_0_0))

/-- A point's rows. -/
def q5 (m : (ℓ : Loc nD τ sig) → Buf (Elt Ideal) ℓ) (c : Dev nD) (t : Fin cfg0.N) : FVec Ideal S16x512 .f32 :=
  k0_pay5 (iota Kind.tc S16x512 32 [0] iota_S16x512_d0_w32) (q3 m c t) k0_pay4
    (View.ld (iblk m c 2 t) (Rect.unit ![2, 0, 0] ![1, 1, 512] inb_S4x8x512_S1x1x512_2_0_0))
    (View.ld (iblk m c 3 t) (Rect.unit ![2, 0, 0] ![1, 1, 512] inb_S4x8x512_S1x1x512_2_0_0))
    (View.ld (iblk m c 2 t) (Rect.unit ![3, 0, 0] ![1, 1, 512] inb_S4x8x512_S1x1x512_3_0_0))
    (View.ld (iblk m c 3 t) (Rect.unit ![3, 0, 0] ![1, 1, 512] inb_S4x8x512_S1x1x512_3_0_0))

theorem q5_at (m : (ℓ : Loc nD τ sig) → Buf (Elt Ideal) ℓ) (c : Dev nD) (t : Fin cfg0.N) (y : Fin 16) (k : Fin 512) :
    (q5 m c t (ix2 y k) : EReal) = Soft.ext (D (m ((c.tc : Thread nD τ).loc main_arg2)) (m ((c.tc : Thread nD τ).loc main_arg3)) y) (512 * (7 - t.val) + k.val) := by
  have hN : t.val < 8 := lt_of_lt_of_eq t.isLt N_0
  have hk := k.isLt
  have hi : 512 * (7 - t.val) + k.val < 4096 := by omega
  have r2 : ∀ h : Fin 4, (iblk m c 2 t (ix3 h 0 k) : EReal) = m ((c.tc : Thread nD τ).loc main_arg2) (ix3 h 0 ⟨512 * (7 - t.val) + k.val, hi⟩) := fun h => by
    blk_point [iblk, V, idx t]
  have r3 : ∀ h : Fin 4, (iblk m c 3 t (ix3 h 0 k) : EReal) = m ((c.tc : Thread nD τ).loc main_arg3) (ix3 h 0 ⟨512 * (7 - t.val) + k.val, hi⟩) := fun h => by
    blk_point [iblk, V, idx t]
  unfold Soft.ext
  rw [dif_pos hi]
  simp only [q5, q3, k0_pay5, k0_pay3, k0_pay4]
  pointwise
  show @Eq EReal _ _
  simp only [r2, r3]
  clear r2 r3
  fin_cases y <;> rfl

/-- The product with the lower triangle, in three parts of which two are zero at a real row, plus the carried column. -/
theorem tri_at (v3 : IVec S16x512 32) (v32 : FVec Ideal S16x512 .f32) (v34 : IVec S16x512 1) (a b d e : Vec Ideal S1x1x512 .f32) (p : FVec Ideal S16x1 .f32)
    (y : Fin 16) (j : Fin 512) (hX : ∀ k : Fin 512, ∃ r : ℝ, (k0_pay5 (F := Ideal) v3 v32 v34 a b d e (ix2 y k) : EReal) = (r : EReal)) :
    (k0_pay12 (F := Ideal) k0_pay6 (k0_pay10 v3 v32 v34 a b d e) (k0_pay11 v3 v32 v34 a b d e) (constant S16x512 FTy.f32 0#32) p (ix2 y j) : EReal) =
      (∑ k : Fin 512, (k0_pay5 (F := Ideal) v3 v32 v34 a b d e (ix2 y k) : EReal) * (if j.val ≤ k.val then 1 else 0)) + (p (ix2 y 0) : EReal) := by
  simp only [k0_pay12, k0_pay11, k0_pay10, k0_pay9, k0_pay8, k0_pay7, k0_pay6]
  generalize k0_pay5 (F := Ideal) v3 v32 v34 a b d e = X at *
  pointwise
  show @Eq EReal _ _
  have hs : ∀ k : Fin 512, (X (ix2 y k) : EReal) - (X (ix2 y k) : EReal) = 0 := fun k => by
    obtain ⟨r, hr⟩ := hX k
    rw [hr, ← EReal.coe_sub, sub_self, EReal.coe_zero]
  have hc : ∀ (k : Fin 512) (a : EReal), Scalar.select (IntOp.cmpi CmpIPredicate.sge (BitVec.ofNat 32 k.val) (BitVec.ofNat 32 j.val)) a 0 = a * (if j.val ≤ k.val then 1 else 0) := fun k a => by
    have hk := k.isLt
    have hj := j.isLt
    rw [WordCmp.cmpi_sge_ofNat (by omega) (by omega), Scalar.select_decide]
    by_cases h : j.val ≤ k.val
    · simp [h]
    · simp [h]
  simp only [hs, hc, zero_mul, sub_zero, Finset.sum_const_zero, add_zero]

variable (m : (ℓ : Loc nD τ sig) → Buf (Elt Ideal) ℓ) (c : Dev nD)

/-- The gradient row of a head on one device. -/
abbrev Dm (y : Fin 16) : Fin 4096 → EReal := D (m ((c.tc : Thread nD τ).loc main_arg2)) (m ((c.tc : Thread nD τ).loc main_arg3)) y

/-- The gradient of a head's logits. -/
def E (y : Fin 16) (s : Fin 4096) : EReal :=
  Soft.suffix (Dm m c y) s.val *
    Ideal.div 1 (1 + Ideal.exp (@HAdd.hAdd EReal EReal EReal _ (m ((c.tc : Thread nD τ).loc main_arg0) (ix2 y s)) (m ((c.tc : Thread nD τ).loc main_arg1) (ix2 y 0))))

/-- What the point's product leaves over a carried column. -/
def dlog (t : Fin cfg0.N) (p : FVec Ideal S16x1 .f32) : FVec Ideal S16x512 .f32 :=
  k0_pay12 (F := Ideal) k0_pay6
    (k0_pay10 (iota Kind.tc S16x512 32 [0] iota_S16x512_d0_w32) (q3 m c t) k0_pay4
      (View.ld (iblk m c 2 t) (Rect.unit ![2, 0, 0] ![1, 1, 512] inb_S4x8x512_S1x1x512_2_0_0))
      (View.ld (iblk m c 3 t) (Rect.unit ![2, 0, 0] ![1, 1, 512] inb_S4x8x512_S1x1x512_2_0_0))
      (View.ld (iblk m c 2 t) (Rect.unit ![3, 0, 0] ![1, 1, 512] inb_S4x8x512_S1x1x512_3_0_0))
      (View.ld (iblk m c 3 t) (Rect.unit ![3, 0, 0] ![1, 1, 512] inb_S4x8x512_S1x1x512_3_0_0)))
    (k0_pay11 (iota Kind.tc S16x512 32 [0] iota_S16x512_d0_w32) (q3 m c t) k0_pay4
      (View.ld (iblk m c 2 t) (Rect.unit ![2, 0, 0] ![1, 1, 512] inb_S4x8x512_S1x1x512_2_0_0))
      (View.ld (iblk m c 3 t) (Rect.unit ![2, 0, 0] ![1, 1, 512] inb_S4x8x512_S1x1x512_2_0_0))
      (View.ld (iblk m c 2 t) (Rect.unit ![3, 0, 0] ![1, 1, 512] inb_S4x8x512_S1x1x512_3_0_0))
      (View.ld (iblk m c 3 t) (Rect.unit ![3, 0, 0] ![1, 1, 512] inb_S4x8x512_S1x1x512_3_0_0)))
    (constant S16x512 FTy.f32 0#32) p

/-- The three results of a point over the carried columns `p` and `a`. -/
def out1 (t : Fin cfg0.N) (p : FVec Ideal S16x1 .f32) : FVec Ideal S16x512 .f32 :=
  mulf (dlog m c t p) (addf (broadcast S16x512 (Scalar.ofBits .f32 0x3F000000#32)) (mulf (broadcast S16x512 (Scalar.ofBits .f32 0x3F000000#32))
    (tanh (mulf (broadcast S16x512 (Scalar.ofBits .f32 0x3F000000#32)) (subf (broadcast S16x512 (Scalar.ofBits .f32 0x00000000#32))
      (addf (iblk m c 0 t) (broadcastTo S16x512 (iblk m c 1 t) broadcasts_S16x1_S16x512)))))))

theorem D_real (hreal2 : ∀ i, ∃ r : ℝ, (m ((c.tc : Thread nD τ).loc main_arg2) i : EReal) = (r : EReal))
    (hreal3 : ∀ i, ∃ r : ℝ, (m ((c.tc : Thread nD τ).loc main_arg3) i : EReal) = (r : EReal)) (y : Fin 16) (i : Fin 4096) : ∃ r : ℝ, Dm m c y i = (r : EReal) := by
  fin_cases y
  · exact hreal2 _
  · exact hreal3 _
  · exact hreal2 _
  · exact hreal3 _
  · exact hreal2 _
  · exact hreal3 _
  · exact hreal2 _
  · exact hreal3 _
  all_goals exact ⟨0, rfl⟩

/-- The hypothesis every step takes: the incoming gradients are real. -/
def Real2 : Prop := (∀ i, ∃ r : ℝ, (m ((c.tc : Thread nD τ).loc main_arg2) i : EReal) = (r : EReal)) ∧
  (∀ i, ∃ r : ℝ, (m ((c.tc : Thread nD τ).loc main_arg3) i : EReal) = (r : EReal))

theorem dlog_at (hr : Real2 m c) (t : Fin cfg0.N) (p : FVec Ideal S16x1 .f32)
    (hp : ∀ y : Fin 16, (p (ix2 y 0) : EReal) = Soft.suffix (Dm m c y) (512 * (7 - t.val + 1))) (y : Fin 16) (j : Fin 512) :
    (dlog m c t p (ix2 y j) : EReal) = Soft.suffix (Dm m c y) (512 * (7 - t.val) + j.val) := by
  have hN : t.val < 8 := lt_of_lt_of_eq t.isLt N_0
  have hq : ∀ k : Fin 512, (k0_pay5 (F := Ideal) (iota Kind.tc S16x512 32 [0] iota_S16x512_d0_w32) (q3 m c t) k0_pay4
      (View.ld (iblk m c 2 t) (Rect.unit ![2, 0, 0] ![1, 1, 512] inb_S4x8x512_S1x1x512_2_0_0))
      (View.ld (iblk m c 3 t) (Rect.unit ![2, 0, 0] ![1, 1, 512] inb_S4x8x512_S1x1x512_2_0_0))
      (View.ld (iblk m c 2 t) (Rect.unit ![3, 0, 0] ![1, 1, 512] inb_S4x8x512_S1x1x512_3_0_0))
      (View.ld (iblk m c 3 t) (Rect.unit ![3, 0, 0] ![1, 1, 512] inb_S4x8x512_S1x1x512_3_0_0)) (ix2 y k) : EReal) =
      Soft.ext (Dm m c y) (512 * (7 - t.val) + k.val) := fun k => q5_at m c t y k
  unfold dlog
  refine (tri_at _ _ _ _ _ _ _ _ y j fun k => ?_).trans ?_
  · rw [hq k]
    have hk := k.isLt
    unfold Soft.ext
    rw [dif_pos (by omega)]
    exact D_real m c hr.1 hr.2 y _
  · rw [hp y, ← Soft.suffix_block _ (7 - t.val) j.val (by omega) j.isLt]
    congr 1
    refine Finset.sum_congr rfl fun k _ => ?_
    rw [hq k]

theorem gate_at (L X : FVec Ideal S16x512 .f32) (B : FVec Ideal S16x1 .f32) (y : Fin 16) (j : Fin 512) :
    (mulf L (addf (broadcast S16x512 (Scalar.ofBits .f32 0x3F000000#32)) (mulf (broadcast S16x512 (Scalar.ofBits .f32 0x3F000000#32))
      (tanh (mulf (broadcast S16x512 (Scalar.ofBits .f32 0x3F000000#32)) (subf (broadcast S16x512 (Scalar.ofBits .f32 0x00000000#32))
        (addf X (broadcastTo S16x512 B broadcasts_S16x1_S16x512))))))) (ix2 y j) : EReal) =
      @HMul.hMul EReal EReal EReal _ (L (ix2 y j)) (Ideal.div 1 (1 + Ideal.exp (@HAdd.hAdd EReal EReal EReal _ (X (ix2 y j)) (B (ix2 y 0))))) := by
  pointwise
  show @Eq EReal _ _
  rw [Gate.half_add_half_tanh]
  simp only [neg_sub, sub_zero, zero_sub, neg_neg]

theorem out1_at (hr : Real2 m c) (t : Fin cfg0.N) (p : FVec Ideal S16x1 .f32)
    (hp : ∀ y : Fin 16, (p (ix2 y 0) : EReal) = Soft.suffix (Dm m c y) (512 * (7 - t.val + 1))) (y : Fin 16) (j : Fin 512) :
    (out1 m c t p (ix2 y j) : EReal) = Soft.ext (E m c y) (512 * (7 - t.val) + j.val) := by
  have hN : t.val < 8 := lt_of_lt_of_eq t.isLt N_0
  have hj := j.isLt
  have hi : 512 * (7 - t.val) + j.val < 4096 := by omega
  have r0 : (iblk m c 0 t (ix2 y j) : EReal) = m ((c.tc : Thread nD τ).loc main_arg0) (ix2 y ⟨512 * (7 - t.val) + j.val, hi⟩) := by
    blk_point [iblk, V, idx t]
  have r1 : (iblk m c 1 t (ix2 y 0) : EReal) = m ((c.tc : Thread nD τ).loc main_arg1) (ix2 y 0) := by
    blk_point [iblk, V, idx t]
  unfold Soft.ext out1 E
  rw [dif_pos hi]
  refine (gate_at _ _ _ y j).trans ?_
  rw [dlog_at m c hr t p hp y j, r0, r1]

/-- What a point leaves: the block of the result, the carried column and the carried sums. -/
def Good (n : ℕ) (h : n < cfg0.N) : Prop :=
  (∀ (y : Fin 16) (j : Fin 512), ((outsAt0 (F := Ideal) m c n h).1 (ix2 y j) : EReal) = Soft.ext (E m c y) (512 * (7 - n) + j.val)) ∧
    (∀ y : Fin 16, ((outsAt0 (F := Ideal) m c n h).2.2.1 (ix2 y 0) : EReal) = Soft.suffix (Dm m c y) (512 * (7 - n))) ∧
    (∀ y : Fin 16, ((outsAt0 (F := Ideal) m c n h).2.2.2 (ix2 y 0) : EReal) = Soft.suffix (E m c y) (512 * (7 - n)))

/-- A point's step from carried columns to carried columns. -/
theorem step (hr : Real2 m c) (t : Fin cfg0.N) (p a : FVec Ideal S16x1 .f32)
    (hp : ∀ y : Fin 16, (p (ix2 y 0) : EReal) = Soft.suffix (Dm m c y) (512 * (7 - t.val + 1)))
    (ha : ∀ y : Fin 16, (a (ix2 y 0) : EReal) = Soft.suffix (E m c y) (512 * (7 - t.val + 1)))
    (O : FVec Ideal S16x512 .bf16) (P A : FVec Ideal S16x1 .f32)
    (hO : O = truncf .bf16 (out1 m c t p) bitsLt_bf16_f32)
    (hP : P = shapeCast S16x1 (extractStridedSlice S16x1 ![0, 0] (dlog m c t p) slices_S16x512_o0_0_S16x1) shapeCasts_S16x1_S16x1)
    (hA : A = shapeCast S16x1 (addf a (shapeCast S16x1 (multiReduction .add [1] S16 (out1 m c t p) 0x00000000#32 reduces_S16x512_S16 (.inl rfl) rfl) shapeCasts_S16_S16x1)) shapeCasts_S16x1_S16x1) :
    (∀ (y : Fin 16) (j : Fin 512), (O (ix2 y j) : EReal) = Soft.ext (E m c y) (512 * (7 - t.val) + j.val)) ∧
    (∀ y : Fin 16, (P (ix2 y 0) : EReal) = Soft.suffix (Dm m c y) (512 * (7 - t.val))) ∧
    (∀ y : Fin 16, (A (ix2 y 0) : EReal) = Soft.suffix (E m c y) (512 * (7 - t.val))) := by
  have hN : t.val < 8 := lt_of_lt_of_eq t.isLt N_0
  have ho := out1_at m c hr t p hp
  have hd := dlog_at m c hr t p hp
  subst hO hP hA
  generalize out1 m c t p = X at *
  generalize dlog m c t p = L at *
  refine ⟨fun y j => ho y j, fun y => ?_, fun y => ?_⟩
  · pointwise
    exact hd y 0
  · pointwise
    show @Eq EReal _ _
    rw [ha y, ← Soft.suffix_step _ (7 - t.val) (by omega), add_comm]
    congr 1
    refine Finset.sum_congr rfl fun k _ => ?_
    exact ho y k

theorem good (hr : Real2 m c) : ∀ (n : ℕ) (h : n < cfg0.N), Good m c n h := by
  intro n
  induction n with
  | zero =>
    intro h
    have e := outsAt0_A (F := Ideal) m c ⟨0, h⟩ rfl (by dsimp only; omega)
    unfold Good
    refine step m c hr ⟨0, h⟩ k0_pay1 k0_pay2 (fun y => ?_) (fun y => ?_) _ _ _ ?_ ?_ ?_
    · rw [Soft.suffix_end _ _ (by dsimp only; omega)]
      simp only [k0_pay1]
      pointwise
    · rw [Soft.suffix_end _ _ (by dsimp only; omega)]
      simp only [k0_pay2]
      pointwise
    · exact (congrArg (fun z => z.1) e).trans (by frame_out; rfl)
    · exact (congrArg (fun z => z.2.2.1) e).trans (by frame_out; rfl)
    · exact (congrArg (fun z => z.2.2.2) e).trans (by frame_out; rfl)
  | succ n ih =>
    intro h
    have hN : n + 1 < 8 := lt_of_lt_of_eq h N_0
    obtain ⟨-, g1, g2⟩ := ih (Nat.lt_of_succ_lt h)
    have w0 := Memref.IsWhole.read_unread (Memref.isWhole_whole cc0_scratch0) (outsAt0 (F := Ideal) m c n (Nat.lt_of_succ_lt h)).2.2.1
    have w1 := Memref.IsWhole.read_unread (Memref.isWhole_whole cc0_scratch1) (outsAt0 (F := Ideal) m c n (Nat.lt_of_succ_lt h)).2.2.2
    unfold Good
    by_cases h7 : n + 1 = 7
    · have e := outsAt0_C (F := Ideal) m c ⟨n + 1, h⟩ (by dsimp only; omega) (by dsimp only; omega)
      refine step m c hr ⟨n + 1, h⟩ (outsAt0 (F := Ideal) m c n (Nat.lt_of_succ_lt h)).2.2.1 (outsAt0 (F := Ideal) m c n (Nat.lt_of_succ_lt h)).2.2.2 (fun y => ?_) (fun y => ?_) _ _ _ ?_ ?_ ?_
      · rw [g1 y]; congr 1; dsimp only; omega
      · rw [g2 y]; congr 1; dsimp only; omega
      · refine (congrArg (fun z => z.1) e).trans ?_
        frame_out
        simp only [Nat.add_sub_cancel]
        erw [w0]
        rfl
      · refine (congrArg (fun z => z.2.2.1) e).trans ?_
        frame_out
        simp only [Nat.add_sub_cancel]
        erw [w0]
        rfl
      · refine (congrArg (fun z => z.2.2.2) e).trans ?_
        frame_out
        simp only [Nat.add_sub_cancel]
        erw [w0, w1]
        rfl
    · have e := outsAt0_B (F := Ideal) m c ⟨n + 1, h⟩ (by dsimp only; omega) (by dsimp only; omega)
      refine step m c hr ⟨n + 1, h⟩ (outsAt0 (F := Ideal) m c n (Nat.lt_of_succ_lt h)).2.2.1 (outsAt0 (F := Ideal) m c n (Nat.lt_of_succ_lt h)).2.2.2 (fun y => ?_) (fun y => ?_) _ _ _ ?_ ?_ ?_
      · rw [g1 y]; congr 1; dsimp only; omega
      · rw [g2 y]; congr 1; dsimp only; omega
      · refine (congrArg (fun z => z.1) e).trans ?_
        frame_out
        simp only [Nat.add_sub_cancel]
        erw [w0]
        rfl
      · refine (congrArg (fun z => z.2.2.1) e).trans ?_
        frame_out
        simp only [Nat.add_sub_cancel]
        erw [w0]
        rfl
      · refine (congrArg (fun z => z.2.2.2) e).trans ?_
        frame_out
        simp only [Nat.add_sub_cancel]
        erw [w0, w1]
        rfl

/-- The last point's copy of the sums. -/
theorem last (t : Fin cfg0.N) (h7 : t.val % 8 = 7) :
    (outsAt0 (F := Ideal) m c t.val t.isLt).2.1 = (outsAt0 (F := Ideal) m c t.val t.isLt).2.2.2 := by
  have hN : t.val < 8 := lt_of_lt_of_eq t.isLt N_0
  rw [outsAt0_C m c t (by omega) h7]
  frame_out

end Cert.Kernel30Ideal.Hand

end
-- ==== Proof.Mm30.lean ====
module

public import proofs.«01_k».proof.Defs
public import proofs.«01_k».proof.Proof.Gen.Kernel30.Frame
public import proofs.«01_k».proof.Proof.Gen.Kernel30Ideal.Value
public import proofs.«01_k».proof.Proof.Gen.Reference30Ideal.Run
public import Idealize.ShloMosaic.Lib.Pipeline.ValueKit
public import Idealize.ShloMosaic.Lib.Pointwise
public import Idealize.ShloMosaic.Lib.ReduceAll
public import Idealize.ShloMosaic.Lib.WordCmp
public import proofs.«01_k».proof.Proof.Rms
public import proofs.«01_k».proof.Proof.Gate
public import proofs.«01_k».proof.Proof.Soft
public import proofs.«01_k».proof.Proof.Gatebwd
public import proofs.«01_k».proof.Proof.Gen.Pre_finite_gate

@[expose] public section

noncomputable section

namespace Cert.Kernel30Ideal.Hand

open Cert.Kernel30Ideal Cert.Kernel30Ideal.Gen Idealize.ShloMosaic Idealize.ShloMosaic.TcCoe Idealize.SL.Sem

variable (m : (ℓ : Loc nD τ sig) → Buf (Elt Ideal) ℓ) (c : Dev nD)

/-- A head's row of the stacked gradients. -/
theorem pick (A2 A3 : FVec Ideal S4x8x4096 .f32) (y : Fin 16) (hy : y.val < 8) (p : y.val / 2 < 4) (x : Fin 4096) :
    (if _h : y.val % 2 < 1 then (A2 (ix3 ⟨y.val / 2, p⟩ 0 x) : EReal) else A3 (ix3 ⟨y.val / 2, p⟩ 0 x)) = D A2 A3 y x := by
  fin_cases y
  iterate 8 rfl
  all_goals exact absurd hy (by decide)

/-- The rows past the heads hold zeros. -/
theorem E_past (y : Fin 16) (hy : ¬ y.val < 8) (s : Fin 4096) : E m c y s = 0 := by
  have h : Dm m c y = fun _ => 0 := by
    funext i
    fin_cases y
    iterate 8 exact absurd hy (by decide)
    all_goals rfl
  unfold E
  rw [h, Soft.suffix_zero, zero_mul]

variable (m' : (ℓ : Loc Cert.Reference30Ideal.nD Cert.Reference30Ideal.τ Cert.Reference30Ideal.sig) → Buf (Elt Ideal) ℓ)

set_option maxHeartbeats 4000000 in
/-- The reference's gradient of the logits. -/
theorem ref4 (h0 : m' ((c.tc : Thread nD τ).loc Cert.Reference30Ideal.main_arg0) = m ((c.tc : Thread nD τ).loc main_arg0))
    (h1 : m' ((c.tc : Thread nD τ).loc Cert.Reference30Ideal.main_arg1) = m ((c.tc : Thread nD τ).loc main_arg1))
    (h2 : m' ((c.tc : Thread nD τ).loc Cert.Reference30Ideal.main_arg2) = m ((c.tc : Thread nD τ).loc main_arg2))
    (h3 : m' ((c.tc : Thread nD τ).loc Cert.Reference30Ideal.main_arg3) = m ((c.tc : Thread nD τ).loc main_arg3))
    (ra : ∀ (y : Fin 16) (s : Fin 4096), ∃ r : ℝ, (m ((c.tc : Thread nD τ).loc main_arg0) (ix2 y s) : EReal) = (r : EReal))
    (rb : ∀ y : Fin 16, ∃ r : ℝ, (m ((c.tc : Thread nD τ).loc main_arg1) (ix2 y 0) : EReal) = (r : EReal))
    (y : Fin 16) (s : Fin 4096) : (Cert.Reference30Ideal.Value.res_main_v31 (F := Ideal) m' c (ix2 y s) : EReal) = E m c y s := by
  have hz : ∀ s : Fin 4096, ∃ w : ℝ, @HAdd.hAdd EReal EReal EReal _ (m ((c.tc : Thread nD τ).loc main_arg0) (ix2 y s)) (m ((c.tc : Thread nD τ).loc main_arg1) (ix2 y 0)) = (w : EReal) := by
    intro s
    obtain ⟨a, ha⟩ := ra y s
    obtain ⟨b, hb⟩ := rb y
    exact ⟨a + b, by rw [ha, hb, EReal.coe_add]⟩
  clear ra rb
  choose W hW using hz
  by_cases hy : y.val < 8
  swap
  · unfold Cert.Reference30Ideal.Value.res_main_v31
    pointwise
    show @Eq EReal _ _
    rw [dif_neg hy, E_past m c y hy]
  unfold Cert.Reference30Ideal.Value.res_main_v31
  rw [h0, h1, h2, h3]
  pointwise
  show @Eq EReal _ _
  · rw [dif_pos hy]
    have hw := hW s
    unfold E
    simp only [hw]
    clear hW
    have t1 : ¬ (((-(W s) : ℝ) : EReal) = Ideal.ofBits FTy.f32 2139095040#32) := by
      rw [Soft.ofBits_top]; exact EReal.coe_ne_top _
    have t2 : ¬ (max ((-(W s) : ℝ) : EReal) 0 + Ideal.log1p (Ideal.exp (-(max ((-(W s) : ℝ) : EReal) ((W s : ℝ) : EReal)))) = Ideal.ofBits FTy.f32 2139095040#32) := by
      obtain ⟨v, hv⟩ := Soft.soft_val (-(W s))
      rw [← EReal.coe_neg, neg_neg] at hv
      rw [hv, Soft.ofBits_top]
      exact EReal.coe_ne_top _
    have sl := Soft.soft (-(W s))
    simp only [← EReal.coe_neg, neg_neg] at sl
    simp only [ne_eq, not_true_eq_false, if_false, Ideal.absf_def, ← EReal.coe_neg, neg_neg, t1]
    simp only [t2, if_false, sl, neg_mul, neg_neg]
    refine congrArg₂ (fun a b : EReal => a * b) (Eq.trans ?_ (Soft.suffix_tri (Dm m c y) s.val)) rfl
    refine Finset.sum_congr rfl fun x _ => ?_
    exact congrArg₂ (fun a b : EReal => a * b) (pick (m ((c.tc : Thread nD τ).loc main_arg2)) (m ((c.tc : Thread nD τ).loc main_arg3)) y hy (by omega) x) (Soft.entry _ _ s.isLt x.isLt)

set_option maxHeartbeats 4000000 in
/-- The reference's gradient of the biases. -/
theorem ref5 (h0 : m' ((c.tc : Thread nD τ).loc Cert.Reference30Ideal.main_arg0) = m ((c.tc : Thread nD τ).loc main_arg0))
    (h1 : m' ((c.tc : Thread nD τ).loc Cert.Reference30Ideal.main_arg1) = m ((c.tc : Thread nD τ).loc main_arg1))
    (h2 : m' ((c.tc : Thread nD τ).loc Cert.Reference30Ideal.main_arg2) = m ((c.tc : Thread nD τ).loc main_arg2))
    (h3 : m' ((c.tc : Thread nD τ).loc Cert.Reference30Ideal.main_arg3) = m ((c.tc : Thread nD τ).loc main_arg3))
    (ra : ∀ (y : Fin 16) (s : Fin 4096), ∃ r : ℝ, (m ((c.tc : Thread nD τ).loc main_arg0) (ix2 y s) : EReal) = (r : EReal))
    (rb : ∀ y : Fin 16, ∃ r : ℝ, (m ((c.tc : Thread nD τ).loc main_arg1) (ix2 y 0) : EReal) = (r : EReal))
    (y : Fin 16) : (Cert.Reference30Ideal.Value.res_main_v34 (F := Ideal) m' c (ix2 y 0) : EReal) = ∑ s : Fin 4096, E m c y s := by
  have hz : ∀ s : Fin 4096, ∃ w : ℝ, @HAdd.hAdd EReal EReal EReal _ (m ((c.tc : Thread nD τ).loc main_arg0) (ix2 y s)) (m ((c.tc : Thread nD τ).loc main_arg1) (ix2 y 0)) = (w : EReal) := by
    intro s
    obtain ⟨a, ha⟩ := ra y s
    obtain ⟨b, hb⟩ := rb y
    exact ⟨a + b, by rw [ha, hb, EReal.coe_add]⟩
  clear ra rb
  choose W hW using hz
  by_cases hy : y.val < 8
  swap
  · unfold Cert.Reference30Ideal.Value.res_main_v34
    pointwise
    show @Eq EReal _ _
    rw [dif_neg hy]
    exact (Finset.sum_eq_zero fun s _ => E_past m c y hy s).symm
  unfold Cert.Reference30Ideal.Value.res_main_v34
  rw [h0, h1, h2, h3]
  pointwise
  show @Eq EReal _ _
  · rw [dif_pos hy]
    simp only [Finset.univ_unique, Finset.sum_singleton]
    refine Finset.sum_congr rfl fun s _ => ?_
    have hw := hW s
    unfold E
    simp only [hw]
    clear hW
    have t1 : ¬ (((-(W s) : ℝ) : EReal) = Ideal.ofBits FTy.f32 2139095040#32) := by
      rw [Soft.ofBits_top]; exact EReal.coe_ne_top _
    have t2 : ¬ (max ((-(W s) : ℝ) : EReal) 0 + Ideal.log1p (Ideal.exp (-(max ((-(W s) : ℝ) : EReal) ((W s : ℝ) : EReal)))) = Ideal.ofBits FTy.f32 2139095040#32) := by
      obtain ⟨v, hv⟩ := Soft.soft_val (-(W s))
      rw [← EReal.coe_neg, neg_neg] at hv
      rw [hv, Soft.ofBits_top]
      exact EReal.coe_ne_top _
    have sl := Soft.soft (-(W s))
    simp only [← EReal.coe_neg, neg_neg] at sl
    simp only [ne_eq, not_true_eq_false, if_false, Ideal.absf_def, ← EReal.coe_neg, neg_neg, t1]
    simp only [t2, if_false, sl, neg_mul, neg_neg]
    refine congrArg₂ (fun a b : EReal => a * b) (Eq.trans ?_ (Soft.suffix_tri (Dm m c y) s.val)) rfl
    refine Finset.sum_congr rfl fun x _ => ?_
    exact congrArg₂ (fun a b : EReal => a * b) (pick (m ((c.tc : Thread nD τ).loc main_arg2)) (m ((c.tc : Thread nD τ).loc main_arg3)) y hy (by omega) x) (Soft.entry _ _ s.isLt x.isLt)

/-- Under the precondition all four arguments are real. -/
theorem reals (A0 : FVec Ideal S16x4096 .f32) (A1 : FVec Ideal S16x1 .f32) (A2 : FVec Ideal S4x8x4096 .f32) (A3 : FVec Ideal S4x8x4096 .f32)
    (h : Cert.Pre_finite_gate.fn (F := Ideal) A0 A1 A2 A3 = fun _ => 1#1) :
    (∀ i, (A0 i : EReal) = ((A0 i : EReal).toReal : ℝ)) ∧ (∀ i, (A1 i : EReal) = ((A1 i : EReal).toReal : ℝ)) ∧
      (∀ i, (A2 i : EReal) = ((A2 i : EReal).toReal : ℝ)) ∧ (∀ i, (A3 i : EReal) = ((A3 i : EReal).toReal : ℝ)) := by
  have h0 := congrFun h (fun a => a.elim0)
  dsimp only [Cert.Pre_finite_gate.fn] at h0
  obtain ⟨h1, hw⟩ := Rms.andi_left h0
  obtain ⟨h2, hv⟩ := Rms.andi_left h1
  obtain ⟨hx, hg⟩ := Rms.andi_left h2
  exact ⟨fun i => Rms.real_of_lt _ (Host.reduce_andi_all _ _ _ _ _ hx i), fun i => Rms.real_of_lt _ (Host.reduce_andi_all _ _ _ _ _ hg i),
    fun i => Rms.real_of_lt _ (Host.reduce_andi_all _ _ _ _ _ hv i), fun i => Rms.real_of_lt _ (Host.reduce_andi_all _ _ _ _ _ hw i)⟩

/-- Every element of the two results is the reference's. -/
theorem value : Cert.algebraic_Kernel30Ideal_Reference30Ideal_pre_finite_gate := by
  intro m g m' g' hpre hm
  refine ⟨fun c => (dats m 0 c).arrAt 4 cfg0.N, fun c => (dats m 0 c).arrAt 5 cfg0.N, Value.run_blocks m g,
    (θ_run Cert.Reference30Ideal.defs _ _).mono (fun r h c => ⟨(h c).1.trans ?_, (h c).2.1.trans ?_, (h c).2.2⟩)
      (Cert.Reference30Ideal.Value.run (F := Ideal) m' g')⟩
  · obtain ⟨h0, h1, h2, h3⟩ := hm c
    clear h hm
    obtain ⟨r0, r1, r2, r3⟩ := reals _ _ _ _ (hpre c)
    clear hpre
    symm
    refine (dats m 0 c).arrAt_eq_of_covers 4 _ (by decide +kernel) fun t hf y => ?_
    have hN : t.val < 8 := lt_of_lt_of_eq t.isLt N_0
    have hj : (y 1).val < 512 := (y 1).isLt
    blk_simp
    rw [after0_4]
    have hi : 512 * (7 - t.val) + (y 1).val < 4096 := by omega
    have he : ((View.whole main_v0_0).slice (win0_4.rect t)).emb y = ix2 (y 0) ⟨512 * (7 - t.val) + (y 1).val, hi⟩ := by
      blk_ext [idx t]
    rw [he]
    refine Eq.trans ?_ (ref4 m c m' h0 h1 h2 h3 (fun y s => ⟨_, r0 _⟩) (fun y => ⟨_, r1 _⟩) _ _).symm
    have G := (good m c ⟨fun i => ⟨_, r2 i⟩, fun i => ⟨_, r3 i⟩⟩ t.val t.isLt).1 (y 0) (y 1)
    unfold Soft.ext at G
    rw [dif_pos hi] at G
    refine Eq.trans ?_ G
    congr 1
    blk_ext
  · obtain ⟨h0, h1, h2, h3⟩ := hm c
    clear h hm
    obtain ⟨r0, r1, r2, r3⟩ := reals _ _ _ _ (hpre c)
    clear hpre
    symm
    refine (dats m 0 c).arrAt_eq_of_covers 5 _ (by decide +kernel) fun t hf y => ?_
    have hN : t.val < 8 := lt_of_lt_of_eq t.isLt N_0
    have h7 : t.val % 8 = 7 := (flush0_5 t).mp hf
    have hj : (y 1).val < 1 := (y 1).isLt
    blk_simp
    rw [after0_5, last m c t h7]
    have he : ((View.whole main_v0_1).slice (win0_5.rect t)).emb y = ix2 (y 0) 0 := by
      blk_ext [idx t]
    rw [he]
    refine Eq.trans ?_ (ref5 m c m' h0 h1 h2 h3 (fun y s => ⟨_, r0 _⟩) (fun y => ⟨_, r1 _⟩) _).symm
    have G := (good m c ⟨fun i => ⟨_, r2 i⟩, fun i => ⟨_, r3 i⟩⟩ t.val t.isLt).2.2 (y 0)
    rw [show 512 * (7 - t.val) = 0 by omega, Soft.suffix_all] at G
    refine Eq.trans ?_ G
    congr 1
    blk_ext

end Cert.Kernel30Ideal.Hand

end
-- ==== Proof.lean ====
module

public import proofs.«01_k».proof.Defs
public import proofs.«01_k».proof.Proof.Run
public import proofs.«01_k».proof.Proof.RunK
public import proofs.«01_k».proof.Proof.Gen.ReferenceIdeal.Run
public import proofs.«01_k».proof.Proof.Attn
public import proofs.«01_k».proof.Proof.Gen.Kernel2.Frame
public import proofs.«01_k».proof.Proof.Gen.Kernel2Ideal.Value
public import proofs.«01_k».proof.Proof.Gen.Reference2Ideal.Run
public import proofs.«01_k».proof.Proof.Mm2
public import proofs.«01_k».proof.Proof.Gen.Kernel3.Frame
public import proofs.«01_k».proof.Proof.Gen.Kernel3Ideal.Value
public import proofs.«01_k».proof.Proof.Gen.Reference3Ideal.Run
public import proofs.«01_k».proof.Proof.Mm3
public import proofs.«01_k».proof.Proof.Gen.Kernel4.Frame
public import proofs.«01_k».proof.Proof.Gen.Kernel4Ideal.Value
public import proofs.«01_k».proof.Proof.Gen.Reference4Ideal.Run
public import proofs.«01_k».proof.Proof.Mm4
public import proofs.«01_k».proof.Proof.Gen.Kernel5.Frame
public import proofs.«01_k».proof.Proof.Gen.Kernel5Ideal.Value
public import proofs.«01_k».proof.Proof.Gen.Reference5Ideal.Run
public import proofs.«01_k».proof.Proof.Mm5
public import proofs.«01_k».proof.Proof.Gen.Kernel6.Frame
public import proofs.«01_k».proof.Proof.Gen.Kernel6Ideal.Value
public import proofs.«01_k».proof.Proof.Gen.Reference6Ideal.Run
public import proofs.«01_k».proof.Proof.Mm6
public import proofs.«01_k».proof.Proof.Gen.Kernel7.Frame
public import proofs.«01_k».proof.Proof.Gen.Kernel7Ideal.Value
public import proofs.«01_k».proof.Proof.Gen.Reference7Ideal.Run
public import proofs.«01_k».proof.Proof.Mm7
public import proofs.«01_k».proof.Proof.Gen.Kernel8.Frame
public import proofs.«01_k».proof.Proof.Gen.Kernel8Ideal.Value
public import proofs.«01_k».proof.Proof.Gen.Reference8Ideal.Run
public import proofs.«01_k».proof.Proof.Mm8
public import proofs.«01_k».proof.Proof.Gen.Kernel9.Frame
public import proofs.«01_k».proof.Proof.Gen.Kernel9Ideal.Value
public import proofs.«01_k».proof.Proof.Gen.Reference9Ideal.Run
public import proofs.«01_k».proof.Proof.Mm9
public import proofs.«01_k».proof.Proof.Gen.Kernel10.Frame
public import proofs.«01_k».proof.Proof.Gen.Kernel10Ideal.Value
public import proofs.«01_k».proof.Proof.Gen.Reference10Ideal.Run
public import proofs.«01_k».proof.Proof.Mm10
public import proofs.«01_k».proof.Proof.Gen.Kernel11.Frame
public import proofs.«01_k».proof.Proof.Gen.Kernel11Ideal.Value
public import proofs.«01_k».proof.Proof.Gen.Reference11Ideal.Run
public import proofs.«01_k».proof.Proof.Mm11
public import proofs.«01_k».proof.Proof.Gen.Kernel12.Frame
public import proofs.«01_k».proof.Proof.Gen.Kernel12Ideal.Value
public import proofs.«01_k».proof.Proof.Gen.Reference12Ideal.Run
public import proofs.«01_k».proof.Proof.Mm12
public import proofs.«01_k».proof.Proof.Gen.Kernel13.Frame
public import proofs.«01_k».proof.Proof.Gen.Kernel13Ideal.Value
public import proofs.«01_k».proof.Proof.Gen.Reference13Ideal.Run
public import proofs.«01_k».proof.Proof.Mm13
public import proofs.«01_k».proof.Proof.Gen.Kernel14.Frame
public import proofs.«01_k».proof.Proof.Gen.Kernel14Ideal.Value
public import proofs.«01_k».proof.Proof.Gen.Reference14Ideal.Run
public import proofs.«01_k».proof.Proof.Mm14
public import proofs.«01_k».proof.Proof.Gen.Kernel15.Frame
public import proofs.«01_k».proof.Proof.Gen.Kernel15Ideal.Value
public import proofs.«01_k».proof.Proof.Gen.Reference15Ideal.Run
public import proofs.«01_k».proof.Proof.Mm15
public import proofs.«01_k».proof.Proof.Gen.Kernel16.Frame
public import proofs.«01_k».proof.Proof.Gen.Kernel16Ideal.Value
public import proofs.«01_k».proof.Proof.Gen.Reference16Ideal.Run
public import proofs.«01_k».proof.Proof.Mm16
public import proofs.«01_k».proof.Proof.Gen.Kernel17.Frame
public import proofs.«01_k».proof.Proof.Gen.Kernel17Ideal.Value
public import proofs.«01_k».proof.Proof.Gen.Reference17Ideal.Run
public import proofs.«01_k».proof.Proof.Mm17
public import proofs.«01_k».proof.Proof.Gen.Kernel18.Frame
public import proofs.«01_k».proof.Proof.Gen.Kernel18Ideal.Value
public import proofs.«01_k».proof.Proof.Gen.Reference18Ideal.Run
public import proofs.«01_k».proof.Proof.Mm18
public import proofs.«01_k».proof.Proof.Gen.Kernel19.Frame
public import proofs.«01_k».proof.Proof.Gen.Kernel19Ideal.Value
public import proofs.«01_k».proof.Proof.Gen.Reference19Ideal.Run
public import proofs.«01_k».proof.Proof.Mm19
public import proofs.«01_k».proof.Proof.Gen.Kernel22.Frame
public import proofs.«01_k».proof.Proof.Gen.Kernel22Ideal.Value
public import proofs.«01_k».proof.Proof.Gen.Reference22Ideal.Run
public import proofs.«01_k».proof.Proof.Mm22
public import proofs.«01_k».proof.Proof.Gen.Kernel23.Frame
public import proofs.«01_k».proof.Proof.Gen.Kernel23Ideal.Value
public import proofs.«01_k».proof.Proof.Gen.Reference23Ideal.Run
public import proofs.«01_k».proof.Proof.Mm23
public import proofs.«01_k».proof.Proof.Gen.Kernel24.Frame
public import proofs.«01_k».proof.Proof.Gen.Kernel24Ideal.Value
public import proofs.«01_k».proof.Proof.Gen.Reference24Ideal.Run
public import proofs.«01_k».proof.Proof.Mm24
public import proofs.«01_k».proof.Proof.Gen.Kernel25.Frame
public import proofs.«01_k».proof.Proof.Gen.Kernel25Ideal.Value
public import proofs.«01_k».proof.Proof.Gen.Reference25Ideal.Run
public import proofs.«01_k».proof.Proof.Mm25
public import proofs.«01_k».proof.Proof.Gen.Kernel26.Frame
public import proofs.«01_k».proof.Proof.Gen.Kernel26Ideal.Value
public import proofs.«01_k».proof.Proof.Gen.Reference26Ideal.Run
public import proofs.«01_k».proof.Proof.Mm26
public import proofs.«01_k».proof.Proof.Gen.Kernel27.Frame
public import proofs.«01_k».proof.Proof.Gen.Kernel27Ideal.Value
public import proofs.«01_k».proof.Proof.Gen.Reference27Ideal.Run
public import proofs.«01_k».proof.Proof.Mm27
public import proofs.«01_k».proof.Proof.Gen.Kernel28.Frame
public import proofs.«01_k».proof.Proof.Gen.Kernel28Ideal.Value
public import proofs.«01_k».proof.Proof.Gen.Reference28Ideal.Run
public import proofs.«01_k».proof.Proof.Mm28
public import proofs.«01_k».proof.Proof.Gen.Kernel29.Frame
public import proofs.«01_k».proof.Proof.Gen.Kernel29Ideal.Value
public import proofs.«01_k».proof.Proof.Gen.Reference29Ideal.Run
public import proofs.«01_k».proof.Proof.Mm29
public import proofs.«01_k».proof.Proof.Gen.Kernel30.Frame
public import proofs.«01_k».proof.Proof.Gen.Kernel30Ideal.Value
public import proofs.«01_k».proof.Proof.Gen.Reference30Ideal.Run
public import proofs.«01_k».proof.Proof.Mm30
public import proofs.«01_k».proof.Proof.Gen.Pre_finite_post
public import proofs.«01_k».proof.Proof.Gen.Pre_finite_pre
public import proofs.«01_k».proof.Proof.Gen.Pre_finite_gate
public import Idealize.ShloMosaic.Adequacy
public import Idealize.ShloMosaic.Init

@[expose] public section

noncomputable section

namespace Cert.Proof

open Idealize.ShloMosaic Idealize.SL.Sem

theorem frame_ideal : Cert.quiescent_KernelIdeal (hKernelIdeal := Cert.KernelIdeal.Gen.facts) := fun m g _ =>
  (θ_run Cert.KernelIdeal.defs _ _).mono (fun _ h => ⟨fun c => Cert.KernelIdeal.Hand.final_args m h.1 c, h.2⟩)
    (Cert.KernelIdeal.Hand.run_main (F := Ideal) m g)

theorem frame_bits : Cert.quiescent_Kernel (hKernel := Cert.Kernel.Gen.facts) := fun m g _ =>
  (θ_run Cert.Kernel.defs _ _).mono (fun _ h => ⟨fun c => Cert.Kernel.Hand.final_args m h.1 c, h.2⟩)
    (Cert.Kernel.Hand.run_main (F := Bits) m g)

theorem frame_reference : Cert.quiescent_ReferenceIdeal (hReferenceIdeal := Cert.ReferenceIdeal.Gen.facts) := fun m g _ =>
  (θ_run Cert.ReferenceIdeal.defs _ _).mono
    (fun r h => ⟨fun c => (h c).2.2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Pre_finite.Gen.facts, Cert.Pre_finite_post.Gen.facts, Cert.Pre_finite_pre.Gen.facts, Cert.Pre_finite_gate.Gen.facts,
    frame_bits, frame_ideal, fun m g _ => frame_ideal m g trivial, frame_reference, fun m g _ => frame_reference m g trivial,
    fun m g _ => Cert.Kernel2.Gen.frame m g, fun m g _ => Cert.Kernel2Ideal.Gen.frame m g, Cert.Kernel2Ideal.Hand.frame_reference,
    fun m g _ => Cert.Kernel3.Gen.frame m g, fun m g _ => Cert.Kernel3Ideal.Gen.frame m g, Cert.Kernel3Ideal.Hand.frame_reference,
    fun m g _ => Cert.Kernel4.Gen.frame m g, fun m g _ => Cert.Kernel4Ideal.Gen.frame m g, Cert.Kernel4Ideal.Hand.frame_reference,
    fun m g _ => Cert.Kernel5.Gen.frame m g, fun m g _ => Cert.Kernel5Ideal.Gen.frame m g, Cert.Kernel5Ideal.Hand.frame_reference,
    fun m g _ => Cert.Kernel6.Gen.frame m g, fun m g _ => Cert.Kernel6Ideal.Gen.frame m g, Cert.Kernel6Ideal.Hand.frame_reference,
    fun m g _ => Cert.Kernel7.Gen.frame m g, fun m g _ => Cert.Kernel7Ideal.Gen.frame m g, Cert.Kernel7Ideal.Hand.frame_reference,
    fun m g _ => Cert.Kernel8.Gen.frame m g, fun m g _ => Cert.Kernel8Ideal.Gen.frame m g, Cert.Kernel8Ideal.Hand.frame_reference,
    fun m g _ => Cert.Kernel9.Gen.frame m g, fun m g _ => Cert.Kernel9Ideal.Gen.frame m g, Cert.Kernel9Ideal.Hand.frame_reference,
    fun m g _ => Cert.Kernel10.Gen.frame m g, fun m g _ => Cert.Kernel10Ideal.Gen.frame m g, Cert.Kernel10Ideal.Hand.frame_reference,
    fun m g _ => Cert.Kernel11.Gen.frame m g, fun m g _ => Cert.Kernel11Ideal.Gen.frame m g, Cert.Kernel11Ideal.Hand.frame_reference,
    fun m g _ => Cert.Kernel12.Gen.frame m g, fun m g _ => Cert.Kernel12Ideal.Gen.frame m g, Cert.Kernel12Ideal.Hand.frame_reference,
    fun m g _ => Cert.Kernel13.Gen.frame m g, fun m g _ => Cert.Kernel13Ideal.Gen.frame m g, Cert.Kernel13Ideal.Hand.frame_reference,
    fun m g _ => Cert.Kernel14.Gen.frame m g, fun m g _ => Cert.Kernel14Ideal.Gen.frame m g, Cert.Kernel14Ideal.Hand.frame_reference,
    fun m g _ => Cert.Kernel15.Gen.frame m g, fun m g _ => Cert.Kernel15Ideal.Gen.frame m g, Cert.Kernel15Ideal.Hand.frame_reference,
    fun m g _ => Cert.Kernel16.Gen.frame m g, fun m g _ => Cert.Kernel16Ideal.Gen.frame m g, Cert.Kernel16Ideal.Hand.frame_reference,
    fun m g _ => Cert.Kernel17.Gen.frame m g, fun m g _ => Cert.Kernel17Ideal.Gen.frame m g, Cert.Kernel17Ideal.Hand.frame_reference,
    fun m g _ => Cert.Kernel18.Gen.frame m g, fun m g _ => Cert.Kernel18Ideal.Gen.frame m g, Cert.Kernel18Ideal.Hand.frame_reference,
    fun m g _ => Cert.Kernel19.Gen.frame m g, fun m g _ => Cert.Kernel19Ideal.Gen.frame m g, Cert.Kernel19Ideal.Hand.frame_reference,
    fun m g _ => Cert.Kernel22.Gen.frame m g, fun m g _ => Cert.Kernel22Ideal.Gen.frame m g, fun m g _ => Cert.Kernel22Ideal.Gen.frame m g, Cert.Kernel22Ideal.Hand.frame_reference, fun m g _ => Cert.Kernel22Ideal.Hand.frame_reference m g trivial,
    fun m g _ => Cert.Kernel23.Gen.frame m g, fun m g _ => Cert.Kernel23Ideal.Gen.frame m g, fun m g _ => Cert.Kernel23Ideal.Gen.frame m g, Cert.Kernel23Ideal.Hand.frame_reference, fun m g _ => Cert.Kernel23Ideal.Hand.frame_reference m g trivial,
    fun m g _ => Cert.Kernel24.Gen.frame m g, fun m g _ => Cert.Kernel24Ideal.Gen.frame m g, Cert.Kernel24Ideal.Hand.frame_reference,
    fun m g _ => Cert.Kernel25.Gen.frame m g, fun m g _ => Cert.Kernel25Ideal.Gen.frame m g, Cert.Kernel25Ideal.Hand.frame_reference,
    fun m g _ => Cert.Kernel26.Gen.frame m g, fun m g _ => Cert.Kernel26Ideal.Gen.frame m g, Cert.Kernel26Ideal.Hand.frame_reference,
    fun m g _ => Cert.Kernel27.Gen.frame m g, fun m g _ => Cert.Kernel27Ideal.Gen.frame m g, Cert.Kernel27Ideal.Hand.frame_reference,
    fun m g _ => Cert.Kernel28.Gen.frame m g, fun m g _ => Cert.Kernel28Ideal.Gen.frame m g, Cert.Kernel28Ideal.Hand.frame_reference,
    fun m g _ => Cert.Kernel29.Gen.frame m g, fun m g _ => Cert.Kernel29Ideal.Gen.frame m g, Cert.Kernel29Ideal.Hand.frame_reference,
    fun m g _ => Cert.Kernel30.Gen.frame m g, fun m g _ => Cert.Kernel30Ideal.Gen.frame m g, fun m g _ => Cert.Kernel30Ideal.Gen.frame m g, Cert.Kernel30Ideal.Hand.frame_reference, fun m g _ => Cert.Kernel30Ideal.Hand.frame_reference m g trivial,
    trivial, Cert.KernelIdeal.Hand.value, trivial, Cert.Kernel2Ideal.Hand.value, trivial, Cert.Kernel3Ideal.Hand.value, trivial, Cert.Kernel4Ideal.Hand.value, trivial, Cert.Kernel5Ideal.Hand.value, trivial, Cert.Kernel6Ideal.Hand.value, trivial, Cert.Kernel7Ideal.Hand.value, trivial, Cert.Kernel8Ideal.Hand.value, trivial, Cert.Kernel9Ideal.Hand.value, trivial, Cert.Kernel10Ideal.Hand.value, trivial, Cert.Kernel11Ideal.Hand.value, trivial, Cert.Kernel12Ideal.Hand.value, trivial, Cert.Kernel13Ideal.Hand.value, trivial, Cert.Kernel14Ideal.Hand.value, trivial, Cert.Kernel15Ideal.Hand.value, trivial, Cert.Kernel16Ideal.Hand.value, trivial, Cert.Kernel17Ideal.Hand.value, trivial, Cert.Kernel18Ideal.Hand.value, trivial, Cert.Kernel19Ideal.Hand.value, trivial, Cert.Kernel22Ideal.Hand.value, trivial, Cert.Kernel23Ideal.Hand.value, trivial, Cert.Kernel24Ideal.Hand.value, trivial, Cert.Kernel25Ideal.Hand.value, trivial, Cert.Kernel26Ideal.Hand.value, trivial, Cert.Kernel27Ideal.Hand.value, trivial, Cert.Kernel28Ideal.Hand.value, trivial, Cert.Kernel29Ideal.Hand.value, trivial, Cert.Kernel30Ideal.Hand.value⟩

end Cert.Proof

end
